-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesReferenceIdeal (m : (ℓ : Loc Cert.QueriesReferenceIdeal.nD Cert.QueriesReferenceIdeal.τ Cert.QueriesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_QueriesReferenceIdeal [hQueriesReferenceIdeal : Cert.QueriesReferenceIdeal.Facts] : Prop :=
  ∀ (m : (ℓ : Loc Cert.QueriesReferenceIdeal.nD Cert.QueriesReferenceIdeal.τ Cert.QueriesReferenceIdeal.sig) → Buf (Elt Ideal) ℓ) (g : Dev Cert.QueriesReferenceIdeal.nD → PrngReg), Pre_QueriesReferenceIdeal m →
    θ_run (Cert.QueriesReferenceIdeal.defs (F := Ideal)) (onTc (τ := Cert.QueriesReferenceIdeal.τ) (Cert.QueriesReferenceIdeal.main (F := Ideal))) ⟨m, fun _ => 0, g⟩ (fun r => (∀ c : Dev Cert.QueriesReferenceIdeal.nD,
      r.2.mem ((c.tc : Thread Cert.QueriesReferenceIdeal.nD Cert.QueriesReferenceIdeal.τ).loc Cert.QueriesReferenceIdeal.main_arg0) = m ((c.tc : Thread Cert.QueriesReferenceIdeal.nD Cert.QueriesReferenceIdeal.τ).loc Cert.QueriesReferenceIdeal.main_arg0)
      ∧ r.2.mem ((c.tc : Thread Cert.QueriesReferenceIdeal.nD Cert.QueriesReferenceIdeal.τ).loc Cert.QueriesReferenceIdeal.main_arg1) = m ((c.tc : Thread Cert.QueriesReferenceIdeal.nD Cert.QueriesReferenceIdeal.τ).loc Cert.QueriesReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v39) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v3)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v3) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v6) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v8)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v8) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v49) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def preserves_Keys_KeysIdeal : Prop :=
  True

def algebraic_KeysIdeal_KeysReferenceIdeal [hKeysIdeal : Cert.KeysIdeal.Facts] [hKeysReferenceIdeal : Cert.KeysReferenceIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v34)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v34) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v42) = v0 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1))

def preserves_Queries_QueriesIdeal : Prop :=
  True

def algebraic_QueriesIdeal_QueriesReferenceIdeal [hQueriesIdeal : Cert.QueriesIdeal.Facts] [hQueriesReferenceIdeal : Cert.QueriesReferenceIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesReferenceIdeal.nD Cert.QueriesReferenceIdeal.τ Cert.QueriesReferenceIdeal.sig) → Buf (Elt Ideal) ℓ) (g' : Dev Cert.QueriesReferenceIdeal.nD → PrngReg), Pre_QueriesIdeal m →
    (∀ c : Dev Cert.QueriesIdeal.nD,
      m' ((c.tc : Thread Cert.QueriesReferenceIdeal.nD Cert.QueriesReferenceIdeal.τ).loc Cert.QueriesReferenceIdeal.main_arg0) = m ((c.tc : Thread Cert.QueriesIdeal.nD Cert.QueriesIdeal.τ).loc Cert.QueriesIdeal.main_arg0)
      ∧ m' ((c.tc : Thread Cert.QueriesReferenceIdeal.nD Cert.QueriesReferenceIdeal.τ).loc Cert.QueriesReferenceIdeal.main_arg1) = m ((c.tc : Thread Cert.QueriesIdeal.nD Cert.QueriesIdeal.τ).loc Cert.QueriesIdeal.main_arg1)) →
    ∃ (v0 : (c : Dev Cert.QueriesIdeal.nD) → Buf (Elt Ideal) ((c.tc : Thread Cert.QueriesIdeal.nD Cert.QueriesIdeal.τ).loc Cert.QueriesIdeal.main_v37)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v37) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ θ_run (Cert.QueriesReferenceIdeal.defs (F := Ideal)) (onTc (τ := Cert.QueriesReferenceIdeal.τ) (Cert.QueriesReferenceIdeal.main (F := Ideal))) ⟨m', fun _ => 0, g'⟩ (fun r => ∀ c : Dev Cert.QueriesReferenceIdeal.nD,
          r.2.mem ((c.tc : Thread Cert.QueriesReferenceIdeal.nD Cert.QueriesReferenceIdeal.τ).loc Cert.QueriesReferenceIdeal.main_v47) = v0 c
          ∧ r.2.mem ((c.tc : Thread Cert.QueriesReferenceIdeal.nD Cert.QueriesReferenceIdeal.τ).loc Cert.QueriesReferenceIdeal.main_arg0) = m' ((c.tc : Thread Cert.QueriesReferenceIdeal.nD Cert.QueriesReferenceIdeal.τ).loc Cert.QueriesReferenceIdeal.main_arg0)
          ∧ r.2.mem ((c.tc : Thread Cert.QueriesReferenceIdeal.nD Cert.QueriesReferenceIdeal.τ).loc Cert.QueriesReferenceIdeal.main_arg1) = m' ((c.tc : Thread Cert.QueriesReferenceIdeal.nD Cert.QueriesReferenceIdeal.τ).loc Cert.QueriesReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hValues : Cert.Values.Facts) (hValuesIdeal : Cert.ValuesIdeal.Facts) (hValuesReferenceIdeal : Cert.ValuesReferenceIdeal.Facts) (hOut : Cert.Out.Facts) (hOutIdeal : Cert.OutIdeal.Facts) (hOutReferenceIdeal : Cert.OutReferenceIdeal.Facts) (hKeys : Cert.Keys.Facts) (hKeysIdeal : Cert.KeysIdeal.Facts) (hKeysReferenceIdeal : Cert.KeysReferenceIdeal.Facts) (hQueries : Cert.Queries.Facts) (hQueriesIdeal : Cert.QueriesIdeal.Facts) (hQueriesReferenceIdeal : Cert.QueriesReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_Out (hOut := hOut)
    ∧ quiescent_OutIdeal (hOutIdeal := hOutIdeal)
    ∧ quiescent_OutReferenceIdeal (hOutReferenceIdeal := hOutReferenceIdeal)
    ∧ quiescent_Keys (hKeys := hKeys)
    ∧ quiescent_KeysIdeal (hKeysIdeal := hKeysIdeal)
    ∧ quiescent_KeysReferenceIdeal (hKeysReferenceIdeal := hKeysReferenceIdeal)
    ∧ quiescent_Queries (hQueries := hQueries)
    ∧ quiescent_QueriesIdeal (hQueriesIdeal := hQueriesIdeal)
    ∧ quiescent_QueriesReferenceIdeal (hQueriesReferenceIdeal := hQueriesReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
    ∧ preserves_Values_ValuesIdeal
    ∧ algebraic_ValuesIdeal_ValuesReferenceIdeal (hValuesIdeal := hValuesIdeal) (hValuesReferenceIdeal := hValuesReferenceIdeal)
    ∧ preserves_Out_OutIdeal
    ∧ algebraic_OutIdeal_OutReferenceIdeal (hOutIdeal := hOutIdeal) (hOutReferenceIdeal := hOutReferenceIdeal)
    ∧ preserves_Keys_KeysIdeal
    ∧ algebraic_KeysIdeal_KeysReferenceIdeal (hKeysIdeal := hKeysIdeal) (hKeysReferenceIdeal := hKeysReferenceIdeal)
    ∧ preserves_Queries_QueriesIdeal
    ∧ algebraic_QueriesIdeal_QueriesReferenceIdeal (hQueriesIdeal := hQueriesIdeal) (hQueriesReferenceIdeal := hQueriesReferenceIdeal)
-- ==== Pre_finite.lean ====
abbrev S1024x8192 : Shape := ⟨2, ![1024, 8192]⟩
abbrev S8192x1024 : Shape := ⟨2, ![8192, 1024]⟩
abbrev S8x1024x1024 : Shape := ⟨3, ![8, 1024, 1024]⟩
abbrev S1x64 : Shape := ⟨2, ![1, 64]⟩
abbrev S1x128 : Shape := ⟨2, ![1, 128]⟩
abbrev S_ : Shape := ⟨0, ![]⟩

class Facts : Prop where
  bcast_S_S1024x8192 : S_.BroadcastsInDim S1024x8192 (![] : Fin 0 → Fin S1024x8192.rank)
  bcast_S_S8192x1024 : S_.BroadcastsInDim S8192x1024 (![] : Fin 0 → Fin S8192x1024.rank)
  bcast_S_S8x1024x1024 : S_.BroadcastsInDim S8x1024x1024 (![] : Fin 0 → Fin S8x1024x1024.rank)
  bcast_S_S1x64 : S_.BroadcastsInDim S1x64 (![] : Fin 0 → Fin S1x64.rank)

variable [Facts]

def fn_part1 {F : FTy → Type} [FloatOps F] (main_arg6 : FVec F S1x64 .f32) (main_v2 : IVec S1024x8192 1) (main_v5 : IVec S8192x1024 1) (main_v8 : IVec S8x1024x1024 1) (main_v11 : IVec S1x64 1) (main_v14 : IVec S1x64 1) (main_v17 : IVec S1x64 1) : IVec S1024x8192 1 × IVec S8192x1024 1 × IVec S8x1024x1024 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  (main_v2, main_v5, main_v8, main_v11, main_v14, main_v17, main_v20)

def fn {F : FTy → Type} [FloatOps F] (main_arg0 : FVec F S1024x8192 .bf16) (main_arg1 : FVec F S8192x1024 .bf16) (main_arg2 : FVec F S8x1024x1024 .bf16) (main_arg3 : FVec F S1x64 .f32) (main_arg4 : FVec F S1x64 .f32) (main_arg5 : FVec F S1x64 .f32) (main_arg6 : FVec F S1x64 .f32) (main_arg7 : FVec F S1x128 .f32) : IVec S1024x8192 1 × IVec S8192x1024 1 × IVec S8x1024x1024 1 × IVec S1x64 1 × IVec S1x64 1 × IVec S1x64 1 × IVec S1x64 1 :=
  let main_v0 : FVec F S1024x8192 .bf16 := Host.absf main_arg0
  let main_cst : FVec F S_ .bf16 := constant S_ .bf16 0x7F80#16
  let main_v1 : FVec F S1024x8192 .bf16 := broadcastInDim S1024x8192 ![] bcast_S_S1024x8192 main_cst
  let main_v2 : IVec S1024x8192 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S8x1024x1024 .bf16 := Host.absf main_arg2
  let main_cst_1 : FVec F S_ .bf16 := constant S_ .bf16 0x7F80#16
  let main_v7 : FVec F S8x1024x1024 .bf16 := broadcastInDim S8x1024x1024 ![] bcast_S_S8x1024x1024 main_cst_1
  let main_v8 : IVec S8x1024x1024 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_v2 main_v5 main_v8 main_v11 main_v14 main_v17
-- ==== Kernel.lean ====
abbrev S1024x8192 : Shape := ⟨2, ![1024, 8192]⟩
abbrev S8192x1024 : Shape := ⟨2, ![8192, 1024]⟩
abbrev S8x1024x1024 : Shape := ⟨3, ![8, 1024, 1024]⟩
abbrev S1x64 : Shape := ⟨2, ![1, 64]⟩
abbrev S1x128 : Shape := ⟨2, ![1, 128]⟩
abbrev S64 : Shape := ⟨1, ![64]⟩
abbrev S128 : Shape := ⟨1, ![128]⟩
abbrev S128x1024 : Shape := ⟨2, ![128, 1024]⟩
abbrev S8192x128 : Shape := ⟨2, ![8192, 128]⟩
abbrev S8x128x1024 : Shape := ⟨3, ![8, 128, 1024]⟩
abbrev S1024x128 : Shape := ⟨2, ![1024, 128]⟩
abbrev S2x128x1024 : Shape := ⟨3, ![2, 128, 1024]⟩
abbrev S2x1x1024 : Shape := ⟨3, ![2, 1, 1024]⟩
abbrev S2x1x128 : Shape := ⟨3, ![2, 1, 128]⟩
abbrev S2x1024x1024 : Shape := ⟨3, ![2, 1024, 1024]⟩
abbrev S1x1024 : Shape := ⟨2, ![1, 1024]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S1x1x128 : Shape := ⟨3, ![1, 1, 128]⟩
abbrev S64x1024 : Shape := ⟨2, ![64, 1024]⟩
abbrev S1024x1024 : Shape := ⟨2, ![1024, 1024]⟩
abbrev S1x1024x1024 : Shape := ⟨3, ![1, 1024, 1024]⟩
abbrev S1x128x1024 : Shape := ⟨3, ![1, 128, 1024]⟩
abbrev S1x1x1024 : Shape := ⟨3, ![1, 1, 1024]⟩
abbrev S1x1x1 : Shape := ⟨3, ![1, 1, 1]⟩

abbrev nBuf : Space → Nat
  | .hbm => 19
  | .vmem => 20
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8x1024x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S128, .f32⟩
  | .hbm, ⟨17, _⟩ => ⟨S1x128, .f32⟩
  | .hbm, ⟨18, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S8192x128, .bf16⟩
  | .local _ .vmem, ⟨3, _⟩ => ⟨S8192x128, .bf16⟩
  | .local _ .vmem, ⟨4, _⟩ => ⟨S8x128x1024, .bf16⟩
  | .local _ .vmem, ⟨5, _⟩ => ⟨S8x128x1024, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1024x128, .bf16⟩
  | .local _ .vmem, ⟨12, _⟩ => ⟨S1024x128, .bf16⟩
  | .local _ .vmem, ⟨13, _⟩ => ⟨S2x128x1024, .f32⟩
  | .local _ .vmem, ⟨14, _⟩ => ⟨S2x1x1024, .f32⟩
  | .local _ .vmem, ⟨15, _⟩ => ⟨S2x1x128, .f32⟩
  | .local _ .vmem, ⟨16, _⟩ => ⟨S2x1024x1024, .f32⟩
  | .local _ .vmem, ⟨17, _⟩ => ⟨S2x1024x1024, .f32⟩
  | .local _ .vmem, ⟨18, _⟩ => ⟨S2x1024x1024, .bf16⟩
  | .local _ .vmem, ⟨19, _⟩ => ⟨S2x1024x1024, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_4 : BitVec 32 := 0#32
  let v16 : BitVec 1 := Scalar.cmpi .ne v15 c0_i32_4
  v16

@[reducible] def k0_t1_loop : Scf.Loop 32 :=
  let c0_i32_126 : BitVec 32 := 0#32
  let c8_i32 : BitVec 32 := 8#32
  let v201 : BitVec 32 := Scalar.addi c0_i32_126 c8_i32
  let c1_i32_127 : BitVec 32 := 1#32
  ⟨c0_i32_126, v201, c1_i32_127⟩
def k0_mult1 (k0_t1 : Fin k0_t1_loop.trips) : BitVec 32 :=
  let c0_i32_126 : BitVec 32 := 0#32
  let c1_i32_127 : BitVec 32 := 1#32
  let arg18 : BitVec 32 := Scf.iv c0_i32_126 c1_i32_127 k0_t1
  let c1024_i32 : BitVec 32 := 1024#32
  let v213 : BitVec 32 := Scalar.muli arg18 c1024_i32
  v213
def k0_off1 (k0_t1 : Fin k0_t1_loop.trips) : Fin 2 → Nat :=
  let c0_i32_126 : BitVec 32 := 0#32
  let c1_i32_127 : BitVec 32 := 1#32
  let arg18 : BitVec 32 := Scf.iv c0_i32_126 c1_i32_127 k0_t1
  let c1024_i32 : BitVec 32 := 1024#32
  let v213 : BitVec 32 := Scalar.muli arg18 c1024_i32
  let v214 : BitVec 32 := v213
  let v215 : Index := Scalar.indexCast v214
  let c0_135 : Index := 0#32
  ![v215.toNat, 0]
def k0_mult2 : BitVec 32 :=
  let c0_i32_16 : BitVec 32 := 0#32
  c0_i32_16
@[reducible] def k0_t2_loop : Scf.Loop 32 :=
  let c0_i32_28 : BitVec 32 := 0#32
  let c3_i32 : BitVec 32 := 3#32
  let v63 : BitVec 32 := Scalar.addi c0_i32_28 c3_i32
  let c1_i32 : BitVec 32 := 1#32
  ⟨c0_i32_28, v63, c1_i32⟩
def k0_mult3 (k0_t2 : Fin k0_t2_loop.trips) : BitVec 32 :=
  let c2_i32 : BitVec 32 := 2#32
  let c0_i32_28 : BitVec 32 := 0#32
  let c1_i32 : BitVec 32 := 1#32
  let arg18 : BitVec 32 := Scf.iv c0_i32_28 c1_i32 k0_t2
  let v200 : BitVec 32 := Scalar.muli c2_i32 arg18
  let c1_i32_125 : BitVec 32 := 1#32
  let v201 : BitVec 32 := Scalar.addi v200 c1_i32_125
  let c1024_i32 : BitVec 32 := 1024#32
  let v202 : BitVec 32 := Scalar.muli v201 c1024_i32
  v202
def k0_off2 (k0_t2 : Fin k0_t2_loop.trips) (c1_i32_125 : BitVec 32) : Fin 2 → Nat :=
  let c2_i32 : BitVec 32 := 2#32
  let c0_i32_28 : BitVec 32 := 0#32
  let c1_i32 : BitVec 32 := 1#32
  let arg18 : BitVec 32 := Scf.iv c0_i32_28 c1_i32 k0_t2
  let v200 : BitVec 32 := Scalar.muli c2_i32 arg18
  let v201 : BitVec 32 := Scalar.addi v200 c1_i32_125
  let c1024_i32 : BitVec 32 := 1024#32
  let v202 : BitVec 32 := Scalar.muli v201 c1024_i32
  let v203 : BitVec 32 := v202
  let v204 : Index := Scalar.indexCast v203
  let c0_126 : Index := 0#32
  ![v204.toNat, 0]
def k0_off3 (k0_t2 : Fin k0_t2_loop.trips) : Fin 3 → Nat :=
  let c2_i32 : BitVec 32 := 2#32
  let c0_i32_28 : BitVec 32 := 0#32
  let c1_i32 : BitVec 32 := 1#32
  let arg18 : BitVec 32 := Scf.iv c0_i32_28 c1_i32 k0_t2
  let v200 : BitVec 32 := Scalar.muli c2_i32 arg18
  let v226 : Index := Scalar.indexCast v200
  let c0_137 : Index := 0#32
  let c0_138 : Index := 0#32
  ![v226.toNat, 0, 0]
def k0_mult4 (k0_t2 : Fin k0_t2_loop.trips) : BitVec 32 :=
  let c2_i32 : BitVec 32 := 2#32
  let c0_i32_28 : BitVec 32 := 0#32
  let c1_i32 : BitVec 32 := 1#32
  let arg18 : BitVec 32 := Scf.iv c0_i32_28 c1_i32 k0_t2
  let v200 : BitVec 32 := Scalar.muli c2_i32 arg18
  let c2_i32_159 : BitVec 32 := 2#32
  let v251 : BitVec 32 := Scalar.addi v200 c2_i32_159
  let c1024_i32_160 : BitVec 32 := 1024#32
  let v252 : BitVec 32 := Scalar.muli v251 c1024_i32_160
  v252
def k0_off4 (k0_t2 : Fin k0_t2_loop.trips) : Fin 3 → Nat :=
  let c2_i32 : BitVec 32 := 2#32
  let c0_i32_28 : BitVec 32 := 0#32
  let c1_i32 : BitVec 32 := 1#32
  let arg18 : BitVec 32 := Scf.iv c0_i32_28 c1_i32 k0_t2
  let v200 : BitVec 32 := Scalar.muli c2_i32 arg18
  let c1_i32_172 : BitVec 32 := 1#32
  let v276 : BitVec 32 := Scalar.addi v200 c1_i32_172
  let v277 : Index := Scalar.indexCast v276
  let c0_173 : Index := 0#32
  let c0_174 : Index := 0#32
  ![v277.toNat, 0, 0]
def k0_mult5 : BitVec 32 :=
  let c7168_i32 : BitVec 32 := 7168#32
  c7168_i32
def k0_mult6 : BitVec 32 :=
  let c0_i32_130 : BitVec 32 := 0#32
  c0_i32_130
@[reducible] def k0_t3_loop : Scf.Loop 32 :=
  let c0_i32_142 : BitVec 32 := 0#32
  let c4_i32 : BitVec 32 := 4#32
  let v220 : BitVec 32 := Scalar.addi c0_i32_142 c4_i32
  let c1_i32_143 : BitVec 32 := 1#32
  ⟨c0_i32_142, v220, c1_i32_143⟩
def k0_mult7 (k0_t3 : Fin k0_t3_loop.trips) : BitVec 32 :=
  let c2_i32 : BitVec 32 := 2#32
  let c0_i32_142 : BitVec 32 := 0#32
  let c1_i32_143 : BitVec 32 := 1#32
  let arg18 : BitVec 32 := Scf.iv c0_i32_142 c1_i32_143 k0_t3
  let v228 : BitVec 32 := Scalar.muli c2_i32 arg18
  let c1_i32_151 : BitVec 32 := 1#32
  let v229 : BitVec 32 := Scalar.addi v228 c1_i32_151
  let c1024_i32 : BitVec 32 := 1024#32
  let v230 : BitVec 32 := Scalar.muli v229 c1024_i32
  v230
def k0_off5 (k0_t3 : Fin k0_t3_loop.trips) : Fin 2 → Nat :=
  let c2_i32 : BitVec 32 := 2#32
  let c0_i32_142 : BitVec 32 := 0#32
  let c1_i32_143 : BitVec 32 := 1#32
  let arg18 : BitVec 32 := Scf.iv c0_i32_142 c1_i32_143 k0_t3
  let v228 : BitVec 32 := Scalar.muli c2_i32 arg18
  let c1_i32_151 : BitVec 32 := 1#32
  let v229 : BitVec 32 := Scalar.addi v228 c1_i32_151
  let c1024_i32 : BitVec 32 := 1024#32
  let v230 : BitVec 32 := Scalar.muli v229 c1024_i32
  let v231 : BitVec 32 := v230
  let v232 : Index := Scalar.indexCast v231
  let c0_152 : Index := 0#32
  ![v232.toNat, 0]
def k0_off6 (k0_t3 : Fin k0_t3_loop.trips) : Fin 3 → Nat :=
  let c2_i32 : BitVec 32 := 2#32
  let c0_i32_142 : BitVec 32 := 0#32
  let c1_i32_143 : BitVec 32 := 1#32
  let arg18 : BitVec 32 := Scf.iv c0_i32_142 c1_i32_143 k0_t3
  let v228 : BitVec 32 := Scalar.muli c2_i32 arg18
  let v246 : Index := Scalar.indexCast v228
  let c0_163 : Index := 0#32
  let c0_164 : Index := 0#32
  ![v246.toNat, 0, 0]
def k0_mult8 (k0_t3 : Fin k0_t3_loop.trips) : BitVec 32 :=
  let c2_i32 : BitVec 32 := 2#32
  let c0_i32_142 : BitVec 32 := 0#32
  let c1_i32_143 : BitVec 32 := 1#32
  let arg18 : BitVec 32 := Scf.iv c0_i32_142 c1_i32_143 k0_t3
  let v228 : BitVec 32 := Scalar.muli c2_i32 arg18
  let c2_i32_187 : BitVec 32 := 2#32
  let v293 : BitVec 32 := Scalar.addi v228 c2_i32_187
  let c7_i32 : BitVec 32 := 7#32
  let v294 : BitVec 32 := Scalar.minsi v293 c7_i32
  let c1024_i32_188 : BitVec 32 := 1024#32
  let v295 : BitVec 32 := Scalar.muli v294 c1024_i32_188
  v295
def k0_off7 (k0_t3 : Fin k0_t3_loop.trips) : Fin 2 → Nat :=
  let c2_i32 : BitVec 32 := 2#32
  let c0_i32_142 : BitVec 32 := 0#32
  let c1_i32_143 : BitVec 32 := 1#32
  let arg18 : BitVec 32 := Scf.iv c0_i32_142 c1_i32_143 k0_t3
  let v228 : BitVec 32 := Scalar.muli c2_i32 arg18
  let c2_i32_187 : BitVec 32 := 2#32
  let v293 : BitVec 32 := Scalar.addi v228 c2_i32_187
  let c7_i32 : BitVec 32 := 7#32
  let v294 : BitVec 32 := Scalar.minsi v293 c7_i32
  let c1024_i32_188 : BitVec 32 := 1024#32
  let v295 : BitVec 32 := Scalar.muli v294 c1024_i32_188
  let v296 : BitVec 32 := v295
  let v297 : Index := Scalar.indexCast v296
  let c0_189 : Index := 0#32
  ![v297.toNat, 0]
def k0_off8 (k0_t3 : Fin k0_t3_loop.trips) : Fin 3 → Nat :=
  let c2_i32 : BitVec 32 := 2#32
  let c0_i32_142 : BitVec 32 := 0#32
  let c1_i32_143 : BitVec 32 := 1#32
  let arg18 : BitVec 32 := Scf.iv c0_i32_142 c1_i32_143 k0_t3
  let v228 : BitVec 32 := Scalar.muli c2_i32 arg18
  let c1_i32_200 : BitVec 32 := 1#32
  let v311 : BitVec 32 := Scalar.addi v228 c1_i32_200
  let v312 : Index := Scalar.indexCast v311
  let c0_201 : Index := 0#32
  let c0_202 : Index := 0#32
  ![v312.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S1024x8192 : Shape := ⟨2, ![1024, 8192]⟩
abbrev S8192x1024 : Shape := ⟨2, ![8192, 1024]⟩
abbrev S8x1024x1024 : Shape := ⟨3, ![8, 1024, 1024]⟩
abbrev S1x64 : Shape := ⟨2, ![1, 64]⟩
abbrev S1x128 : Shape := ⟨2, ![1, 128]⟩
abbrev S8192x8x2x64 : Shape := ⟨4, ![8192, 8, 2, 64]⟩
abbrev S_ : Shape := ⟨0, ![]⟩
abbrev S8192x8x128 : Shape := ⟨3, ![8192, 8, 128]⟩
abbrev S64 : Shape := ⟨1, ![64]⟩
abbrev S8x2x8192x8192 : Shape := ⟨4, ![8, 2, 8192, 8192]⟩
abbrev S8x2x8192 : Shape := ⟨3, ![8, 2, 8192]⟩
abbrev S8x2x8192x1 : Shape := ⟨4, ![8, 2, 8192, 1]⟩
abbrev S8x1x8192x8192 : Shape := ⟨4, ![8, 1, 8192, 8192]⟩
abbrev S8x8192x8192 : Shape := ⟨3, ![8, 8192, 8192]⟩
abbrev S8x128x8192 : Shape := ⟨3, ![8, 128, 8192]⟩
abbrev S128 : Shape := ⟨1, ![128]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8x1024x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S1024x8192, .f32⟩
  | .hbm, ⟨9, _⟩ => ⟨S8192x1024, .f32⟩
  | .hbm, ⟨10, _⟩ => ⟨S8192x8x2x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x8x2x64, .f32⟩
  | .hbm, ⟨15, _⟩ => ⟨S8192x8x2x64, .f32⟩
  | .hbm, ⟨16, _⟩ => ⟨S8192x1024, .f32⟩
  | .hbm, ⟨17, _⟩ => ⟨S8192x8x2x64, .f32⟩
  | .hbm, ⟨18, _⟩ => ⟨S8x1024x1024, .f32⟩
  | .hbm, ⟨19, _⟩ => ⟨S8x1024x1024, .f32⟩
  | .hbm, ⟨20, _⟩ => ⟨S8192x8x128, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x2x8192x8192, .f32⟩
  | .hbm, ⟨37, _⟩ => ⟨S_, .f32⟩
  | .hbm, ⟨38, _⟩ => ⟨S8x2x8192, .f32⟩
  | .hbm, ⟨39, _⟩ => ⟨S_, .f32⟩
  | .hbm, ⟨40, _⟩ => ⟨S8x2x8192, .f32⟩
  | .hbm, ⟨41, _⟩ => ⟨S8x2x8192, .f32⟩
  | .hbm, ⟨42, _⟩ => ⟨S8x2x8192x1, .f32⟩
  | .hbm, ⟨43, _⟩ => ⟨S8x2x8192x8192, .f32⟩
  | .hbm, ⟨44, _⟩ => ⟨S8x2x8192x8192, .f32⟩
  | .hbm, ⟨45, _⟩ => ⟨S8x2x8192x8192, .f32⟩
  | .hbm, ⟨46, _⟩ => ⟨S_, .f32⟩
  | .hbm, ⟨47, _⟩ => ⟨S8x2x8192, .f32⟩
  | .hbm, ⟨48, _⟩ => ⟨S8x2x8192x1, .f32⟩
  | .hbm, ⟨49, _⟩ => ⟨S8x2x8192x8192, .f32⟩
  | .hbm, ⟨50, _⟩ => ⟨S8x2x8192x8192, .f32⟩
  | .hbm, ⟨51, _⟩ => ⟨S8x1x8192x8192, .f32⟩
  | .hbm, ⟨52, _⟩ => ⟨S8x8192x8192, .f32⟩
  | .hbm, ⟨53, _⟩ => ⟨S8x1x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x128x8192, .f32⟩
  | .hbm, ⟨59, _⟩ => ⟨S8192x8x128, .f32⟩
  | .hbm, ⟨60, _⟩ => ⟨S128, .f32⟩
  | .hbm, ⟨61, _⟩ => ⟨S8192x8x128, .f32⟩
  | .hbm, ⟨62, _⟩ => ⟨S_, .f32⟩
  | .hbm, ⟨63, _⟩ => ⟨S8192x8, .f32⟩
  | .hbm, ⟨64, _⟩ => ⟨S8192x8x1, .f32⟩
  | .hbm, ⟨65, _⟩ => ⟨S_, .f32⟩
  | .hbm, ⟨66, _⟩ => ⟨S8192x8x1, .f32⟩
  | .hbm, ⟨67, _⟩ => ⟨S8192x8x1, .f32⟩
  | .hbm, ⟨68, _⟩ => ⟨S_, .f32⟩
  | .hbm, ⟨69, _⟩ => ⟨S8192x8x1, .f32⟩
  | .hbm, ⟨70, _⟩ => ⟨S8192x8x1, .f32⟩
  | .hbm, ⟨71, _⟩ => ⟨S8192x8x1, .f32⟩
  | .hbm, ⟨72, _⟩ => ⟨S8192x8x128, .f32⟩
  | .hbm, ⟨73, _⟩ => ⟨S8192x8x128, .f32⟩
  | .hbm, ⟨74, _⟩ => ⟨S1x1x128, .f32⟩
  | .hbm, ⟨75, _⟩ => ⟨S8192x8x128, .f32⟩
  | .hbm, ⟨76, _⟩ => ⟨S8192x8x128, .f32⟩
  | .hbm, ⟨77, _⟩ => ⟨S_, .f32⟩
  | .hbm, ⟨78, _⟩ => ⟨S8192x8x128, .f32⟩
  | .hbm, ⟨79, _⟩ => ⟨S8192x8x128, .f32⟩
  | .hbm, ⟨80, _⟩ => ⟨S8192x1024, .f32⟩
  | .hbm, ⟨81, _⟩ => ⟨S8192x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Ffn.lean ====
abbrev S1x8192x2048 : Shape := ⟨3, ![1, 8192, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S2x1024x512 : Shape := ⟨3, ![2, 1024, 512]⟩
abbrev S1024x512 : Shape := ⟨2, ![1024, 512]⟩
abbrev S1x1024x512 : Shape := ⟨3, ![1, 1024, 512]⟩
abbrev S1024 : Shape := ⟨1, ![1024]⟩
abbrev S1024x1 : Shape := ⟨2, ![1024, 1]⟩

abbrev nBuf : Space → Nat
  | .hbm => 18
  | .vmem => 13
  | .smem => 0
  | _ => 0

abbrev bufTy : (tb : Table) → Fin (tcTables nBuf tb) → BufTy
  | .hbm, ⟨0, _⟩ => ⟨S1x8192x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S8192x2048, .f32⟩
  | .local _ .vmem, ⟨0, _⟩ => ⟨S1024x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .f32⟩
  | .local _ .vmem, ⟨12, _⟩ => ⟨S2x1024x512, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 12], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c11_i32 : BitVec 32 := 11#32
  let v4 : BitVec 1 := Scalar.cmpi .slt arg1 c11_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg1 : BitVec 32 := BitVec.ofNat 32 (i 1).val
  let c1_i32 : BitVec 32 := 1#32
  let v11 : BitVec 32 := Scalar.subi arg1 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v23 : Index := Scalar.indexCast v21
  let c0_11 : Index := 0#32
  let c0_12 : Index := 0#32
  ![v23.toNat, 0, 0]
def k0_off2 (i : grid0.Coords) : Fin 3 → Nat :=
  let arg1 : BitVec 32 := BitVec.ofNat 32 (i 1).val
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi arg1 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let v54 : Index := Scalar.indexCast v42
  let c0_31 : Index := 0#32
  let c0_32 : Index := 0#32
  ![v54.toNat, 0, 0]
def k0_cond3 (i : grid0.Coords) : BitVec 1 :=
  let arg1 : BitVec 32 := BitVec.ofNat 32 (i 1).val
  let c11_i32_3 : BitVec 32 := 11#32
  let v8 : BitVec 1 := Scalar.cmpi .eq arg1 c11_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnReferenceIdeal.lean ====
abbrev S1x8192x2048 : Shape := ⟨3, ![1, 8192, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S_ : Shape := ⟨0, ![]⟩
abbrev S2048x5632 : Shape := ⟨2, ![2048, 5632]⟩
abbrev S5632x2048 : Shape := ⟨2, ![5632, 2048]⟩
abbrev S1x8192x5632 : Shape := ⟨3, ![1, 8192, 5632]⟩
abbrev S2048 : Shape := ⟨1, ![2048]⟩
abbrev S1x8192 : Shape := ⟨2, ![1, 8192]⟩
abbrev S1x8192x1 : Shape := ⟨3, ![1, 8192, 1]⟩
abbrev S1x1x2048 : Shape := ⟨3, ![1, 1, 2048]⟩
abbrev S8192x2048 : Shape := ⟨2, ![8192, 2048]⟩

abbrev nBuf : Space → Nat
  | .hbm => 61
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x8192x2048, .f32⟩
  | .hbm, ⟨8, _⟩ => ⟨S1x8192x2048, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S1x8192x5632, .f32⟩
  | .hbm, ⟨13, _⟩ => ⟨S1x8192x5632, .f32⟩
  | .hbm, ⟨14, _⟩ => ⟨S1x8192x5632, .f32⟩
  | .hbm, ⟨15, _⟩ => ⟨S_, .f32⟩
  | .hbm, ⟨16, _⟩ => ⟨S1x8192x5632, .f32⟩
  | .hbm, ⟨17, _⟩ => ⟨S1x8192x5632, .f32⟩
  | .hbm, ⟨18, _⟩ => ⟨S_, .f32⟩
  | .hbm, ⟨19, _⟩ => ⟨S1x8192x5632, .f32⟩
  | .hbm, ⟨20, _⟩ => ⟨S1x8192x5632, .f32⟩
  | .hbm, ⟨21, _⟩ => ⟨S1x8192x5632, .f32⟩
  | .hbm, ⟨22, _⟩ => ⟨S1x8192x5632, .f32⟩
  | .hbm, ⟨23, _⟩ => ⟨S1x8192x5632, .f32⟩
  | .hbm, ⟨24, _⟩ => ⟨S1x8192x2048, .f32⟩
  | .hbm, ⟨25, _⟩ => ⟨S_, .f32⟩
  | .hbm, ⟨26, _⟩ => ⟨S1x8192x2048, .f32⟩
  | .hbm, ⟨27, _⟩ => ⟨S1x8192x2048, .f32⟩
  | .hbm, ⟨28, _⟩ => ⟨S1x8192x2048, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S1x8192, .f32⟩
  | .hbm, ⟨33, _⟩ => ⟨S1x8192x1, .f32⟩
  | .hbm, ⟨34, _⟩ => ⟨S_, .f32⟩
  | .hbm, ⟨35, _⟩ => ⟨S1x8192x1, .f32⟩
  | .hbm, ⟨36, _⟩ => ⟨S1x8192x1, .f32⟩
  | .hbm, ⟨37, _⟩ => ⟨S1x8192x2048, .f32⟩
  | .hbm, ⟨38, _⟩ => ⟨S1x8192x2048, .f32⟩
  | .hbm, ⟨39, _⟩ => ⟨S1x8192x2048, .f32⟩
  | .hbm, ⟨40, _⟩ => ⟨S_, .f32⟩
  | .hbm, ⟨41, _⟩ => ⟨S1x8192, .f32⟩
  | .hbm, ⟨42, _⟩ => ⟨S1x8192x1, .f32⟩
  | .hbm, ⟨43, _⟩ => ⟨S_, .f32⟩
  | .hbm, ⟨44, _⟩ => ⟨S1x8192x1, .f32⟩
  | .hbm, ⟨45, _⟩ => ⟨S1x8192x1, .f32⟩
  | .hbm, ⟨46, _⟩ => ⟨S1x8192x2048, .f32⟩
  | .hbm, ⟨47, _⟩ => ⟨S1x8192x2048, .f32⟩
  | .hbm, ⟨48, _⟩ => ⟨S_, .f32⟩
  | .hbm, ⟨49, _⟩ => ⟨S1x8192x1, .f32⟩
  | .hbm, ⟨50, _⟩ => ⟨S1x8192x1, .f32⟩
  | .hbm, ⟨51, _⟩ => ⟨S1x8192x1, .f32⟩
  | .hbm, ⟨52, _⟩ => ⟨S1x8192x2048, .f32⟩
  | .hbm, ⟨53, _⟩ => ⟨S1x8192x2048, .f32⟩
  | .hbm, ⟨54, _⟩ => ⟨S1x1x2048, .f32⟩
  | .hbm, ⟨55, _⟩ => ⟨S1x8192x2048, .f32⟩
  | .hbm, ⟨56, _⟩ => ⟨S1x8192x2048, .f32⟩
  | .hbm, ⟨57, _⟩ => ⟨S1x1x2048, .f32⟩
  | .hbm, ⟨58, _⟩ => ⟨S1x8192x2048, .f32⟩
  | .hbm, ⟨59, _⟩ => ⟨S1x8192x2048, .f32⟩
  | .hbm, ⟨60, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proj.lean ====
abbrev S8192x2048 : Shape := ⟨2, ![8192, 2048]⟩
abbrev S1x2048x6144 : Shape := ⟨3, ![1, 2048, 6144]⟩
abbrev S2048x6144 : Shape := ⟨2, ![2048, 6144]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S2048x6144, .f32⟩
  | .hbm, ⟨3, _⟩ => ⟨S2048x3072, .f32⟩
  | .hbm, ⟨4, _⟩ => ⟨S2048x3072, .bf16⟩
  | .hbm, ⟨5, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S8192x2048 : Shape := ⟨2, ![8192, 2048]⟩
abbrev S1x2048x6144 : Shape := ⟨3, ![1, 2048, 6144]⟩
abbrev S2048x6144 : Shape := ⟨2, ![2048, 6144]⟩
abbrev S8192x6144 : Shape := ⟨2, ![8192, 6144]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x3072, .f32⟩
  | .hbm, ⟨6, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Values.lean ====
abbrev S8192x2048 : Shape := ⟨2, ![8192, 2048]⟩
abbrev S1x2048x6144 : Shape := ⟨3, ![1, 2048, 6144]⟩
abbrev S2048x6144 : Shape := ⟨2, ![2048, 6144]⟩
abbrev S2048x1024 : Shape := ⟨2, ![2048, 1024]⟩
abbrev S8x1024x1024 : Shape := ⟨3, ![8, 1024, 1024]⟩
abbrev S1024x2048 : Shape := ⟨2, ![1024, 2048]⟩
abbrev S2048x512 : Shape := ⟨2, ![2048, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S2048x6144, .f32⟩
  | .hbm, ⟨3, _⟩ => ⟨S2048x1024, .f32⟩
  | .hbm, ⟨4, _⟩ => ⟨S2048x1024, .bf16⟩
  | .hbm, ⟨5, _⟩ => ⟨S8x1024x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesReferenceIdeal.lean ====
abbrev S8192x2048 : Shape := ⟨2, ![8192, 2048]⟩
abbrev S1x2048x6144 : Shape := ⟨3, ![1, 2048, 6144]⟩
abbrev S2048x6144 : Shape := ⟨2, ![2048, 6144]⟩
abbrev S8192x6144 : Shape := ⟨2, ![8192, 6144]⟩
abbrev S8192x1024 : Shape := ⟨2, ![8192, 1024]⟩
abbrev S8x1024x1024 : Shape := ⟨3, ![8, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x1024, .f32⟩
  | .hbm, ⟨6, _⟩ => ⟨S8x1024x1024, .f32⟩
  | .hbm, ⟨7, _⟩ => ⟨S8x1024x1024, .f32⟩
  | .hbm, ⟨8, _⟩ => ⟨S8x1024x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Out.lean ====
abbrev S8192x1024 : Shape := ⟨2, ![8192, 1024]⟩
abbrev S8192x3072 : Shape := ⟨2, ![8192, 3072]⟩
abbrev S1x2048x2048 : Shape := ⟨3, ![1, 2048, 2048]⟩
abbrev S1x1024 : Shape := ⟨2, ![1, 1024]⟩
abbrev S8192x2048 : Shape := ⟨2, ![8192, 2048]⟩
abbrev S1x2048 : Shape := ⟨2, ![1, 2048]⟩
abbrev S2048x2048 : Shape := ⟨2, ![2048, 2048]⟩
abbrev S1024 : Shape := ⟨1, ![1024]⟩
abbrev S2048 : Shape := ⟨1, ![2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S8192x1024, .bf16⟩
  | .hbm, ⟨3, _⟩ => ⟨S1x2048x2048, .f32⟩
  | .hbm, ⟨4, _⟩ => ⟨S1x1024, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S1024, .f32⟩
  | .hbm, ⟨11, _⟩ => ⟨S1x1024, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x1024, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutReferenceIdeal.lean ====
abbrev S8192x1024 : Shape := ⟨2, ![8192, 1024]⟩
abbrev S8192x3072 : Shape := ⟨2, ![8192, 3072]⟩
abbrev S1x2048x2048 : Shape := ⟨3, ![1, 2048, 2048]⟩
abbrev S1x1024 : Shape := ⟨2, ![1, 1024]⟩
abbrev S8192x2048 : Shape := ⟨2, ![8192, 2048]⟩
abbrev S1x2048 : Shape := ⟨2, ![1, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S8192x1024, .bf16⟩
  | .hbm, ⟨3, _⟩ => ⟨S1x2048x2048, .f32⟩
  | .hbm, ⟨4, _⟩ => ⟨S1x1024, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2048, .f32⟩
  | .hbm, ⟨30, _⟩ => ⟨S2048x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S1x2048, .f32⟩
  | .hbm, ⟨62, _⟩ => ⟨S8192x2048, .f32⟩
  | .hbm, ⟨63, _⟩ => ⟨S8192x2048, .f32⟩
  | .hbm, ⟨64, _⟩ => ⟨S1x2048, .f32⟩
  | .hbm, ⟨65, _⟩ => ⟨S8192x2048, .f32⟩
  | .hbm, ⟨66, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Keys.lean ====
abbrev S8192x2048 : Shape := ⟨2, ![8192, 2048]⟩
abbrev S1x2048x6144 : Shape := ⟨3, ![1, 2048, 6144]⟩
abbrev S2048x6144 : Shape := ⟨2, ![2048, 6144]⟩
abbrev S2048x1024 : Shape := ⟨2, ![2048, 1024]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x128 : Shape := ⟨2, ![8192, 128]⟩
abbrev S8192x1024 : Shape := ⟨2, ![8192, 1024]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 47
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S2048x6144, .f32⟩
  | .hbm, ⟨3, _⟩ => ⟨S2048x1024, .f32⟩
  | .hbm, ⟨4, _⟩ => ⟨S2048x1024, .bf16⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8192, .f32⟩
  | .hbm, ⟨20, _⟩ => ⟨S8192x1, .f32⟩
  | .hbm, ⟨21, _⟩ => ⟨S1x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x48, .f32⟩
  | .hbm, ⟨29, _⟩ => ⟨S_, .f32⟩
  | .hbm, ⟨30, _⟩ => ⟨S8192x48, .f32⟩
  | .hbm, ⟨31, _⟩ => ⟨S_, .f32⟩
  | .hbm, ⟨32, _⟩ => ⟨S8192x8, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x8, .f32⟩
  | .hbm, ⟨38, _⟩ => ⟨S8192x128, .f32⟩
  | .hbm, ⟨39, _⟩ => ⟨S_, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KeysReferenceIdeal.lean ====
abbrev S8192x2048 : Shape := ⟨2, ![8192, 2048]⟩
abbrev S1x2048x6144 : Shape := ⟨3, ![1, 2048, 6144]⟩
abbrev S2048x6144 : Shape := ⟨2, ![2048, 6144]⟩
abbrev S8192x6144 : Shape := ⟨2, ![8192, 6144]⟩
abbrev S8192x1024 : Shape := ⟨2, ![8192, 1024]⟩
abbrev S8192x8x2x64 : Shape := ⟨4, ![8192, 8, 2, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S8192x1x1x16 : Shape := ⟨4, ![8192, 1, 1, 16]⟩
abbrev S8192x8x2x16 : Shape := ⟨4, ![8192, 8, 2, 16]⟩
abbrev S8192x8x2x8 : Shape := ⟨4, ![8192, 8, 2, 8]⟩
abbrev S8192x8x2x48 : Shape := ⟨4, ![8192, 8, 2, 48]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x1024, .f32⟩
  | .hbm, ⟨6, _⟩ => ⟨S8192x8x2x64, .f32⟩
  | .hbm, ⟨7, _⟩ => ⟨S8192, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8192x1, .f32⟩
  | .hbm, ⟨23, _⟩ => ⟨S1x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x16, .f32⟩
  | .hbm, ⟨30, _⟩ => ⟨S8192x1x1x16, .f32⟩
  | .hbm, ⟨31, _⟩ => ⟨S8192x8, .f32⟩
  | .hbm, ⟨32, _⟩ => ⟨S8192x8, .f32⟩
  | .hbm, ⟨33, _⟩ => ⟨S8192x16, .f32⟩
  | .hbm, ⟨34, _⟩ => ⟨S8192x1x1x16, .f32⟩
  | .hbm, ⟨35, _⟩ => ⟨S8192x8x2x16, .f32⟩
  | .hbm, ⟨36, _⟩ => ⟨S8192x8x2x8, .f32⟩
  | .hbm, ⟨37, _⟩ => ⟨S8192x8x2x8, .f32⟩
  | .hbm, ⟨38, _⟩ => ⟨S8192x8x2x8, .f32⟩
  | .hbm, ⟨39, _⟩ => ⟨S8192x8x2x16, .f32⟩
  | .hbm, ⟨40, _⟩ => ⟨S8192x8x2x16, .f32⟩
  | .hbm, ⟨41, _⟩ => ⟨S8192x8x2x16, .f32⟩
  | .hbm, ⟨42, _⟩ => ⟨S8192x8x2x16, .f32⟩
  | .hbm, ⟨43, _⟩ => ⟨S8192x8x2x16, .f32⟩
  | .hbm, ⟨44, _⟩ => ⟨S8192x8x2x16, .f32⟩
  | .hbm, ⟨45, _⟩ => ⟨S8192x8x2x48, .f32⟩
  | .hbm, ⟨46, _⟩ => ⟨S8192x8x2x64, .f32⟩
  | .hbm, ⟨47, _⟩ => ⟨S8192x1024, .f32⟩
  | .hbm, ⟨48, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]
-- ==== Queries.lean ====
abbrev S8192x2048 : Shape := ⟨2, ![8192, 2048]⟩
abbrev S1x2048x6144 : Shape := ⟨3, ![1, 2048, 6144]⟩
abbrev S2048x6144 : Shape := ⟨2, ![2048, 6144]⟩
abbrev S2048x1024 : Shape := ⟨2, ![2048, 1024]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x128 : Shape := ⟨2, ![8192, 128]⟩
abbrev S128x8192 : Shape := ⟨2, ![128, 8192]⟩
abbrev S1024x8192 : Shape := ⟨2, ![1024, 8192]⟩
abbrev S1024x2048 : Shape := ⟨2, ![1024, 2048]⟩
abbrev S2048x512 : Shape := ⟨2, ![2048, 512]⟩
abbrev S128x1024 : Shape := ⟨2, ![128, 1024]⟩
abbrev S512x1024 : Shape := ⟨2, ![512, 1024]⟩
abbrev S1024x512 : Shape := ⟨2, ![1024, 512]⟩

abbrev nBuf : Space → Nat
  | .hbm => 50
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S2048x6144, .f32⟩
  | .hbm, ⟨3, _⟩ => ⟨S2048x1024, .f32⟩
  | .hbm, ⟨4, _⟩ => ⟨S2048x1024, .bf16⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8192, .f32⟩
  | .hbm, ⟨20, _⟩ => ⟨S8192x1, .f32⟩
  | .hbm, ⟨21, _⟩ => ⟨S1x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x48, .f32⟩
  | .hbm, ⟨29, _⟩ => ⟨S_, .f32⟩
  | .hbm, ⟨30, _⟩ => ⟨S8192x48, .f32⟩
  | .hbm, ⟨31, _⟩ => ⟨S_, .f32⟩
  | .hbm, ⟨32, _⟩ => ⟨S8192x8, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x8, .f32⟩
  | .hbm, ⟨38, _⟩ => ⟨S8192x128, .f32⟩
  | .hbm, ⟨39, _⟩ => ⟨S_, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S128x8192, .f32⟩
  | .hbm, ⟨47, _⟩ => ⟨S128x8192, .f32⟩
  | .hbm, ⟨48, _⟩ => ⟨S128x8192, .f32⟩
  | .hbm, ⟨49, _⟩ => ⟨S1024x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QueriesReferenceIdeal.lean ====
abbrev S8192x2048 : Shape := ⟨2, ![8192, 2048]⟩
abbrev S1x2048x6144 : Shape := ⟨3, ![1, 2048, 6144]⟩
abbrev S2048x6144 : Shape := ⟨2, ![2048, 6144]⟩
abbrev S8192x6144 : Shape := ⟨2, ![8192, 6144]⟩
abbrev S8192x1024 : Shape := ⟨2, ![8192, 1024]⟩
abbrev S8192x8x2x64 : Shape := ⟨4, ![8192, 8, 2, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S8192x1x1x16 : Shape := ⟨4, ![8192, 1, 1, 16]⟩
abbrev S8192x8x2x16 : Shape := ⟨4, ![8192, 8, 2, 16]⟩
abbrev S8192x8x2x8 : Shape := ⟨4, ![8192, 8, 2, 8]⟩
abbrev S8192x8x2x48 : Shape := ⟨4, ![8192, 8, 2, 48]⟩
abbrev S1024x8192 : Shape := ⟨2, ![1024, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x6144, .f32⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x1024, .f32⟩
  | .hbm, ⟨6, _⟩ => ⟨S8192x8x2x64, .f32⟩
  | .hbm, ⟨7, _⟩ => ⟨S8192, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8192x1, .f32⟩
  | .hbm, ⟨23, _⟩ => ⟨S1x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x16, .f32⟩
  | .hbm, ⟨30, _⟩ => ⟨S8192x1x1x16, .f32⟩
  | .hbm, ⟨31, _⟩ => ⟨S8192x8, .f32⟩
  | .hbm, ⟨32, _⟩ => ⟨S8192x8, .f32⟩
  | .hbm, ⟨33, _⟩ => ⟨S8192x16, .f32⟩
  | .hbm, ⟨34, _⟩ => ⟨S8192x1x1x16, .f32⟩
  | .hbm, ⟨35, _⟩ => ⟨S8192x8x2x16, .f32⟩
  | .hbm, ⟨36, _⟩ => ⟨S8192x8x2x8, .f32⟩
  | .hbm, ⟨37, _⟩ => ⟨S8192x8x2x8, .f32⟩
  | .hbm, ⟨38, _⟩ => ⟨S8192x8x2x8, .f32⟩
  | .hbm, ⟨39, _⟩ => ⟨S8192x8x2x16, .f32⟩
  | .hbm, ⟨40, _⟩ => ⟨S8192x8x2x16, .f32⟩
  | .hbm, ⟨41, _⟩ => ⟨S8192x8x2x16, .f32⟩
  | .hbm, ⟨42, _⟩ => ⟨S8192x8x2x16, .f32⟩
  | .hbm, ⟨43, _⟩ => ⟨S8192x8x2x16, .f32⟩
  | .hbm, ⟨44, _⟩ => ⟨S8192x8x2x16, .f32⟩
  | .hbm, ⟨45, _⟩ => ⟨S8192x8x2x48, .f32⟩
  | .hbm, ⟨46, _⟩ => ⟨S8192x8x2x64, .f32⟩
  | .hbm, ⟨47, _⟩ => ⟨S_, .f32⟩
  | .hbm, ⟨48, _⟩ => ⟨S8192x8x2x64, .f32⟩
  | .hbm, ⟨49, _⟩ => ⟨S8192x8x2x64, .f32⟩
  | .hbm, ⟨50, _⟩ => ⟨S_, .f32⟩
  | .hbm, ⟨51, _⟩ => ⟨S8192x8x2x64, .f32⟩
  | .hbm, ⟨52, _⟩ => ⟨S8192x8x2x64, .f32⟩
  | .hbm, ⟨53, _⟩ => ⟨S8192x1024, .f32⟩
  | .hbm, ⟨54, _⟩ => ⟨S1024x8192, .f32⟩
  | .hbm, ⟨55, _⟩ => ⟨S1024x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== Proof.AttModel.lean ====
module

public import proofs.«01_k».proof.Proof.Gen.KernelIdeal.Loops
public import Idealize.ShloMosaic.Lib.VecWindow

/-! What one point of the attention kernel computes, as a function of its blocks, at any float interpretation:
the accumulators of the shifted softmax, those of the online softmax, and the block it writes. -/

@[expose] public section

set_option maxRecDepth 16384

noncomputable section

namespace Cert.KernelIdeal.Att

open Idealize.ShloMosaic Idealize.ShloMosaic.TcCoe
open Cert.KernelIdeal Cert.KernelIdeal.Gen

variable {F : FTy → Type} [FloatOps F]

/-- The `j`-th chunk of 1024 keys. -/
def kc (x3 : Vec F S8192x128 .bf16) (j : ℕ) : Vec F S1024x128 .bf16 :=
  VecWindow.window x3 ![1024 * (j % 8), 0] S1024x128.size (by
    have := Nat.mod_lt j (show 0 < 8 by omega)
    intro a; fin_cases a
    · show 1024 * (j % 8) + 1024 ≤ 8192; omega
    · show 0 + 128 ≤ 128; omega)

/-- The `j`-th chunk of 1024 values. -/
def vc (x4 : Vec F S8x128x1024 .bf16) (j : ℕ) : Vec F S1x128x1024 .bf16 :=
  VecWindow.window x4 ![j % 8, 0, 0] S1x128x1024.size (by
    have := Nat.mod_lt j (show 0 < 8 by omega)
    intro a; fin_cases a
    · show j % 8 + 1 ≤ 8; omega
    · show 0 + 128 ≤ 128; omega
    · show 0 + 1024 ≤ 1024; omega)

/-- The largest squared norm of the first `n` chunks' keys, one number per map. -/
def kn (x3 : Vec F S8192x128 .bf16) : ℕ → FVec F S1x1 .f32 × FVec F S1x1 .f32
  | 0 => (k0_pay74, k0_pay74)
  | n + 1 => (k0_pay76 (kn x3 n).1 (kc x3 n), k0_pay77 (kn x3 n).2 (kc x3 n))

/-- The accumulator before the first chunk. -/
def zacc : Vec F S1x128x1024 .f32 := fun _ => Scalar.ofBits .f32 0x00000000#32

section Map
variable (q : FVec F S128x1024 .bf16) (m : FVec F S1x1024 .f32) (x3 : Vec F S8192x128 .bf16) (x4 : Vec F S8x128x1024 .bf16)

/-- The probabilities of chunk `j`, shifted by `m`, -/
def P (j : ℕ) : FVec F S1x1024x1024 .bf16 := k0_pay86 q m (kc x3 j)
/-- and their sums over the chunk. -/
def L (j : ℕ) : FVec F S1x1024 .f32 := k0_pay87 q m (kc x3 j)

/-- The sum of the probabilities of the first `n` chunks. -/
def S : ℕ → FVec F S1x1024 .f32
  | 0 => k0_pay73
  | n + 1 => addf (S n) (L q m x3 n)

/-- The values weighted by them. -/
def A : ℕ → Vec F S1x128x1024 .f32
  | 0 => zacc
  | n + 1 => k0_pay99 (vc x4 n) (A n) (P q m x3 n)

/-- The scores of chunk `j` -/
def Sc (j : ℕ) : FVec F S1x1024x1024 .f32 := k0_pay57 q (kc x3 j)
/-- and their largest per query. -/
def Mx (j : ℕ) : FVec F S1x1024 .f32 := k0_pay58 q (kc x3 j)

/-- The online softmax's maximum, sum and accumulator after the first `n` chunks. -/
def O : ℕ → FVec F S1x1024 .f32 × FVec F S1x1024 .f32 × Vec F S1x128x1024 .f32
  | 0 => (k0_pay55, k0_pay73, zacc)
  | n + 1 => (k0_pay32 (O n).1 (Mx q x3 n),
      k0_pay35 (O n).1 (O n).2.1 (Mx q x3 n) (Sc q x3 n),
      k0_pay36 (k0_pay31 (vc x4 n)) (k0_pay33 (O n).1 (Mx q x3 n)) (k0_pay34 (O n).1 (Mx q x3 n) (Sc q x3 n)) (O n).2.2)
end Map

/-- The smallest of the two maps' sums is below the threshold under which the kernel starts over with the online softmax. -/
def low (l0 l1 : FVec F S1x1024 .f32) : Prop :=
  Scalar.cmpi .ne (Scalar.extui (Scalar.xori (Scalar.cmpf .oge (k0_pay110 l0 l1) (FloatOps.ofBits .f32 562036736#32)) 1#1)) 0#32 = 1#1

section Point
variable (x2 : Vec F S128x1024 .bf16) (x3 : Vec F S8192x128 .bf16) (x4 : Vec F S8x128x1024 .bf16)
  (x5 x6 x7 x8 : Vec F S1x64 .f32) (x9 : Vec F S1x128 .f32)

/-- The queries of map 0 (the features of map 1 zero) -/
def q0 : FVec F S128x1024 .bf16 := k0_pay71 x2
/-- and of map 1. -/
def q1 : FVec F S128x1024 .bf16 := k0_pay72 x2
/-- The shift of map 0 -/
def m0 : FVec F S1x1024 .f32 := k0_pay81 x2 (k0_pay78 (kn x3 8).1)
/-- and of map 1. -/
def m1 : FVec F S1x1024 .f32 := k0_pay82 x2 (k0_pay79 (kn x3 8).2)

/-- The block from the shifted softmax -/
def outFast : FVec F S1024x128 .bf16 :=
  k0_pay1 (k0_pay111 x5 x6 x7 x8) (A (q0 x2) (m0 x2 x3) x3 x4 8) (k0_pay108 (S (q0 x2) (m0 x2 x3) x3 8))
    (A (q1 x2) (m1 x2 x3) x3 x4 8) (k0_pay109 (S (q1 x2) (m1 x2 x3) x3 8)) x9
/-- and from the online one. -/
def outSlow : FVec F S1024x128 .bf16 :=
  k0_pay1 (k0_pay111 x5 x6 x7 x8) (O (q0 x2) x3 x4 8).2.2 (k0_pay68 (O (q0 x2) x3 x4 8).2.1)
    (O (q1 x2) x3 x4 8).2.2 (k0_pay69 (O (q1 x2) x3 x4 8).2.1) x9

open scoped Classical in
/-- What the kernel writes. -/
def out : FVec F S1024x128 .bf16 :=
  if low (S (q0 x2) (m0 x2 x3) x3 8) (S (q1 x2) (m1 x2 x3) x3 8) then outSlow x2 x3 x4 x5 x6 x7 x8 x9
  else outFast x2 x3 x4 x5 x6 x7 x8 x9
end Point

end Cert.KernelIdeal.Att
end
-- ==== Proof.Slots.lean ====
module

public import Idealize.ShloMosaic.Lib.VecWindow
public import Idealize.ShloMosaic.Lib.Exec

/-! Reading one box of a buffer that holds a list of stores of boxes. -/

@[expose] public section

namespace Cert.Slots

open Idealize.ShloMosaic

variable {sig : RefSig} {κ : Kind} {sp : Space} {s : Shape} {e : EltTy} {Val : EltTy → Type}

/-- The box of the newest store reads that store's payload. -/
theorem hit (v : View sig κ sp s e) (f : v.ty.Contents Val) {off off' size : Fin s.rank → ℕ} (inb : ∀ a, off a + size a ≤ s.size a)
    (inb' : ∀ a, off' a + size a ≤ s.size a) (w : (Rect.unit off' size inb').shape.Idx → Val e) (L : List (View.Piece Val s e)) (h : off = off') :
    v.readAt Val (Rect.unit off size inb).toLoadRect (v.writes Val f (⟨Rect.unit off' size inb', w⟩ :: L)) = w := by
  subst h
  funext y
  exact View.read_writes_cons_unit_of_mem v f inb w L _ y rfl fun a => by
    show off a + 1 * (y a).val = off a + (y a).val
    omega

/-- A box apart from the newest store's along one axis reads what was there before it. -/
theorem miss (v : View sig κ sp s e) (f : v.ty.Contents Val) {off size off' size' : Fin s.rank → ℕ} (inb : ∀ a, off a + size a ≤ s.size a)
    (inb' : ∀ a, off' a + size' a ≤ s.size a) (w : (Rect.unit off' size' inb').shape.Idx → Val e) (L : List (View.Piece Val s e))
    (a : Fin s.rank) (h : off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  funext y
  refine View.read_writes_cons_unit_of_not_mem v f inb' w L _ rfl a ?_
  have hy : (y a).val < size a := (y a).isLt
  have e : (((Rect.unit off size inb).toLoadRect.idx y) a).val = off a + 1 * (y a).val := rfl
  rw [e]
  omega

/-- After a store of the whole buffer a box reads its part of the payload. -/
theorem under (v : View sig κ sp s e) (f : v.ty.Contents Val) {off size off' : Fin s.rank → ℕ} (inb : ∀ a, off a + size a ≤ s.size a)
    (inb' : ∀ a, off' a + s.size a ≤ s.size a) (w : (Rect.unit off' s.size inb').shape.Idx → Val e) (L : List (View.Piece Val s e)) :
    v.readAt Val (Rect.unit off size inb).toLoadRect (v.writes Val f (⟨Rect.unit off' s.size inb', w⟩ :: L))
      = VecWindow.window (s := s) w off size inb := by
  rw [View.readAt_unit v _ inb rfl inb, View.read_writes_full]

end Cert.Slots
end
-- ==== Proof.AttLoops.lean ====
module

public import proofs.«01_k».proof.Proof.AttModel
public import proofs.«01_k».proof.Proof.Slots

/-! The kernel's three counted loops against the model: what they carry and what the slots of the scratch buffers read
after `n` trips. -/

@[expose] public section

set_option maxRecDepth 16384

noncomputable section

namespace Cert.KernelIdeal.Att

open Idealize.ShloMosaic Idealize.ShloMosaic.TcCoe
open Cert.KernelIdeal Cert.KernelIdeal.Gen

variable {F : FTy → Type} [FloatOps F]

variable {arg2 : Memref sig .tc .vmem S128x1024 .bf16} {harg2 : arg2.IsWhole} {arg3 : Memref sig .tc .vmem S8192x128 .bf16} {harg3 : arg3.IsWhole} {arg4 : Memref sig .tc .vmem S8x128x1024 .bf16} {harg4 : arg4.IsWhole}
  {arg5 : Memref sig .tc .vmem S1x64 .f32} {harg5 : arg5.IsWhole} {arg6 : Memref sig .tc .vmem S1x64 .f32} {harg6 : arg6.IsWhole} {arg7 : Memref sig .tc .vmem S1x64 .f32} {harg7 : arg7.IsWhole} {arg8 : Memref sig .tc .vmem S1x64 .f32} {harg8 : arg8.IsWhole}
  {arg9 : Memref sig .tc .vmem S1x128 .f32} {harg9 : arg9.IsWhole} {arg10 : Memref sig .tc .vmem S1024x128 .bf16} {harg10 : arg10.IsWhole} {arg11 : Memref sig .tc .vmem S2x128x1024 .f32} {harg11 : arg11.IsWhole}
  {arg12 : Memref sig .tc .vmem S2x1x1024 .f32} {harg12 : arg12.IsWhole} {arg13 : Memref sig .tc .vmem S2x1x128 .f32} {harg13 : arg13.IsWhole} {arg14 : Memref sig .tc .vmem S2x1024x1024 .f32} {harg14 : arg14.IsWhole}
  {arg15 : Memref sig .tc .vmem S2x1024x1024 .f32} {harg15 : arg15.IsWhole} {arg16 : Memref sig .tc .vmem S2x1024x1024 .bf16} {harg16 : arg16.IsWhole} {arg17 : Memref sig .tc .vmem S2x1024x1024 .bf16} {harg17 : arg17.IsWhole}

/-- A load of chunk `j`'s keys. -/
theorem read_kc (v : View sig .tc .vmem S8192x128 .bf16) (f : v.ty.Contents (Elt F)) (j : ℕ) (hj : j < 8) {off : Fin 2 → ℕ} (inb : ∀ a, off a + S1024x128.size a ≤ S8192x128.size a)
    (h : off = ![1024 * j, 0]) : v.readAt (Elt F) (Rect.unit (s := S8192x128) off S1024x128.size inb).toLoadRect f = kc (v.read (Elt F) f) j :=
  View.readAt_unit v f inb (h.trans (by rw [Nat.mod_eq_of_lt hj])) _

/-- A load of chunk `j`'s values. -/
theorem read_vc (v : View sig .tc .vmem S8x128x1024 .bf16) (f : v.ty.Contents (Elt F)) (j : ℕ) (hj : j < 8) {off : Fin 3 → ℕ} (inb : ∀ a, off a + S1x128x1024.size a ≤ S8x128x1024.size a)
    (h : off = ![j, 0, 0]) : v.readAt (Elt F) (Rect.unit (s := S8x128x1024) off S1x128x1024.size inb).toLoadRect f = vc (v.read (Elt F) f) j :=
  View.readAt_unit v f inb (h.trans (by rw [Nat.mod_eq_of_lt hj])) _

theorem trips1 : k0_t1_loop.trips = 8 := by decide +kernel
theorem trips2 : k0_t2_loop.trips = 3 := by decide +kernel
theorem trips3 : k0_t3_loop.trips = 4 := by decide +kernel

variable (c : Dev nD) (i : grid0.Coords) (f3 : BufTy.Contents (Elt F) arg3.view.ty) (f4 : BufTy.Contents (Elt F) arg4.view.ty)

/-- The key norms after `n` trips of the first loop. -/
theorem t1_inv (h1 : k0_cond1 i = 1#1) : ∀ n, n ≤ 8 →
    st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 f3 (k0_pay74, k0_pay74) n = kn (arg3.view.read (Elt F) f3) n
  | 0, _ => rfl
  | n + 1, hn => by
    have hk : n < k0_t1_loop.trips := by rw [trips1]; omega
    have e := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 f3 (k0_pay74, k0_pay74) ⟨n, hk⟩
    rw [t1_inv h1 n (by omega)] at e
    rw [e]
    unfold tripR_k0_t1 trip_k0_t1
    have hr := read_kc arg3.view f3 n (by omega) (k0_off1_inb i ⟨n, hk⟩ h1) (k0_off1_eq ⟨n, hk⟩)
    show (k0_pay76 _ _, k0_pay77 _ _) = _
    rw [hr]; rfl

/-- The accumulation of one chunk, equal at every place the body does it. -/
theorem acc0 {V V' : Vec F S1x128x1024 .bf16} {B B' : Vec F S1x128x1024 .f32} {p p' : FVec F S1x1024x1024 .bf16} (hV : V = V') (hB : B = B') (hp : p = p') :
    k0_pay23 V B p = k0_pay99 V' B' p' := by subst hV hB hp; rfl

theorem acc1 {V V' : Vec F S1x128x1024 .bf16} {B B' : Vec F S1x128x1024 .f32} {p p' : FVec F S1x1024x1024 .bf16} (hV : V = V') (hB : B = B') (hp : p = p') :
    k0_pay24 V B p = k0_pay99 V' B' p' := by subst hV hB hp; rfl

section Fast
variable (q0 q1 : FVec F S128x1024 .bf16) (m0 m1 : FVec F S1x1024 .f32)

/-- What the accumulator's slots and the first probability buffer read when the first `n` chunks are accumulated and the
    probabilities of chunk `n` are at hand. -/
structure Fast (n : ℕ) (s : FVec F S1x1024 .f32 × FVec F S1x1024 .f32 × FVec F S1x1024 .f32 × FVec F S1x1024 .f32)
    (g11 : BufTy.Contents (Elt F) arg11.view.ty) (g16 : BufTy.Contents (Elt F) arg16.view.ty) : Prop where
  ls : s = (S q0 m0 (arg3.view.read (Elt F) f3) n, S q1 m1 (arg3.view.read (Elt F) f3) n, L q0 m0 (arg3.view.read (Elt F) f3) n, L q1 m1 (arg3.view.read (Elt F) f3) n)
  a0 : View.readAt (Elt F) arg11.view (Rect.unit (s := S2x128x1024) ![0, 0, 0] S1x128x1024.size inb_S2x128x1024_S1x128x1024_0_0_0).toLoadRect g11 = A q0 m0 (arg3.view.read (Elt F) f3) (arg4.view.read (Elt F) f4) n
  a1 : View.readAt (Elt F) arg11.view (Rect.unit (s := S2x128x1024) ![1, 0, 0] S1x128x1024.size inb_S2x128x1024_S1x128x1024_1_0_0).toLoadRect g11 = A q1 m1 (arg3.view.read (Elt F) f3) (arg4.view.read (Elt F) f4) n
  p0 : View.readAt (Elt F) arg16.view (Rect.unit (s := S2x1024x1024) ![0, 0, 0] S1x1024x1024.size inb_S2x1024x1024_S1x1024x1024_0_0_0).toLoadRect g16 = P q0 m0 (arg3.view.read (Elt F) f3) n
  p1 : View.readAt (Elt F) arg16.view (Rect.unit (s := S2x1024x1024) ![1, 0, 0] S1x1024x1024.size inb_S2x1024x1024_S1x1024x1024_1_0_0).toLoadRect g16 = P q1 m1 (arg3.view.read (Elt F) f3) n

/-- One trip of the second loop accumulates two chunks. -/
theorem t2_step (k : Fin k0_t2_loop.trips) (s g11 g16 g17)
    (h : Fast f3 f4 q0 q1 m0 m1 (arg11 := arg11) (arg16 := arg16) (2 * k.val) s g11 g16) :
    Fast f3 f4 q0 q1 m0 m1 (arg11 := arg11) (arg16 := arg16) (2 * k.val + 2)
      (tripR_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 m0 m1 k0_pay83 f3 f4 k s g11 g16 g17)
      (arg11.view.writes (Elt F) g11 (tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 m0 m1 k0_pay83 f3 f4 k s g11 g16 g17).1)
      (arg16.view.writes (Elt F) g16 (tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 m0 m1 k0_pay83 f3 f4 k s g11 g16 g17).2.1) := by
  obtain ⟨hs, ha0, ha1, hp0, hp1⟩ := h
  have hk : k.val < 3 := lt_of_lt_of_eq k.isLt trips2
  have k1 := read_kc arg3.view f3 (2 * k.val + 1) (by omega) (k0_off2_inb k 0) ((k0_off2_eq k 0).trans (by simp; omega))
  have k2 := read_kc arg3.view f3 (2 * k.val + 2) (by omega) (k0_off2_inb k 1) ((k0_off2_eq k 1).trans (by simp; omega))
  have v0 := read_vc arg4.view f4 (2 * k.val) (by omega) (k0_off3_inb k) (k0_off3_eq k)
  have v1 := read_vc arg4.view f4 (2 * k.val + 1) (by omega) (k0_off4_inb k) (k0_off4_eq k)
  unfold tripR_k0_t2 tripL_k0_t2 trip_k0_t2
  subst hs
  have w0 : k0_pay11 (k0_pay9 (View.readAt (Elt F) arg11.view (Rect.unit (s := S2x128x1024) ![0, 0, 0] S1x128x1024.size inb_S2x128x1024_S1x128x1024_0_0_0).toLoadRect g11)) (k0_pay10 (View.readAt (Elt F) arg4.view (Rect.unit (s := S8x128x1024) (k0_off3 k) S1x128x1024.size (k0_off3_inb k)).toLoadRect f4) (View.readAt (Elt F) arg16.view (Rect.unit (s := S2x1024x1024) ![0, 0, 0] S1x1024x1024.size inb_S2x1024x1024_S1x1024x1024_0_0_0).toLoadRect g16)) = A q0 m0 (arg3.view.read (Elt F) f3) (arg4.view.read (Elt F) f4) (2 * k.val + 1) := by
    rw [v0, ha0, hp0]; rfl
  have w1 : k0_pay12 (k0_pay8 (View.readAt (Elt F) arg4.view (Rect.unit (s := S8x128x1024) (k0_off3 k) S1x128x1024.size (k0_off3_inb k)).toLoadRect f4)) (View.readAt (Elt F) arg11.view (Rect.unit (s := S2x128x1024) ![1, 0, 0] S1x128x1024.size inb_S2x128x1024_S1x128x1024_1_0_0).toLoadRect g11) (View.readAt (Elt F) arg16.view (Rect.unit (s := S2x1024x1024) ![1, 0, 0] S1x1024x1024.size inb_S2x1024x1024_S1x1024x1024_1_0_0).toLoadRect g16) = A q1 m1 (arg3.view.read (Elt F) f3) (arg4.view.read (Elt F) f4) (2 * k.val + 1) := by
    rw [v0, ha1, hp1]; rfl
  refine ⟨?_, ?_, ?_, ?_, ?_⟩
  · show (k0_pay13 _ _ (k0_pay4 q0 m0 _), k0_pay14 _ _ (k0_pay7 q1 m1 _), k0_pay17 q0 m0 _, k0_pay21 (k0_pay18 q1 m1 _)) = _
    refine Prod.ext ?_ (Prod.ext ?_ (Prod.ext ?_ ?_))
    · exact congrArg (fun x => k0_pay13 (S q0 m0 (arg3.view.read (Elt F) f3) (2 * k.val)) (L q0 m0 (arg3.view.read (Elt F) f3) (2 * k.val)) (k0_pay4 q0 m0 x)) k1
    · exact congrArg (fun x => k0_pay14 (S q1 m1 (arg3.view.read (Elt F) f3) (2 * k.val)) (L q1 m1 (arg3.view.read (Elt F) f3) (2 * k.val)) (k0_pay7 q1 m1 x)) k1
    · exact congrArg (fun x => k0_pay17 q0 m0 x) k2
    · exact congrArg (fun x => k0_pay21 (k0_pay18 q1 m1 x)) k2
  · refine (Slots.miss arg11.view _ _ _ _ _ 0 (Or.inl (by decide))).trans ((Slots.hit arg11.view _ _ _ _ _ rfl).trans ?_)
    refine acc0 v1 ?_ ?_
    · exact (Slots.miss arg11.view _ _ _ _ _ 0 (Or.inl (by decide))).trans ((Slots.hit arg11.view _ _ _ _ _ rfl).trans w0)
    · refine (Slots.miss arg17.view _ _ _ _ _ 0 (Or.inl (by decide))).trans ((Slots.hit arg17.view _ _ _ _ _ rfl).trans ?_)
      exact congrArg (fun x => k0_pay3 q0 m0 x) k1
  · refine (Slots.hit arg11.view _ _ _ _ _ rfl).trans ?_
    refine acc1 v1 ?_ ?_
    · exact (Slots.miss arg11.view _ _ _ _ _ 0 (Or.inr (by decide))).trans ((Slots.hit arg11.view _ _ _ _ _ rfl).trans w1)
    · refine (Slots.hit arg17.view _ _ _ _ _ rfl).trans ?_
      exact congrArg (fun x => k0_pay6 q1 m1 x) k1
  · refine (Slots.miss arg16.view _ _ _ _ _ 0 (Or.inl (by decide))).trans ((Slots.hit arg16.view _ _ _ _ _ rfl).trans ?_)
    exact congrArg (fun x => k0_pay16 q0 m0 x) k2
  · refine (Slots.hit arg16.view _ _ _ _ _ rfl).trans ?_
    exact congrArg (fun x => k0_pay20 (k0_pay18 q1 m1 x)) k2

/-- The second loop, by induction on its trips. -/
theorem t2_inv (g11 g16 g17)
    (h : Fast f3 f4 q0 q1 m0 m1 (arg11 := arg11) (arg16 := arg16) 0 (k0_pay73, k0_pay73, L q0 m0 (arg3.view.read (Elt F) f3) 0, L q1 m1 (arg3.view.read (Elt F) f3) 0) g11 g16) : ∀ n, n ≤ 3 →
    Fast f3 f4 q0 q1 m0 m1 (arg11 := arg11) (arg16 := arg16) (2 * n) (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 m0 m1 k0_pay83 f3 f4 g11 g16 g17 (k0_pay73, k0_pay73, L q0 m0 (arg3.view.read (Elt F) f3) 0, L q1 m1 (arg3.view.read (Elt F) f3) 0) n).1
      (arg11.view.writes (Elt F) g11 (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 m0 m1 k0_pay83 f3 f4 g11 g16 g17 (k0_pay73, k0_pay73, L q0 m0 (arg3.view.read (Elt F) f3) 0, L q1 m1 (arg3.view.read (Elt F) f3) 0) n).2.1) (arg16.view.writes (Elt F) g16 (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 m0 m1 k0_pay83 f3 f4 g11 g16 g17 (k0_pay73, k0_pay73, L q0 m0 (arg3.view.read (Elt F) f3) 0, L q1 m1 (arg3.view.read (Elt F) f3) 0) n).2.2.1)
  | 0, _ => h
  | n + 1, hn => by
    have hk : n < k0_t2_loop.trips := by rw [trips2]; omega
    have ih := t2_inv g11 g16 g17 h n (by omega)
    have e := st_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 m0 m1 k0_pay83 f3 f4 g11 g16 g17 (k0_pay73, k0_pay73, L q0 m0 (arg3.view.read (Elt F) f3) 0, L q1 m1 (arg3.view.read (Elt F) f3) 0) ⟨n, hk⟩
    have st := t2_step (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) c i f3 f4 q0 q1 m0 m1 ⟨n, hk⟩ _ _ _ (arg17.view.writes (Elt F) g17 (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 m0 m1 k0_pay83 f3 f4 g11 g16 g17 (k0_pay73, k0_pay73, L q0 m0 (arg3.view.read (Elt F) f3) 0, L q1 m1 (arg3.view.read (Elt F) f3) 0) n).2.2.2) ih
    have e' : st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 m0 m1 k0_pay83 f3 f4 g11 g16 g17 (k0_pay73, k0_pay73, L q0 m0 (arg3.view.read (Elt F) f3) 0, L q1 m1 (arg3.view.read (Elt F) f3) 0) (n + 1) = _ := e
    rw [← View.writes_append, ← View.writes_append] at st
    exact Eq.mpr (congrArg (fun z => Fast f3 f4 q0 q1 m0 m1 (arg11 := arg11) (arg16 := arg16) (2 * (n + 1)) z.1 (arg11.view.writes (Elt F) g11 z.2.1) (arg16.view.writes (Elt F) g16 z.2.2.1)) e') st
end Fast

/-- The online softmax's accumulation of one chunk, equal at every place the body does it. -/
theorem slo0 {V V' : Vec F S1x128x1024 .bf16} {m m' x x' : FVec F S1x1024 .f32} {s s' : FVec F S1x1024x1024 .f32} {B B' : Vec F S1x128x1024 .f32}
    (hV : V = V') (hm : m = m') (hx : x = x') (hs : s = s') (hB : B = B') :
    k0_pay62 (k0_pay53 x m V s B) = k0_pay36 (k0_pay31 V') (k0_pay33 m' x') (k0_pay34 m' x' s') B' := by subst hV hm hx hs hB; rfl

theorem slo1 {V V' : Vec F S1x128x1024 .bf16} {m m' x x' : FVec F S1x1024 .f32} {s s' : FVec F S1x1024x1024 .f32} {B B' : Vec F S1x128x1024 .f32}
    (hV : V = V') (hm : m = m') (hx : x = x') (hs : s = s') (hB : B = B') :
    k0_pay67 x m (k0_pay48 V) s B = k0_pay36 (k0_pay31 V') (k0_pay33 m' x') (k0_pay34 m' x' s') B' := by subst hV hm hx hs hB; rfl

/-- The online softmax's maximum, likewise. -/
theorem max0 {m m' x x' : FVec F S1x1024 .f32} (hm : m = m') (hx : x = x') : k0_pay49 x m = k0_pay32 m' x' := by subst hx hm; rfl

theorem max1 {m m' x x' : FVec F S1x1024 .f32} (hm : m = m') (hx : x = x') : k0_pay63 x m = k0_pay32 m' x' := by subst hx hm; rfl

/-- The online softmax's sum over one chunk, likewise. -/
theorem sum0 {m m' x x' l l' : FVec F S1x1024 .f32} {s s' : FVec F S1x1024x1024 .f32} (hm : m = m') (hx : x = x') (hl : l = l') (hs : s = s') :
    k0_pay52 x m l s = k0_pay35 m' l' x' s' := by subst hm hx hl hs; rfl

theorem sum1 {m m' x x' l l' : FVec F S1x1024 .f32} {s s' : FVec F S1x1024x1024 .f32} (hm : m = m') (hx : x = x') (hl : l = l') (hs : s = s') :
    k0_pay66 x m l s = k0_pay35 m' l' x' s' := by subst hm hx hl hs; rfl

section Slow
variable (q0 q1 : FVec F S128x1024 .bf16)

/-- What the accumulator's slots and the first score buffer read when the first `n` chunks are done and the scores of the
    next chunk (of the last one at the end) are at hand. -/
structure Slow (n : ℕ) (s : FVec F S1x1024 .f32 × FVec F S1x1024 .f32 × FVec F S1x1024 .f32 × FVec F S1x1024 .f32 × FVec F S1x1024 .f32 × FVec F S1x1024 .f32)
    (g11 : BufTy.Contents (Elt F) arg11.view.ty) (g14 : BufTy.Contents (Elt F) arg14.view.ty) : Prop where
  ls : s = ((O q0 (arg3.view.read (Elt F) f3) (arg4.view.read (Elt F) f4) n).1, (O q1 (arg3.view.read (Elt F) f3) (arg4.view.read (Elt F) f4) n).1, (O q0 (arg3.view.read (Elt F) f3) (arg4.view.read (Elt F) f4) n).2.1, (O q1 (arg3.view.read (Elt F) f3) (arg4.view.read (Elt F) f4) n).2.1, Mx q0 (arg3.view.read (Elt F) f3) (min n 7), Mx q1 (arg3.view.read (Elt F) f3) (min n 7))
  a0 : View.readAt (Elt F) arg11.view (Rect.unit (s := S2x128x1024) ![0, 0, 0] S1x128x1024.size inb_S2x128x1024_S1x128x1024_0_0_0).toLoadRect g11 = (O q0 (arg3.view.read (Elt F) f3) (arg4.view.read (Elt F) f4) n).2.2
  a1 : View.readAt (Elt F) arg11.view (Rect.unit (s := S2x128x1024) ![1, 0, 0] S1x128x1024.size inb_S2x128x1024_S1x128x1024_1_0_0).toLoadRect g11 = (O q1 (arg3.view.read (Elt F) f3) (arg4.view.read (Elt F) f4) n).2.2
  s0 : View.readAt (Elt F) arg14.view (Rect.unit (s := S2x1024x1024) ![0, 0, 0] S1x1024x1024.size inb_S2x1024x1024_S1x1024x1024_0_0_0).toLoadRect g14 = Sc q0 (arg3.view.read (Elt F) f3) (min n 7)
  s1 : View.readAt (Elt F) arg14.view (Rect.unit (s := S2x1024x1024) ![1, 0, 0] S1x1024x1024.size inb_S2x1024x1024_S1x1024x1024_1_0_0).toLoadRect g14 = Sc q1 (arg3.view.read (Elt F) f3) (min n 7)

/-- One trip of the third loop does two chunks. -/
theorem t3_step (k : Fin k0_t3_loop.trips) (s g11 g14 g15)
    (h : Slow f3 f4 q0 q1 (arg11 := arg11) (arg14 := arg14) (2 * k.val) s g11 g14) :
    Slow f3 f4 q0 q1 (arg11 := arg11) (arg14 := arg14) (2 * k.val + 2)
      (tripR_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 f3 f4 k s g11 g14 g15)
      (arg11.view.writes (Elt F) g11 (tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 f3 f4 k s g11 g14 g15).1)
      (arg14.view.writes (Elt F) g14 (tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 f3 f4 k s g11 g14 g15).2.1) := by
  have hk : k.val < 4 := lt_of_lt_of_eq k.isLt trips3
  obtain ⟨hs, ha0, ha1, hp0, hp1⟩ := h
  rw [show min (2 * k.val) 7 = 2 * k.val by omega] at hs hp0 hp1
  have k1 := read_kc arg3.view f3 (2 * k.val + 1) (by omega) (k0_off5_inb k) ((k0_off5_eq k).trans (by congr 1; omega))
  have k2 := read_kc arg3.view f3 (min (2 * k.val + 2) 7) (by omega) (k0_off7_inb k) (k0_off7_eq k)
  have v0 := read_vc arg4.view f4 (2 * k.val) (by omega) (k0_off6_inb k) (k0_off6_eq k)
  have v1 := read_vc arg4.view f4 (2 * k.val + 1) (by omega) (k0_off8_inb k) (k0_off8_eq k)
  unfold tripR_k0_t3 tripL_k0_t3 trip_k0_t3
  subst hs
  have x0 : k0_pay27 q0 (View.readAt (Elt F) arg3.view (Rect.unit (s := S8192x128) (k0_off5 k) S1024x128.size (k0_off5_inb k)).toLoadRect f3) = Mx q0 (arg3.view.read (Elt F) f3) (2 * k.val + 1) := by
    rw [k1]; rfl
  have x1 : k0_pay30 q1 (View.readAt (Elt F) arg3.view (Rect.unit (s := S8192x128) (k0_off5 k) S1024x128.size (k0_off5_inb k)).toLoadRect f3) = Mx q1 (arg3.view.read (Elt F) f3) (2 * k.val + 1) := by
    rw [k1]; rfl
  have l0 : k0_pay35 (O q0 (arg3.view.read (Elt F) f3) (arg4.view.read (Elt F) f4) (2 * k.val)).1 (O q0 (arg3.view.read (Elt F) f3) (arg4.view.read (Elt F) f4) (2 * k.val)).2.1 (Mx q0 (arg3.view.read (Elt F) f3) (2 * k.val)) (View.readAt (Elt F) arg14.view (Rect.unit (s := S2x1024x1024) ![0, 0, 0] S1x1024x1024.size inb_S2x1024x1024_S1x1024x1024_0_0_0).toLoadRect g14) = (O q0 (arg3.view.read (Elt F) f3) (arg4.view.read (Elt F) f4) (2 * k.val + 1)).2.1 := by
    rw [hp0]; rfl
  have l1 : k0_pay40 (O q1 (arg3.view.read (Elt F) f3) (arg4.view.read (Elt F) f4) (2 * k.val)).1 (O q1 (arg3.view.read (Elt F) f3) (arg4.view.read (Elt F) f4) (2 * k.val)).2.1 (Mx q1 (arg3.view.read (Elt F) f3) (2 * k.val)) (View.readAt (Elt F) arg14.view (Rect.unit (s := S2x1024x1024) ![1, 0, 0] S1x1024x1024.size inb_S2x1024x1024_S1x1024x1024_1_0_0).toLoadRect g14) = (O q1 (arg3.view.read (Elt F) f3) (arg4.view.read (Elt F) f4) (2 * k.val + 1)).2.1 := by
    rw [hp1]; rfl
  have w0 : k0_pay36 (k0_pay31 (View.readAt (Elt F) arg4.view (Rect.unit (s := S8x128x1024) (k0_off6 k) S1x128x1024.size (k0_off6_inb k)).toLoadRect f4))
      (k0_pay33 (O q0 (arg3.view.read (Elt F) f3) (arg4.view.read (Elt F) f4) (2 * k.val)).1 (Mx q0 (arg3.view.read (Elt F) f3) (2 * k.val))) (k0_pay34 (O q0 (arg3.view.read (Elt F) f3) (arg4.view.read (Elt F) f4) (2 * k.val)).1 (Mx q0 (arg3.view.read (Elt F) f3) (2 * k.val)) (View.readAt (Elt F) arg14.view (Rect.unit (s := S2x1024x1024) ![0, 0, 0] S1x1024x1024.size inb_S2x1024x1024_S1x1024x1024_0_0_0).toLoadRect g14))
      (View.readAt (Elt F) arg11.view (Rect.unit (s := S2x128x1024) ![0, 0, 0] S1x128x1024.size inb_S2x128x1024_S1x128x1024_0_0_0).toLoadRect g11) = (O q0 (arg3.view.read (Elt F) f3) (arg4.view.read (Elt F) f4) (2 * k.val + 1)).2.2 := by
    rw [v0, ha0, hp0]; rfl
  have w1 : k0_pay41 (O q1 (arg3.view.read (Elt F) f3) (arg4.view.read (Elt F) f4) (2 * k.val)).1 (Mx q1 (arg3.view.read (Elt F) f3) (2 * k.val)) (k0_pay31 (View.readAt (Elt F) arg4.view (Rect.unit (s := S8x128x1024) (k0_off6 k) S1x128x1024.size (k0_off6_inb k)).toLoadRect f4))
      (View.readAt (Elt F) arg14.view (Rect.unit (s := S2x1024x1024) ![1, 0, 0] S1x1024x1024.size inb_S2x1024x1024_S1x1024x1024_1_0_0).toLoadRect g14) (View.readAt (Elt F) arg11.view (Rect.unit (s := S2x128x1024) ![1, 0, 0] S1x128x1024.size inb_S2x128x1024_S1x128x1024_1_0_0).toLoadRect g11) = (O q1 (arg3.view.read (Elt F) f3) (arg4.view.read (Elt F) f4) (2 * k.val + 1)).2.2 := by
    rw [v0, ha1, hp1]; rfl
  have b0 (B) : View.readAt (Elt F) arg15.view (Rect.unit (s := S2x1024x1024) ![0, 0, 0] S1x1024x1024.size inb_S2x1024x1024_S1x1024x1024_0_0_0).toLoadRect (arg15.view.writes (Elt F) B [⟨(Rect.unit (s := S2x1024x1024) ![1, 0, 0] S1x1024x1024.size inb_S2x1024x1024_S1x1024x1024_1_0_0), k0_pay29 q1 (View.readAt (Elt F) arg3.view (Rect.unit (s := S8192x128) (k0_off5 k) S1024x128.size (k0_off5_inb k)).toLoadRect f3)⟩,
      ⟨(Rect.unit (s := S2x1024x1024) ![0, 0, 0] S1x1024x1024.size inb_S2x1024x1024_S1x1024x1024_0_0_0), k0_pay26 q0 (View.readAt (Elt F) arg3.view (Rect.unit (s := S8192x128) (k0_off5 k) S1024x128.size (k0_off5_inb k)).toLoadRect f3)⟩]) = Sc q0 (arg3.view.read (Elt F) f3) (2 * k.val + 1) := by
    refine (Slots.miss arg15.view _ _ _ _ _ 0 (Or.inl (by decide))).trans ((Slots.hit arg15.view _ _ _ _ _ rfl).trans ?_)
    rw [k1]; rfl
  have b1 (B) : View.readAt (Elt F) arg15.view (Rect.unit (s := S2x1024x1024) ![1, 0, 0] S1x1024x1024.size inb_S2x1024x1024_S1x1024x1024_1_0_0).toLoadRect (arg15.view.writes (Elt F) B [⟨(Rect.unit (s := S2x1024x1024) ![1, 0, 0] S1x1024x1024.size inb_S2x1024x1024_S1x1024x1024_1_0_0), k0_pay29 q1 (View.readAt (Elt F) arg3.view (Rect.unit (s := S8192x128) (k0_off5 k) S1024x128.size (k0_off5_inb k)).toLoadRect f3)⟩,
      ⟨(Rect.unit (s := S2x1024x1024) ![0, 0, 0] S1x1024x1024.size inb_S2x1024x1024_S1x1024x1024_0_0_0), k0_pay26 q0 (View.readAt (Elt F) arg3.view (Rect.unit (s := S8192x128) (k0_off5 k) S1024x128.size (k0_off5_inb k)).toLoadRect f3)⟩]) = Sc q1 (arg3.view.read (Elt F) f3) (2 * k.val + 1) := by
    refine (Slots.hit arg15.view _ _ _ _ _ rfl).trans ?_
    rw [k1]; rfl
  have oS (q : FVec F S128x1024 .bf16) : O q (arg3.view.read (Elt F) f3) (arg4.view.read (Elt F) f4) (2 * k.val + 2) = (k0_pay32 (O q (arg3.view.read (Elt F) f3) (arg4.view.read (Elt F) f4) (2 * k.val + 1)).1 (Mx q (arg3.view.read (Elt F) f3) (2 * k.val + 1)),
      k0_pay35 (O q (arg3.view.read (Elt F) f3) (arg4.view.read (Elt F) f4) (2 * k.val + 1)).1 (O q (arg3.view.read (Elt F) f3) (arg4.view.read (Elt F) f4) (2 * k.val + 1)).2.1 (Mx q (arg3.view.read (Elt F) f3) (2 * k.val + 1)) (Sc q (arg3.view.read (Elt F) f3) (2 * k.val + 1)),
      k0_pay36 (k0_pay31 (vc (arg4.view.read (Elt F) f4) (2 * k.val + 1))) (k0_pay33 (O q (arg3.view.read (Elt F) f3) (arg4.view.read (Elt F) f4) (2 * k.val + 1)).1 (Mx q (arg3.view.read (Elt F) f3) (2 * k.val + 1))) (k0_pay34 (O q (arg3.view.read (Elt F) f3) (arg4.view.read (Elt F) f4) (2 * k.val + 1)).1 (Mx q (arg3.view.read (Elt F) f3) (2 * k.val + 1)) (Sc q (arg3.view.read (Elt F) f3) (2 * k.val + 1))) (O q (arg3.view.read (Elt F) f3) (arg4.view.read (Elt F) f4) (2 * k.val + 1)).2.2) := rfl
  have oM (q : FVec F S128x1024 .bf16) : k0_pay32 (O q (arg3.view.read (Elt F) f3) (arg4.view.read (Elt F) f4) (2 * k.val)).1 (Mx q (arg3.view.read (Elt F) f3) (2 * k.val)) = (O q (arg3.view.read (Elt F) f3) (arg4.view.read (Elt F) f4) (2 * k.val + 1)).1 := rfl
  refine ⟨?_, ?_, ?_, ?_, ?_⟩
  · rw [oS, oS]
    show (k0_pay49 _ _, k0_pay63 _ _, k0_pay52 _ _ _ _, k0_pay66 _ _ _ _, k0_pay44 (k0_pay42 _ _), k0_pay47 _ _) = (k0_pay32 _ _, k0_pay32 _ _, k0_pay35 _ _ _ _, k0_pay35 _ _ _ _, _, _)
    refine congr (congrArg Prod.mk ?_) (congr (congrArg Prod.mk ?_) (congr (congrArg Prod.mk ?_) (congr (congrArg Prod.mk ?_) (congr (congrArg Prod.mk ?_) ?_))))
    · refine max0 ?_ ?_
      · unfold trip_k0_t3.sl.r_3; dsimp only; exact oM q0
      · exact x0
    · refine max1 ?_ ?_
      · unfold trip_k0_t3.sl.r_8; dsimp only; exact oM q1
      · exact x1
    · refine sum0 ?_ ?_ ?_ ?_
      · unfold trip_k0_t3.sl.r_3; dsimp only; exact oM q0
      · exact x0
      · unfold trip_k0_t3.sl.r_6; dsimp only; exact l0
      · exact b0 _
    · refine sum1 ?_ ?_ ?_ ?_
      · unfold trip_k0_t3.sl.r_8; dsimp only; exact oM q1
      · exact x1
      · unfold trip_k0_t3.sl.r_9; dsimp only; exact l1
      · exact b1 _
    · exact congrArg (fun x => k0_pay44 (k0_pay42 q0 x)) k2
    · exact congrArg (fun x => k0_pay47 q1 x) k2
  · rw [oS]
    refine (Slots.miss arg11.view _ _ _ _ _ 0 (Or.inl (by decide))).trans ((Slots.hit arg11.view _ _ _ _ _ rfl).trans ?_)
    refine slo0 v1 ?_ x0 (b0 _) ?_
    · unfold trip_k0_t3.sl.r_3; dsimp only; exact oM q0
    exact (Slots.miss arg11.view _ _ _ _ _ 0 (Or.inl (by decide))).trans ((Slots.hit arg11.view _ _ _ _ _ rfl).trans (by unfold trip_k0_t3.sl.r_2 trip_k0_t3.sl.r_4 trip_k0_t3.sl.r_5 trip_k0_t3.sl.r_7; dsimp only; exact w0))
  · rw [oS]
    refine (Slots.hit arg11.view _ _ _ _ _ rfl).trans ?_
    refine slo1 v1 ?_ x1 (b1 _) ?_
    · unfold trip_k0_t3.sl.r_8; dsimp only; exact oM q1
    exact (Slots.miss arg11.view _ _ _ _ _ 0 (Or.inr (by decide))).trans ((Slots.hit arg11.view _ _ _ _ _ rfl).trans (by unfold trip_k0_t3.sl.r_2 trip_k0_t3.sl.v283; dsimp only; exact w1))
  · refine (Slots.miss arg14.view _ _ _ _ _ 0 (Or.inl (by decide))).trans ((Slots.hit arg14.view _ _ _ _ _ rfl).trans ?_)
    exact congrArg (fun x => k0_pay43 (k0_pay42 q0 x)) k2
  · refine (Slots.hit arg14.view _ _ _ _ _ rfl).trans ?_
    exact congrArg (fun x => k0_pay46 q1 x) k2

/-- The third loop, by induction on its trips. -/
theorem t3_inv (g11 g14 g15) (s0)
    (h : Slow f3 f4 q0 q1 (arg11 := arg11) (arg14 := arg14) 0 s0 g11 g14) : ∀ n, n ≤ 4 →
    Slow f3 f4 q0 q1 (arg11 := arg11) (arg14 := arg14) (2 * n) (st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 f3 f4 g11 g14 g15 s0 n).1
      (arg11.view.writes (Elt F) g11 (st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 f3 f4 g11 g14 g15 s0 n).2.1) (arg14.view.writes (Elt F) g14 (st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 f3 f4 g11 g14 g15 s0 n).2.2.1)
  | 0, _ => h
  | n + 1, hn => by
    have hk : n < k0_t3_loop.trips := by rw [trips3]; omega
    have ih := t3_inv g11 g14 g15 s0 h n (by omega)
    have e := st_k0_t3_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 f3 f4 g11 g14 g15 s0 ⟨n, hk⟩
    have st := t3_step (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) c i f3 f4 q0 q1 ⟨n, hk⟩ _ _ _ (arg15.view.writes (Elt F) g15 (st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 f3 f4 g11 g14 g15 s0 n).2.2.2) ih
    have e' : st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q0 q1 k0_pay73 f3 f4 g11 g14 g15 s0 (n + 1) = _ := e
    rw [← View.writes_append, ← View.writes_append] at st
    exact Eq.mpr (congrArg (fun z => Slow f3 f4 q0 q1 (arg11 := arg11) (arg14 := arg14) (2 * (n + 1)) z.1 (arg11.view.writes (Elt F) g11 z.2.1) (arg14.view.writes (Elt F) g14 z.2.2.1)) e') st
end Slow

end Cert.KernelIdeal.Att
end
-- ==== Proof.AttRun.lean ====
module

public import proofs.«01_k».proof.Proof.AttLoops
public import proofs.«01_k».proof.Proof.Gen.KernelIdeal.Frame

/-! One grid point's run: what the body leaves in the output block and in the key norms. -/

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

variable {arg2 : Memref sig .tc .vmem S128x1024 .bf16} {harg2 : arg2.IsWhole} {arg3 : Memref sig .tc .vmem S8192x128 .bf16} {harg3 : arg3.IsWhole} {arg4 : Memref sig .tc .vmem S8x128x1024 .bf16} {harg4 : arg4.IsWhole}
  {arg5 : Memref sig .tc .vmem S1x64 .f32} {harg5 : arg5.IsWhole} {arg6 : Memref sig .tc .vmem S1x64 .f32} {harg6 : arg6.IsWhole} {arg7 : Memref sig .tc .vmem S1x64 .f32} {harg7 : arg7.IsWhole} {arg8 : Memref sig .tc .vmem S1x64 .f32} {harg8 : arg8.IsWhole}
  {arg9 : Memref sig .tc .vmem S1x128 .f32} {harg9 : arg9.IsWhole} {arg10 : Memref sig .tc .vmem S1024x128 .bf16} {harg10 : arg10.IsWhole} {arg11 : Memref sig .tc .vmem S2x128x1024 .f32} {harg11 : arg11.IsWhole}
  {arg12 : Memref sig .tc .vmem S2x1x1024 .f32} {harg12 : arg12.IsWhole} {arg13 : Memref sig .tc .vmem S2x1x128 .f32} {harg13 : arg13.IsWhole} {arg14 : Memref sig .tc .vmem S2x1024x1024 .f32} {harg14 : arg14.IsWhole}
  {arg15 : Memref sig .tc .vmem S2x1024x1024 .f32} {harg15 : arg15.IsWhole} {arg16 : Memref sig .tc .vmem S2x1024x1024 .bf16} {harg16 : arg16.IsWhole} {arg17 : Memref sig .tc .vmem S2x1024x1024 .bf16} {harg17 : arg17.IsWhole}

set_option maxHeartbeats 4000000 in
/-- A point after the head's first: the key norms are at hand. -/
theorem runB (c : Dev nD) (E : Set ℕ) (i : grid0.Coords) (hc : ¬ (k0_cond1 i = 1#1)) (K : PUnit → sProp 𝕄G) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (h13 : View.readAt (Elt F) arg13.view (Rect.unit (s := S2x1x128) ![0, 0, 0] S1x1x128.size inb_S2x1x128_S1x1x128_0_0_0).toLoadRect f13 = k0_pay78 (kn (arg3.view.read (Elt F) f3) 8).1 ∧ View.readAt (Elt F) arg13.view (Rect.unit (s := S2x1x128) ![1, 0, 0] S1x1x128.size inb_S2x1x128_S1x1x128_1_0_0).toLoadRect f13 = k0_pay79 (kn (arg3.view.read (Elt F) f3) 8).2) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ g, (arg10.view.loc (c : Thread nD τ) ↦[arg10.view.set]{fullShare} g) ∗ ⌜arg10.view.read (Elt F) g = out (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9)⌝) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g) ∗ ⌜View.readAt (Elt F) arg13.view (Rect.unit (s := S2x1x128) ![0, 0, 0] S1x1x128.size inb_S2x1x128_S1x1x128_0_0_0).toLoadRect g = k0_pay78 (kn (arg3.view.read (Elt F) f3) 8).1 ∧ View.readAt (Elt F) arg13.view (Rect.unit (s := S2x1x128) ![1, 0, 0] S1x1x128.size inb_S2x1x128_S1x1x128_1_0_0).toLoadRect g = k0_pay79 (kn (arg3.view.read (Elt F) f3) 8).2⌝) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g))) -∗ K PUnit.unit)) ⊢ wp frame (wpE (defs₀ (F := F)) Variants.none (c : Thread nD τ) none) E (cc0_diff_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_diff_attention_eq_skeleton]; unfold cc0_diff_attention_skel
  iintro ⟨H2, H3, H4, H5, H6, H7, H8, H9, H10, H11, H12, H13, H14, H15, H16, H17, HK⟩
  sl_exec (disch := sl_exact hc)
  have hq0 : runB.sl.r (F := F) (arg2 := arg2) (f2 := f2) = (q0 (arg2.view.read (Elt F) f2)) := by unfold runB.sl.r; rw [View.readAt_full]; rfl
  have hq1 : runB.sl.r_1 (F := F) (arg2 := arg2) (f2 := f2) = (q1 (arg2.view.read (Elt F) f2)) := by unfold runB.sl.r_1; rw [View.readAt_full]; rfl
  have hm0 : runB.sl.r_2 (F := F) (arg2 := arg2) (arg13 := arg13) (f2 := f2) (f13 := f13) = (m0 (arg2.view.read (Elt F) f2) (arg3.view.read (Elt F) f3)) := by unfold runB.sl.r_2; rw [View.readAt_full, h13.1]; rfl
  have hm1 : runB.sl.r_3 (F := F) (arg2 := arg2) (arg13 := arg13) (f2 := f2) (f13 := f13) = (m1 (arg2.view.read (Elt F) f2) (arg3.view.read (Elt F) f3)) := by unfold runB.sl.r_3; rw [View.readAt_full, h13.2]; rfl
  have hK0 := fun (_ : Unit) => read_kc arg3.view f3 0 (by omega) inb_S8192x128_S1024x128_0_0 rfl
  have hK7 := fun (_ : Unit) => read_kc arg3.view f3 7 (by omega) inb_S8192x128_S1024x128_7168_0 rfl
  have hV6 := fun (_ : Unit) => read_vc arg4.view f4 6 (by omega) inb_S8x128x1024_S1x128x1024_6_0_0 rfl
  have hV7 := fun (_ : Unit) => read_vc arg4.view f4 7 (by omega) inb_S8x128x1024_S1x128x1024_7_0_0 rfl
  have h0 : Fast f3 f4 (q0 (arg2.view.read (Elt F) f2)) (q1 (arg2.view.read (Elt F) f2)) (m0 (arg2.view.read (Elt F) f2) (arg3.view.read (Elt F) f3)) (m1 (arg2.view.read (Elt F) f2) (arg3.view.read (Elt F) f3)) (arg11 := arg11) (arg16 := arg16) 0 (k0_pay73, k0_pay73, L (q0 (arg2.view.read (Elt F) f2)) (m0 (arg2.view.read (Elt F) f2) (arg3.view.read (Elt F) f3)) (arg3.view.read (Elt F) f3) 0, L (q1 (arg2.view.read (Elt F) f2)) (m1 (arg2.view.read (Elt F) f2) (arg3.view.read (Elt F) f3)) (arg3.view.read (Elt F) f3) 0) (arg11.view.writes (Elt F) arg11.view.junk (runB.sl.H11_1 (F := F) )) (arg16.view.writes (Elt F) arg16.view.junk (runB.sl.H16_2 (F := F) (arg2 := arg2) (arg3 := arg3) (arg13 := arg13) (f2 := f2) (f3 := f3) (f13 := f13))) := by
    refine ⟨rfl, ?_, ?_, ?_, ?_⟩
    · unfold runB.sl.H11_1; exact (Slots.under arg11.view _ _ _ _ _).trans rfl
    · unfold runB.sl.H11_1; exact (Slots.under arg11.view _ _ _ _ _).trans rfl
    · unfold runB.sl.H16_2; refine (Slots.miss arg16.view _ _ _ _ _ 0 (Or.inl (by decide))).trans ((Slots.hit arg16.view _ _ _ _ _ rfl).trans ?_); rw [hK0 (), hq0, hm0]; rfl
    · unfold runB.sl.H16_2; refine (Slots.hit arg16.view _ _ _ _ _ rfl).trans ?_; rw [hK0 (), hq1, hm1]; rfl
  have hF := t2_inv (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) c i f3 f4 (q0 (arg2.view.read (Elt F) f2)) (q1 (arg2.view.read (Elt F) f2)) (m0 (arg2.view.read (Elt F) f2) (arg3.view.read (Elt F) f3)) (m1 (arg2.view.read (Elt F) f2) (arg3.view.read (Elt F) f3)) (arg11.view.writes (Elt F) arg11.view.junk (runB.sl.H11_1 (F := F) )) (arg16.view.writes (Elt F) arg16.view.junk (runB.sl.H16_2 (F := F) (arg2 := arg2) (arg3 := arg3) (arg13 := arg13) (f2 := f2) (f3 := f3) (f13 := f13))) f17 h0 3 le_rfl
  have hst : st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (runB.sl.r (F := F) (arg2 := arg2) (f2 := f2)) (runB.sl.r_1 (F := F) (arg2 := arg2) (f2 := f2)) k0_pay73 (runB.sl.r_2 (F := F) (arg2 := arg2) (arg13 := arg13) (f2 := f2) (f13 := f13)) (runB.sl.r_3 (F := F) (arg2 := arg2) (arg13 := arg13) (f2 := f2) (f13 := f13)) k0_pay83 f3 f4 (arg11.view.writes (Elt F) arg11.view.junk (runB.sl.H11_1 (F := F) )) (arg16.view.writes (Elt F) arg16.view.junk (runB.sl.H16_2 (F := F) (arg2 := arg2) (arg3 := arg3) (arg13 := arg13) (f2 := f2) (f3 := f3) (f13 := f13))) f17 (k0_pay73, k0_pay73, (k0_pay87 (runB.sl.r (F := F) (arg2 := arg2) (f2 := f2)) (runB.sl.r_2 (F := F) (arg2 := arg2) (arg13 := arg13) (f2 := f2) (f13 := f13)) (View.readAt (Elt F) arg3.view (Rect.unit (s := S8192x128) ![0, 0] S1024x128.size inb_S8192x128_S1024x128_0_0).toLoadRect f3)), (k0_pay90 (runB.sl.r_1 (F := F) (arg2 := arg2) (f2 := f2)) (runB.sl.r_3 (F := F) (arg2 := arg2) (arg13 := arg13) (f2 := f2) (f13 := f13)) (View.readAt (Elt F) arg3.view (Rect.unit (s := S8192x128) ![0, 0] S1024x128.size inb_S8192x128_S1024x128_0_0).toLoadRect f3))) (Scf.trips k0_t2_loop.lb k0_t2_loop.ub k0_t2_loop.st) = st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (q0 (arg2.view.read (Elt F) f2)) (q1 (arg2.view.read (Elt F) f2)) k0_pay73 (m0 (arg2.view.read (Elt F) f2) (arg3.view.read (Elt F) f3)) (m1 (arg2.view.read (Elt F) f2) (arg3.view.read (Elt F) f3)) k0_pay83 f3 f4 (arg11.view.writes (Elt F) arg11.view.junk (runB.sl.H11_1 (F := F) )) (arg16.view.writes (Elt F) arg16.view.junk (runB.sl.H16_2 (F := F) (arg2 := arg2) (arg3 := arg3) (arg13 := arg13) (f2 := f2) (f3 := f3) (f13 := f13))) f17 (k0_pay73, k0_pay73, (L (q0 (arg2.view.read (Elt F) f2)) (m0 (arg2.view.read (Elt F) f2) (arg3.view.read (Elt F) f3)) (arg3.view.read (Elt F) f3) 0), (L (q1 (arg2.view.read (Elt F) f2)) (m1 (arg2.view.read (Elt F) f2) (arg3.view.read (Elt F) f3)) (arg3.view.read (Elt F) f3) 0)) (3) := by
    rw [hq0, hq1, hm0, hm1, hK0 ()]
    exact congrArg _ trips2
  have h4 : runB.sl.r_4 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = S (q0 (arg2.view.read (Elt F) f2)) (m0 (arg2.view.read (Elt F) f2) (arg3.view.read (Elt F) f3)) (arg3.view.read (Elt F) f3) 6 := by unfold runB.sl.r_4; rw [hst]; exact congrArg (fun z => z.1) hF.ls
  have h5 : runB.sl.r_5 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = S (q1 (arg2.view.read (Elt F) f2)) (m1 (arg2.view.read (Elt F) f2) (arg3.view.read (Elt F) f3)) (arg3.view.read (Elt F) f3) 6 := by unfold runB.sl.r_5; rw [hst]; exact congrArg (fun z => z.2.1) hF.ls
  have h6 : runB.sl.r_6 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = L (q0 (arg2.view.read (Elt F) f2)) (m0 (arg2.view.read (Elt F) f2) (arg3.view.read (Elt F) f3)) (arg3.view.read (Elt F) f3) 6 := by unfold runB.sl.r_6; rw [hst]; exact congrArg (fun z => z.2.2.1) hF.ls
  have h7 : runB.sl.r_7 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = L (q1 (arg2.view.read (Elt F) f2)) (m1 (arg2.view.read (Elt F) f2) (arg3.view.read (Elt F) f3)) (arg3.view.read (Elt F) f3) 6 := by unfold runB.sl.r_7; rw [hst]; exact congrArg (fun z => z.2.2.2) hF.ls
  have h90 : runB.sl.v90 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = A (q0 (arg2.view.read (Elt F) f2)) (m0 (arg2.view.read (Elt F) f2) (arg3.view.read (Elt F) f3)) (arg3.view.read (Elt F) f3) (arg4.view.read (Elt F) f4) 6 := by unfold runB.sl.v90; rw [hst, View.readCov, View.writes_append]; exact hF.a0
  have h92 : runB.sl.v92 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = P (q0 (arg2.view.read (Elt F) f2)) (m0 (arg2.view.read (Elt F) f2) (arg3.view.read (Elt F) f3)) (arg3.view.read (Elt F) f3) 6 := by unfold runB.sl.v92; rw [hst, View.readCov, View.writes_append]; exact hF.p0
  have h101 : runB.sl.v101 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = P (q1 (arg2.view.read (Elt F) f2)) (m1 (arg2.view.read (Elt F) f2) (arg3.view.read (Elt F) f3)) (arg3.view.read (Elt F) f3) 6 := by unfold runB.sl.v101; rw [hst, View.readCov, View.writes_append]; exact hF.p1
  have h99 : runB.sl.v99 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = A (q1 (arg2.view.read (Elt F) f2)) (m1 (arg2.view.read (Elt F) f2) (arg3.view.read (Elt F) f3)) (arg3.view.read (Elt F) f3) (arg4.view.read (Elt F) f4) 6 := by
    unfold runB.sl.v99 runB.sl.H11_1_1; refine (Slots.miss arg11.view _ _ _ _ _ 0 (Or.inr (by decide))).trans ?_
    rw [hst, View.writes_append]; exact hF.a1
  have h110 : runB.sl.v110 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = A (q0 (arg2.view.read (Elt F) f2)) (m0 (arg2.view.read (Elt F) f2) (arg3.view.read (Elt F) f3)) (arg3.view.read (Elt F) f3) (arg4.view.read (Elt F) f4) 7 := by
    unfold runB.sl.v110 runB.sl.H11_2 runB.sl.H11_1_1; refine (Slots.miss arg11.view _ _ _ _ _ 0 (Or.inl (by decide))).trans ((Slots.hit arg11.view _ _ _ _ _ rfl).trans ?_)
    rw [hV6 (), h90, h92]; rfl
  have h119 : runB.sl.v119 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = A (q1 (arg2.view.read (Elt F) f2)) (m1 (arg2.view.read (Elt F) f2) (arg3.view.read (Elt F) f3)) (arg3.view.read (Elt F) f3) (arg4.view.read (Elt F) f4) 7 := by
    unfold runB.sl.v119 runB.sl.H11_3 runB.sl.H11_2; refine (Slots.miss arg11.view _ _ _ _ _ 0 (Or.inr (by decide))).trans ((Slots.hit arg11.view _ _ _ _ _ rfl).trans ?_)
    unfold runB.sl.r_13 runB.sl.r_14 runB.sl.r_15; rw [hV6 (), h99, h101]; rfl
  have h112 : runB.sl.v112 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = P (q0 (arg2.view.read (Elt F) f2)) (m0 (arg2.view.read (Elt F) f2) (arg3.view.read (Elt F) f3)) (arg3.view.read (Elt F) f3) 7 := by
    unfold runB.sl.v112 runB.sl.H17_2; refine (Slots.miss arg17.view _ _ _ _ _ 0 (Or.inl (by decide))).trans ((Slots.hit arg17.view _ _ _ _ _ rfl).trans ?_)
    unfold runB.sl.r_10; rw [hq0, hm0, hK7 ()]; rfl
  have h121 : runB.sl.v121 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = P (q1 (arg2.view.read (Elt F) f2)) (m1 (arg2.view.read (Elt F) f2) (arg3.view.read (Elt F) f3)) (arg3.view.read (Elt F) f3) 7 := by
    unfold runB.sl.v121 runB.sl.H17_2; refine (Slots.hit arg17.view _ _ _ _ _ rfl).trans ?_
    unfold runB.sl.r_8; rw [hq1, hm1, hK7 ()]; rfl
  have h16 : runB.sl.r_16 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = S (q0 (arg2.view.read (Elt F) f2)) (m0 (arg2.view.read (Elt F) f2) (arg3.view.read (Elt F) f3)) (arg3.view.read (Elt F) f3) 8 := by
    unfold runB.sl.r_16 runB.sl.r_11 runB.sl.r_9; rw [h4, h6, hq0, hm0, hK7 ()]; rfl
  have h17 : runB.sl.r_17 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = S (q1 (arg2.view.read (Elt F) f2)) (m1 (arg2.view.read (Elt F) f2) (arg3.view.read (Elt F) f3)) (arg3.view.read (Elt F) f3) 8 := by
    unfold runB.sl.r_17 runB.sl.r_12 runB.sl.r_8; rw [h5, h7, hq1, hm1, hK7 ()]; rfl
  have hlow : runB.sl.v146 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = 1#1 ↔ low (S (q0 (arg2.view.read (Elt F) f2)) (m0 (arg2.view.read (Elt F) f2) (arg3.view.read (Elt F) f3)) (arg3.view.read (Elt F) f3) 8) (S (q1 (arg2.view.read (Elt F) f2)) (m1 (arg2.view.read (Elt F) f2) (arg3.view.read (Elt F) f3)) (arg3.view.read (Elt F) f3) 8) := by
    unfold runB.sl.v146 runB.sl.v145 runB.sl.v144 runB.sl.v143 runB.sl.cst_92; rw [h16, h17]; rfl
  rcases Classical.em (runB.sl.v146 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = 1#1) with hT | hT
  all_goals sl_exec (disch := first | sl_exact hT | sl_exact hc)
  all_goals sl_step
  · have s0 : Slow f3 f4 (q0 (arg2.view.read (Elt F) f2)) (q1 (arg2.view.read (Elt F) f2)) (arg11 := arg11) (arg14 := arg14) 0 (k0_pay55, k0_pay55, k0_pay73, k0_pay73, Mx (q0 (arg2.view.read (Elt F) f2)) (arg3.view.read (Elt F) f3) 0, Mx (q1 (arg2.view.read (Elt F) f2)) (arg3.view.read (Elt F) f3) 0) (arg11.view.writes (Elt F) arg11.view.junk (⟨Rect.unit (s := S2x128x1024) ![0, 0, 0] S2x128x1024.size inb_S2x128x1024_S2x128x1024_0_0_0, k0_pay54⟩ :: ⟨Rect.unit (s := S2x128x1024) ![1, 0, 0] S1x128x1024.size inb_S2x128x1024_S1x128x1024_1_0_0, k0_pay105 (View.readAt (Elt F) arg4.view (Rect.unit (s := S8x128x1024) ![7, 0, 0] S1x128x1024.size inb_S8x128x1024_S1x128x1024_7_0_0).toLoadRect f4) (runB.sl.v119 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17)) (runB.sl.v121 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17))⟩ :: runB.sl.H11_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17))) (arg14.view.writes (Elt F) arg14.view.junk (runB.sl.H14_2 (F := F) (arg2 := arg2) (arg3 := arg3) (f2 := f2) (f3 := f3))) := by
      refine ⟨rfl, ?_, ?_, ?_, ?_⟩
      · exact (Slots.under arg11.view _ _ _ _ _).trans rfl
      · exact (Slots.under arg11.view _ _ _ _ _).trans rfl
      · unfold runB.sl.H14_2; refine (Slots.miss arg14.view _ _ _ _ _ 0 (Or.inl (by decide))).trans ((Slots.hit arg14.view _ _ _ _ _ rfl).trans ?_); rw [hK0 (), hq0]; rfl
      · unfold runB.sl.H14_2; refine (Slots.hit arg14.view _ _ _ _ _ rfl).trans ?_; rw [hK0 (), hq1]; rfl
    have hS := t3_inv (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) c i f3 f4 (q0 (arg2.view.read (Elt F) f2)) (q1 (arg2.view.read (Elt F) f2)) (arg11.view.writes (Elt F) arg11.view.junk (⟨Rect.unit (s := S2x128x1024) ![0, 0, 0] S2x128x1024.size inb_S2x128x1024_S2x128x1024_0_0_0, k0_pay54⟩ :: ⟨Rect.unit (s := S2x128x1024) ![1, 0, 0] S1x128x1024.size inb_S2x128x1024_S1x128x1024_1_0_0, k0_pay105 (View.readAt (Elt F) arg4.view (Rect.unit (s := S8x128x1024) ![7, 0, 0] S1x128x1024.size inb_S8x128x1024_S1x128x1024_7_0_0).toLoadRect f4) (runB.sl.v119 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17)) (runB.sl.v121 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17))⟩ :: runB.sl.H11_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17))) (arg14.view.writes (Elt F) arg14.view.junk (runB.sl.H14_2 (F := F) (arg2 := arg2) (arg3 := arg3) (f2 := f2) (f3 := f3))) f15 _ s0 4 le_rfl
    have hst3 : st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (runB.sl.r (F := F) (arg2 := arg2) (f2 := f2)) (runB.sl.r_1 (F := F) (arg2 := arg2) (f2 := f2)) k0_pay73 f3 f4 (arg11.view.writes (Elt F) arg11.view.junk (⟨Rect.unit (s := S2x128x1024) ![0, 0, 0] S2x128x1024.size inb_S2x128x1024_S2x128x1024_0_0_0, k0_pay54⟩ :: ⟨Rect.unit (s := S2x128x1024) ![1, 0, 0] S1x128x1024.size inb_S2x128x1024_S1x128x1024_1_0_0, k0_pay105 (View.readAt (Elt F) arg4.view (Rect.unit (s := S8x128x1024) ![7, 0, 0] S1x128x1024.size inb_S8x128x1024_S1x128x1024_7_0_0).toLoadRect f4) (runB.sl.v119 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17)) (runB.sl.v121 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17))⟩ :: runB.sl.H11_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17))) (arg14.view.writes (Elt F) arg14.view.junk (runB.sl.H14_2 (F := F) (arg2 := arg2) (arg3 := arg3) (f2 := f2) (f3 := f3))) f15 (k0_pay55, k0_pay55, k0_pay73, k0_pay73, (k0_pay58 (runB.sl.r (F := F) (arg2 := arg2) (f2 := f2)) (View.readAt (Elt F) arg3.view (Rect.unit (s := S8192x128) ![0, 0] S1024x128.size inb_S8192x128_S1024x128_0_0).toLoadRect f3)), (k0_pay61 (runB.sl.r_1 (F := F) (arg2 := arg2) (f2 := f2)) (View.readAt (Elt F) arg3.view (Rect.unit (s := S8192x128) ![0, 0] S1024x128.size inb_S8192x128_S1024x128_0_0).toLoadRect f3))) (Scf.trips k0_t3_loop.lb k0_t3_loop.ub k0_t3_loop.st) = st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (q0 (arg2.view.read (Elt F) f2)) (q1 (arg2.view.read (Elt F) f2)) k0_pay73 f3 f4 (arg11.view.writes (Elt F) arg11.view.junk (⟨Rect.unit (s := S2x128x1024) ![0, 0, 0] S2x128x1024.size inb_S2x128x1024_S2x128x1024_0_0_0, k0_pay54⟩ :: ⟨Rect.unit (s := S2x128x1024) ![1, 0, 0] S1x128x1024.size inb_S2x128x1024_S1x128x1024_1_0_0, k0_pay105 (View.readAt (Elt F) arg4.view (Rect.unit (s := S8x128x1024) ![7, 0, 0] S1x128x1024.size inb_S8x128x1024_S1x128x1024_7_0_0).toLoadRect f4) (runB.sl.v119 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17)) (runB.sl.v121 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17))⟩ :: runB.sl.H11_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17))) (arg14.view.writes (Elt F) arg14.view.junk (runB.sl.H14_2 (F := F) (arg2 := arg2) (arg3 := arg3) (f2 := f2) (f3 := f3))) f15 (k0_pay55, k0_pay55, k0_pay73, k0_pay73, (Mx (q0 (arg2.view.read (Elt F) f2)) (arg3.view.read (Elt F) f3) 0), (Mx (q1 (arg2.view.read (Elt F) f2)) (arg3.view.read (Elt F) f3) 0)) (4) := by
      rw [hq0, hq1, hK0 ()]
      exact congrArg _ trips3
    have h166 : runB.sl.v166 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f15 := f15) (f17 := f17) = (O (q0 (arg2.view.read (Elt F) f2)) (arg3.view.read (Elt F) f3) (arg4.view.read (Elt F) f4) 8).2.2 := by unfold runB.sl.v166; rw [hst3, View.readCov, View.writes_append]; exact hS.a0
    have h172 : runB.sl.v172 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f15 := f15) (f17 := f17) = (O (q1 (arg2.view.read (Elt F) f2)) (arg3.view.read (Elt F) f3) (arg4.view.read (Elt F) f4) 8).2.2 := by unfold runB.sl.v172; rw [hst3, View.readCov, View.writes_append]; exact hS.a1
    have h168 : runB.sl.v168 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f15 := f15) (f17 := f17) = k0_pay68 (O (q0 (arg2.view.read (Elt F) f2)) (arg3.view.read (Elt F) f3) (arg4.view.read (Elt F) f4) 8).2.1 := by
      unfold runB.sl.v168 runB.sl.H12_4; refine (Slots.miss arg12.view _ _ _ _ _ 0 (Or.inl (by decide))).trans ((Slots.hit arg12.view _ _ _ _ _ rfl).trans ?_); rw [hst3]; exact congrArg (fun z => k0_pay68 z.2.2.1) hS.ls
    have h174 : runB.sl.v174 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f15 := f15) (f17 := f17) = k0_pay69 (O (q1 (arg2.view.read (Elt F) f2)) (arg3.view.read (Elt F) f3) (arg4.view.read (Elt F) f4) 8).2.1 := by
      unfold runB.sl.v174 runB.sl.H12_4; refine (Slots.hit arg12.view _ _ _ _ _ rfl).trans ?_; rw [hst3]; exact congrArg (fun z => k0_pay69 z.2.2.2.1) hS.ls
    have hlam : runB.sl.r_18 (F := F) (arg5 := arg5) (arg6 := arg6) (arg7 := arg7) (arg8 := arg8) (f5 := f5) (f6 := f6) (f7 := f7) (f8 := f8) = k0_pay111 (arg5.view.read (Elt F) f5) (arg6.view.read (Elt F) f6) (arg7.view.read (Elt F) f7) (arg8.view.read (Elt F) f8) := by unfold runB.sl.r_18; rw [View.readAt_full, View.readAt_full, View.readAt_full, View.readAt_full]
    have hg : View.readAt (Elt F) arg9.view (Rect.unit (s := S1x128) ![0, 0] S1x128.size inb_S1x128_S1x128_0_0).toLoadRect f9 = (arg9.view.read (Elt F) f9) := View.readAt_full _ _ _
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitl [H10]; · iexact H10
      ipureintro
      exact (View.read_writes_full _ _ _ _ _).trans (by rw [hlam, h166, h168, h172, h174, hg]; exact (if_pos (hlow.mp hT)).symm)
    isplitl [H11]; · iexists _; iexact H11
    isplitl [H12]; · iexists _; iexact H12
    isplitl [H13]
    · iexists _; isplitl [H13]; · iexact H13
      ipureintro
      exact h13
    isplitl [H14]; · iexists _; iexact H14
    isplitl [H15]; · iexists _; iexact H15
    isplitl [H16]; · iexists _; iexact H16
    iexists _; iexact H17
  · have h166 : runB.sl.v166_1 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = A (q0 (arg2.view.read (Elt F) f2)) (m0 (arg2.view.read (Elt F) f2) (arg3.view.read (Elt F) f3)) (arg3.view.read (Elt F) f3) (arg4.view.read (Elt F) f4) 8 := by
      unfold runB.sl.v166_1 runB.sl.H11_3; refine (Slots.miss arg11.view _ _ _ _ _ 0 (Or.inl (by decide))).trans ((Slots.hit arg11.view _ _ _ _ _ rfl).trans ?_); rw [hV7 (), h110, h112]; rfl
    have h172 : runB.sl.v172_1 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = A (q1 (arg2.view.read (Elt F) f2)) (m1 (arg2.view.read (Elt F) f2) (arg3.view.read (Elt F) f3)) (arg3.view.read (Elt F) f3) (arg4.view.read (Elt F) f4) 8 := by
      unfold runB.sl.v172_1; refine (Slots.hit arg11.view _ _ _ _ _ rfl).trans ?_; rw [hV7 (), h119, h121]; rfl
    have h168 : runB.sl.v168_1 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = k0_pay108 (S (q0 (arg2.view.read (Elt F) f2)) (m0 (arg2.view.read (Elt F) f2) (arg3.view.read (Elt F) f3)) (arg3.view.read (Elt F) f3) 8) := by
      unfold runB.sl.v168_1; refine (Slots.miss arg12.view _ _ _ _ _ 0 (Or.inl (by decide))).trans ((Slots.hit arg12.view _ _ _ _ _ rfl).trans ?_); rw [h16]
    have h174 : runB.sl.v174_1 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (f2 := f2) (f3 := f3) (f4 := f4) (f13 := f13) (f17 := f17) = k0_pay109 (S (q1 (arg2.view.read (Elt F) f2)) (m1 (arg2.view.read (Elt F) f2) (arg3.view.read (Elt F) f3)) (arg3.view.read (Elt F) f3) 8) := by
      unfold runB.sl.v174_1; refine (Slots.hit arg12.view _ _ _ _ _ rfl).trans ?_; rw [h17]
    have hlam : runB.sl.r_19 (F := F) (arg5 := arg5) (arg6 := arg6) (arg7 := arg7) (arg8 := arg8) (f5 := f5) (f6 := f6) (f7 := f7) (f8 := f8) = k0_pay111 (arg5.view.read (Elt F) f5) (arg6.view.read (Elt F) f6) (arg7.view.read (Elt F) f7) (arg8.view.read (Elt F) f8) := by unfold runB.sl.r_19; rw [View.readAt_full, View.readAt_full, View.readAt_full, View.readAt_full]
    have hg : View.readAt (Elt F) arg9.view (Rect.unit (s := S1x128) ![0, 0] S1x128.size inb_S1x128_S1x128_0_0).toLoadRect f9 = (arg9.view.read (Elt F) f9) := View.readAt_full _ _ _
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitl [H10]; · iexact H10
      ipureintro
      exact (View.read_writes_full _ _ _ _ _).trans (by rw [hlam, h166, h168, h172, h174, hg]; exact (if_neg (fun h => hT (hlow.mpr h))).symm)
    isplitl [H11]; · iexists _; iexact H11
    isplitl [H12]; · iexists _; iexact H12
    isplitl [H13]
    · iexists _; isplitl [H13]; · iexact H13
      ipureintro
      exact h13
    isplitl [H14]; · iexists _; iexact H14
    isplitl [H15]; · iexists _; iexact H15
    isplitl [H16]; · iexists _; iexact H16
    iexists _; iexact H17

set_option maxHeartbeats 4000000 in
/-- The head's first point: the key norms are computed. -/
theorem runA (c : Dev nD) (E : Set ℕ) (i : grid0.Coords) (hc : k0_cond1 i = 1#1) (K : PUnit → sProp 𝕄G) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ g, (arg10.view.loc (c : Thread nD τ) ↦[arg10.view.set]{fullShare} g) ∗ ⌜arg10.view.read (Elt F) g = out (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9)⌝) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g) ∗ ⌜View.readAt (Elt F) arg13.view (Rect.unit (s := S2x1x128) ![0, 0, 0] S1x1x128.size inb_S2x1x128_S1x1x128_0_0_0).toLoadRect g = k0_pay78 (kn (arg3.view.read (Elt F) f3) 8).1 ∧ View.readAt (Elt F) arg13.view (Rect.unit (s := S2x1x128) ![1, 0, 0] S1x1x128.size inb_S2x1x128_S1x1x128_1_0_0).toLoadRect g = k0_pay79 (kn (arg3.view.read (Elt F) f3) 8).2⌝) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g))) -∗ K PUnit.unit)) ⊢ wp frame (wpE (defs₀ (F := F)) Variants.none (c : Thread nD τ) none) E (cc0_diff_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_diff_attention_eq_skeleton]; unfold cc0_diff_attention_skel
  iintro ⟨H2, H3, H4, H5, H6, H7, H8, H9, H10, H11, H12, H13, H14, H15, H16, H17, HK⟩
  sl_exec (disch := sl_exact hc)
  have hkn := t1_inv (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) c i f3 hc 8 le_rfl
  have h24 : runA.sl.v24 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f3 := f3) = k0_pay78 (kn (arg3.view.read (Elt F) f3) 8).1 := by
    unfold runA.sl.v24 runA.sl.H13_2
    refine (Slots.miss arg13.view _ _ _ _ _ 0 (Or.inl (by decide))).trans ((Slots.hit arg13.view _ _ _ _ _ rfl).trans ?_)
    exact congrArg (fun z => k0_pay78 (Prod.fst z)) ((congrArg _ trips1).trans hkn)
  have h30 : runA.sl.v30 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f3 := f3) = k0_pay79 (kn (arg3.view.read (Elt F) f3) 8).2 := by
    unfold runA.sl.v30 runA.sl.H13_2
    refine (Slots.hit arg13.view _ _ _ _ _ rfl).trans ?_
    exact congrArg (fun z => k0_pay79 (Prod.snd z)) ((congrArg _ trips1).trans hkn)
  have hq0 : runA.sl.r (F := F) (arg2 := arg2) (f2 := f2) = (q0 (arg2.view.read (Elt F) f2)) := by unfold runA.sl.r; rw [View.readAt_full]; rfl
  have hq1 : runA.sl.r_1 (F := F) (arg2 := arg2) (f2 := f2) = (q1 (arg2.view.read (Elt F) f2)) := by unfold runA.sl.r_1; rw [View.readAt_full]; rfl
  have hm0 : runA.sl.r_2 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) = (m0 (arg2.view.read (Elt F) f2) (arg3.view.read (Elt F) f3)) := by unfold runA.sl.r_2; rw [View.readAt_full, h24]; rfl
  have hm1 : runA.sl.r_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) = (m1 (arg2.view.read (Elt F) f2) (arg3.view.read (Elt F) f3)) := by unfold runA.sl.r_3; rw [View.readAt_full, h30]; rfl
  have hK0 := fun (_ : Unit) => read_kc arg3.view f3 0 (by omega) inb_S8192x128_S1024x128_0_0 rfl
  have hK7 := fun (_ : Unit) => read_kc arg3.view f3 7 (by omega) inb_S8192x128_S1024x128_7168_0 rfl
  have hV6 := fun (_ : Unit) => read_vc arg4.view f4 6 (by omega) inb_S8x128x1024_S1x128x1024_6_0_0 rfl
  have hV7 := fun (_ : Unit) => read_vc arg4.view f4 7 (by omega) inb_S8x128x1024_S1x128x1024_7_0_0 rfl
  have h0 : Fast f3 f4 (q0 (arg2.view.read (Elt F) f2)) (q1 (arg2.view.read (Elt F) f2)) (m0 (arg2.view.read (Elt F) f2) (arg3.view.read (Elt F) f3)) (m1 (arg2.view.read (Elt F) f2) (arg3.view.read (Elt F) f3)) (arg11 := arg11) (arg16 := arg16) 0 (k0_pay73, k0_pay73, L (q0 (arg2.view.read (Elt F) f2)) (m0 (arg2.view.read (Elt F) f2) (arg3.view.read (Elt F) f3)) (arg3.view.read (Elt F) f3) 0, L (q1 (arg2.view.read (Elt F) f2)) (m1 (arg2.view.read (Elt F) f2) (arg3.view.read (Elt F) f3)) (arg3.view.read (Elt F) f3) 0) (arg11.view.writes (Elt F) arg11.view.junk (runA.sl.H11_1 (F := F) )) (arg16.view.writes (Elt F) arg16.view.junk (runA.sl.H16_2 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3))) := by
    refine ⟨rfl, ?_, ?_, ?_, ?_⟩
    · unfold runA.sl.H11_1; exact (Slots.under arg11.view _ _ _ _ _).trans rfl
    · unfold runA.sl.H11_1; exact (Slots.under arg11.view _ _ _ _ _).trans rfl
    · unfold runA.sl.H16_2; refine (Slots.miss arg16.view _ _ _ _ _ 0 (Or.inl (by decide))).trans ((Slots.hit arg16.view _ _ _ _ _ rfl).trans ?_); rw [hK0 (), hq0, hm0]; rfl
    · unfold runA.sl.H16_2; refine (Slots.hit arg16.view _ _ _ _ _ rfl).trans ?_; rw [hK0 (), hq1, hm1]; rfl
  have hF := t2_inv (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) c i f3 f4 (q0 (arg2.view.read (Elt F) f2)) (q1 (arg2.view.read (Elt F) f2)) (m0 (arg2.view.read (Elt F) f2) (arg3.view.read (Elt F) f3)) (m1 (arg2.view.read (Elt F) f2) (arg3.view.read (Elt F) f3)) (arg11.view.writes (Elt F) arg11.view.junk (runA.sl.H11_1 (F := F) )) (arg16.view.writes (Elt F) arg16.view.junk (runA.sl.H16_2 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3))) f17 h0 3 le_rfl
  have hst : st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (runA.sl.r (F := F) (arg2 := arg2) (f2 := f2)) (runA.sl.r_1 (F := F) (arg2 := arg2) (f2 := f2)) k0_pay73 (runA.sl.r_2 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3)) (runA.sl.r_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3)) k0_pay83 f3 f4 (arg11.view.writes (Elt F) arg11.view.junk (runA.sl.H11_1 (F := F) )) (arg16.view.writes (Elt F) arg16.view.junk (runA.sl.H16_2 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3))) f17 (k0_pay73, k0_pay73, (k0_pay87 (runA.sl.r (F := F) (arg2 := arg2) (f2 := f2)) (runA.sl.r_2 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3)) (View.readAt (Elt F) arg3.view (Rect.unit (s := S8192x128) ![0, 0] S1024x128.size inb_S8192x128_S1024x128_0_0).toLoadRect f3)), (k0_pay90 (runA.sl.r_1 (F := F) (arg2 := arg2) (f2 := f2)) (runA.sl.r_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3)) (View.readAt (Elt F) arg3.view (Rect.unit (s := S8192x128) ![0, 0] S1024x128.size inb_S8192x128_S1024x128_0_0).toLoadRect f3))) (Scf.trips k0_t2_loop.lb k0_t2_loop.ub k0_t2_loop.st) = st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (q0 (arg2.view.read (Elt F) f2)) (q1 (arg2.view.read (Elt F) f2)) k0_pay73 (m0 (arg2.view.read (Elt F) f2) (arg3.view.read (Elt F) f3)) (m1 (arg2.view.read (Elt F) f2) (arg3.view.read (Elt F) f3)) k0_pay83 f3 f4 (arg11.view.writes (Elt F) arg11.view.junk (runA.sl.H11_1 (F := F) )) (arg16.view.writes (Elt F) arg16.view.junk (runA.sl.H16_2 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3))) f17 (k0_pay73, k0_pay73, (L (q0 (arg2.view.read (Elt F) f2)) (m0 (arg2.view.read (Elt F) f2) (arg3.view.read (Elt F) f3)) (arg3.view.read (Elt F) f3) 0), (L (q1 (arg2.view.read (Elt F) f2)) (m1 (arg2.view.read (Elt F) f2) (arg3.view.read (Elt F) f3)) (arg3.view.read (Elt F) f3) 0)) (3) := by
    rw [hq0, hq1, hm0, hm1, hK0 ()]
    exact congrArg _ trips2
  have h4 : runA.sl.r_4 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = S (q0 (arg2.view.read (Elt F) f2)) (m0 (arg2.view.read (Elt F) f2) (arg3.view.read (Elt F) f3)) (arg3.view.read (Elt F) f3) 6 := by unfold runA.sl.r_4; rw [hst]; exact congrArg (fun z => z.1) hF.ls
  have h5 : runA.sl.r_5 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = S (q1 (arg2.view.read (Elt F) f2)) (m1 (arg2.view.read (Elt F) f2) (arg3.view.read (Elt F) f3)) (arg3.view.read (Elt F) f3) 6 := by unfold runA.sl.r_5; rw [hst]; exact congrArg (fun z => z.2.1) hF.ls
  have h6 : runA.sl.r_6 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = L (q0 (arg2.view.read (Elt F) f2)) (m0 (arg2.view.read (Elt F) f2) (arg3.view.read (Elt F) f3)) (arg3.view.read (Elt F) f3) 6 := by unfold runA.sl.r_6; rw [hst]; exact congrArg (fun z => z.2.2.1) hF.ls
  have h7 : runA.sl.r_7 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = L (q1 (arg2.view.read (Elt F) f2)) (m1 (arg2.view.read (Elt F) f2) (arg3.view.read (Elt F) f3)) (arg3.view.read (Elt F) f3) 6 := by unfold runA.sl.r_7; rw [hst]; exact congrArg (fun z => z.2.2.2) hF.ls
  have h90 : runA.sl.v90 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = A (q0 (arg2.view.read (Elt F) f2)) (m0 (arg2.view.read (Elt F) f2) (arg3.view.read (Elt F) f3)) (arg3.view.read (Elt F) f3) (arg4.view.read (Elt F) f4) 6 := by unfold runA.sl.v90; rw [hst, View.readCov, View.writes_append]; exact hF.a0
  have h92 : runA.sl.v92 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = P (q0 (arg2.view.read (Elt F) f2)) (m0 (arg2.view.read (Elt F) f2) (arg3.view.read (Elt F) f3)) (arg3.view.read (Elt F) f3) 6 := by unfold runA.sl.v92; rw [hst, View.readCov, View.writes_append]; exact hF.p0
  have h101 : runA.sl.v101 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = P (q1 (arg2.view.read (Elt F) f2)) (m1 (arg2.view.read (Elt F) f2) (arg3.view.read (Elt F) f3)) (arg3.view.read (Elt F) f3) 6 := by unfold runA.sl.v101; rw [hst, View.readCov, View.writes_append]; exact hF.p1
  have h99 : runA.sl.v99 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = A (q1 (arg2.view.read (Elt F) f2)) (m1 (arg2.view.read (Elt F) f2) (arg3.view.read (Elt F) f3)) (arg3.view.read (Elt F) f3) (arg4.view.read (Elt F) f4) 6 := by
    unfold runA.sl.v99 runA.sl.H11_1_1; refine (Slots.miss arg11.view _ _ _ _ _ 0 (Or.inr (by decide))).trans ?_
    rw [hst, View.writes_append]; exact hF.a1
  have h110 : runA.sl.v110 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = A (q0 (arg2.view.read (Elt F) f2)) (m0 (arg2.view.read (Elt F) f2) (arg3.view.read (Elt F) f3)) (arg3.view.read (Elt F) f3) (arg4.view.read (Elt F) f4) 7 := by
    unfold runA.sl.v110 runA.sl.H11_2 runA.sl.H11_1_1; refine (Slots.miss arg11.view _ _ _ _ _ 0 (Or.inl (by decide))).trans ((Slots.hit arg11.view _ _ _ _ _ rfl).trans ?_)
    rw [hV6 (), h90, h92]; rfl
  have h119 : runA.sl.v119 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = A (q1 (arg2.view.read (Elt F) f2)) (m1 (arg2.view.read (Elt F) f2) (arg3.view.read (Elt F) f3)) (arg3.view.read (Elt F) f3) (arg4.view.read (Elt F) f4) 7 := by
    unfold runA.sl.v119 runA.sl.H11_3 runA.sl.H11_2; refine (Slots.miss arg11.view _ _ _ _ _ 0 (Or.inr (by decide))).trans ((Slots.hit arg11.view _ _ _ _ _ rfl).trans ?_)
    unfold runA.sl.r_13 runA.sl.r_14 runA.sl.r_15; rw [hV6 (), h99, h101]; rfl
  have h112 : runA.sl.v112 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = P (q0 (arg2.view.read (Elt F) f2)) (m0 (arg2.view.read (Elt F) f2) (arg3.view.read (Elt F) f3)) (arg3.view.read (Elt F) f3) 7 := by
    unfold runA.sl.v112 runA.sl.H17_2; refine (Slots.miss arg17.view _ _ _ _ _ 0 (Or.inl (by decide))).trans ((Slots.hit arg17.view _ _ _ _ _ rfl).trans ?_)
    unfold runA.sl.r_10; rw [hq0, hm0, hK7 ()]; rfl
  have h121 : runA.sl.v121 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = P (q1 (arg2.view.read (Elt F) f2)) (m1 (arg2.view.read (Elt F) f2) (arg3.view.read (Elt F) f3)) (arg3.view.read (Elt F) f3) 7 := by
    unfold runA.sl.v121 runA.sl.H17_2; refine (Slots.hit arg17.view _ _ _ _ _ rfl).trans ?_
    unfold runA.sl.r_8; rw [hq1, hm1, hK7 ()]; rfl
  have h16 : runA.sl.r_16 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = S (q0 (arg2.view.read (Elt F) f2)) (m0 (arg2.view.read (Elt F) f2) (arg3.view.read (Elt F) f3)) (arg3.view.read (Elt F) f3) 8 := by
    unfold runA.sl.r_16 runA.sl.r_11 runA.sl.r_9; rw [h4, h6, hq0, hm0, hK7 ()]; rfl
  have h17 : runA.sl.r_17 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = S (q1 (arg2.view.read (Elt F) f2)) (m1 (arg2.view.read (Elt F) f2) (arg3.view.read (Elt F) f3)) (arg3.view.read (Elt F) f3) 8 := by
    unfold runA.sl.r_17 runA.sl.r_12 runA.sl.r_8; rw [h5, h7, hq1, hm1, hK7 ()]; rfl
  have hlow : runA.sl.v146 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = 1#1 ↔ low (S (q0 (arg2.view.read (Elt F) f2)) (m0 (arg2.view.read (Elt F) f2) (arg3.view.read (Elt F) f3)) (arg3.view.read (Elt F) f3) 8) (S (q1 (arg2.view.read (Elt F) f2)) (m1 (arg2.view.read (Elt F) f2) (arg3.view.read (Elt F) f3)) (arg3.view.read (Elt F) f3) 8) := by
    unfold runA.sl.v146 runA.sl.v145 runA.sl.v144 runA.sl.v143 runA.sl.cst_92; rw [h16, h17]; rfl
  rcases Classical.em (runA.sl.v146 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = 1#1) with hT | hT
  all_goals sl_exec (disch := first | sl_exact hT | sl_exact hc)
  all_goals sl_step
  · have s0 : Slow f3 f4 (q0 (arg2.view.read (Elt F) f2)) (q1 (arg2.view.read (Elt F) f2)) (arg11 := arg11) (arg14 := arg14) 0 (k0_pay55, k0_pay55, k0_pay73, k0_pay73, Mx (q0 (arg2.view.read (Elt F) f2)) (arg3.view.read (Elt F) f3) 0, Mx (q1 (arg2.view.read (Elt F) f2)) (arg3.view.read (Elt F) f3) 0) (arg11.view.writes (Elt F) arg11.view.junk (⟨Rect.unit (s := S2x128x1024) ![0, 0, 0] S2x128x1024.size inb_S2x128x1024_S2x128x1024_0_0_0, k0_pay54⟩ :: ⟨Rect.unit (s := S2x128x1024) ![1, 0, 0] S1x128x1024.size inb_S2x128x1024_S1x128x1024_1_0_0, k0_pay105 (View.readAt (Elt F) arg4.view (Rect.unit (s := S8x128x1024) ![7, 0, 0] S1x128x1024.size inb_S8x128x1024_S1x128x1024_7_0_0).toLoadRect f4) (runA.sl.v119 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17)) (runA.sl.v121 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17))⟩ :: runA.sl.H11_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17))) (arg14.view.writes (Elt F) arg14.view.junk (runA.sl.H14_2 (F := F) (arg2 := arg2) (arg3 := arg3) (f2 := f2) (f3 := f3))) := by
      refine ⟨rfl, ?_, ?_, ?_, ?_⟩
      · exact (Slots.under arg11.view _ _ _ _ _).trans rfl
      · exact (Slots.under arg11.view _ _ _ _ _).trans rfl
      · unfold runA.sl.H14_2; refine (Slots.miss arg14.view _ _ _ _ _ 0 (Or.inl (by decide))).trans ((Slots.hit arg14.view _ _ _ _ _ rfl).trans ?_); rw [hK0 (), hq0]; rfl
      · unfold runA.sl.H14_2; refine (Slots.hit arg14.view _ _ _ _ _ rfl).trans ?_; rw [hK0 (), hq1]; rfl
    have hS := t3_inv (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) c i f3 f4 (q0 (arg2.view.read (Elt F) f2)) (q1 (arg2.view.read (Elt F) f2)) (arg11.view.writes (Elt F) arg11.view.junk (⟨Rect.unit (s := S2x128x1024) ![0, 0, 0] S2x128x1024.size inb_S2x128x1024_S2x128x1024_0_0_0, k0_pay54⟩ :: ⟨Rect.unit (s := S2x128x1024) ![1, 0, 0] S1x128x1024.size inb_S2x128x1024_S1x128x1024_1_0_0, k0_pay105 (View.readAt (Elt F) arg4.view (Rect.unit (s := S8x128x1024) ![7, 0, 0] S1x128x1024.size inb_S8x128x1024_S1x128x1024_7_0_0).toLoadRect f4) (runA.sl.v119 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17)) (runA.sl.v121 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17))⟩ :: runA.sl.H11_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17))) (arg14.view.writes (Elt F) arg14.view.junk (runA.sl.H14_2 (F := F) (arg2 := arg2) (arg3 := arg3) (f2 := f2) (f3 := f3))) f15 _ s0 4 le_rfl
    have hst3 : st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (runA.sl.r (F := F) (arg2 := arg2) (f2 := f2)) (runA.sl.r_1 (F := F) (arg2 := arg2) (f2 := f2)) k0_pay73 f3 f4 (arg11.view.writes (Elt F) arg11.view.junk (⟨Rect.unit (s := S2x128x1024) ![0, 0, 0] S2x128x1024.size inb_S2x128x1024_S2x128x1024_0_0_0, k0_pay54⟩ :: ⟨Rect.unit (s := S2x128x1024) ![1, 0, 0] S1x128x1024.size inb_S2x128x1024_S1x128x1024_1_0_0, k0_pay105 (View.readAt (Elt F) arg4.view (Rect.unit (s := S8x128x1024) ![7, 0, 0] S1x128x1024.size inb_S8x128x1024_S1x128x1024_7_0_0).toLoadRect f4) (runA.sl.v119 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17)) (runA.sl.v121 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17))⟩ :: runA.sl.H11_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17))) (arg14.view.writes (Elt F) arg14.view.junk (runA.sl.H14_2 (F := F) (arg2 := arg2) (arg3 := arg3) (f2 := f2) (f3 := f3))) f15 (k0_pay55, k0_pay55, k0_pay73, k0_pay73, (k0_pay58 (runA.sl.r (F := F) (arg2 := arg2) (f2 := f2)) (View.readAt (Elt F) arg3.view (Rect.unit (s := S8192x128) ![0, 0] S1024x128.size inb_S8192x128_S1024x128_0_0).toLoadRect f3)), (k0_pay61 (runA.sl.r_1 (F := F) (arg2 := arg2) (f2 := f2)) (View.readAt (Elt F) arg3.view (Rect.unit (s := S8192x128) ![0, 0] S1024x128.size inb_S8192x128_S1024x128_0_0).toLoadRect f3))) (Scf.trips k0_t3_loop.lb k0_t3_loop.ub k0_t3_loop.st) = st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (q0 (arg2.view.read (Elt F) f2)) (q1 (arg2.view.read (Elt F) f2)) k0_pay73 f3 f4 (arg11.view.writes (Elt F) arg11.view.junk (⟨Rect.unit (s := S2x128x1024) ![0, 0, 0] S2x128x1024.size inb_S2x128x1024_S2x128x1024_0_0_0, k0_pay54⟩ :: ⟨Rect.unit (s := S2x128x1024) ![1, 0, 0] S1x128x1024.size inb_S2x128x1024_S1x128x1024_1_0_0, k0_pay105 (View.readAt (Elt F) arg4.view (Rect.unit (s := S8x128x1024) ![7, 0, 0] S1x128x1024.size inb_S8x128x1024_S1x128x1024_7_0_0).toLoadRect f4) (runA.sl.v119 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17)) (runA.sl.v121 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17))⟩ :: runA.sl.H11_3 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17))) (arg14.view.writes (Elt F) arg14.view.junk (runA.sl.H14_2 (F := F) (arg2 := arg2) (arg3 := arg3) (f2 := f2) (f3 := f3))) f15 (k0_pay55, k0_pay55, k0_pay73, k0_pay73, (Mx (q0 (arg2.view.read (Elt F) f2)) (arg3.view.read (Elt F) f3) 0), (Mx (q1 (arg2.view.read (Elt F) f2)) (arg3.view.read (Elt F) f3) 0)) (4) := by
      rw [hq0, hq1, hK0 ()]
      exact congrArg _ trips3
    have h166 : runA.sl.v166 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f15 := f15) (f17 := f17) = (O (q0 (arg2.view.read (Elt F) f2)) (arg3.view.read (Elt F) f3) (arg4.view.read (Elt F) f4) 8).2.2 := by unfold runA.sl.v166; rw [hst3, View.readCov, View.writes_append]; exact hS.a0
    have h172 : runA.sl.v172 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f15 := f15) (f17 := f17) = (O (q1 (arg2.view.read (Elt F) f2)) (arg3.view.read (Elt F) f3) (arg4.view.read (Elt F) f4) 8).2.2 := by unfold runA.sl.v172; rw [hst3, View.readCov, View.writes_append]; exact hS.a1
    have h168 : runA.sl.v168 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f15 := f15) (f17 := f17) = k0_pay68 (O (q0 (arg2.view.read (Elt F) f2)) (arg3.view.read (Elt F) f3) (arg4.view.read (Elt F) f4) 8).2.1 := by
      unfold runA.sl.v168 runA.sl.H12_4; refine (Slots.miss arg12.view _ _ _ _ _ 0 (Or.inl (by decide))).trans ((Slots.hit arg12.view _ _ _ _ _ rfl).trans ?_); rw [hst3]; exact congrArg (fun z => k0_pay68 z.2.2.1) hS.ls
    have h174 : runA.sl.v174 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f15 := f15) (f17 := f17) = k0_pay69 (O (q1 (arg2.view.read (Elt F) f2)) (arg3.view.read (Elt F) f3) (arg4.view.read (Elt F) f4) 8).2.1 := by
      unfold runA.sl.v174 runA.sl.H12_4; refine (Slots.hit arg12.view _ _ _ _ _ rfl).trans ?_; rw [hst3]; exact congrArg (fun z => k0_pay69 z.2.2.2.1) hS.ls
    have hlam : runA.sl.r_18 (F := F) (arg5 := arg5) (arg6 := arg6) (arg7 := arg7) (arg8 := arg8) (f5 := f5) (f6 := f6) (f7 := f7) (f8 := f8) = k0_pay111 (arg5.view.read (Elt F) f5) (arg6.view.read (Elt F) f6) (arg7.view.read (Elt F) f7) (arg8.view.read (Elt F) f8) := by unfold runA.sl.r_18; rw [View.readAt_full, View.readAt_full, View.readAt_full, View.readAt_full]
    have hg : View.readAt (Elt F) arg9.view (Rect.unit (s := S1x128) ![0, 0] S1x128.size inb_S1x128_S1x128_0_0).toLoadRect f9 = (arg9.view.read (Elt F) f9) := View.readAt_full _ _ _
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitl [H10]; · iexact H10
      ipureintro
      exact (View.read_writes_full _ _ _ _ _).trans (by rw [hlam, h166, h168, h172, h174, hg]; exact (if_pos (hlow.mp hT)).symm)
    isplitl [H11]; · iexists _; iexact H11
    isplitl [H12]; · iexists _; iexact H12
    isplitl [H13]
    · iexists _; isplitl [H13]; · iexact H13
      ipureintro
      exact ⟨h24, h30⟩
    isplitl [H14]; · iexists _; iexact H14
    isplitl [H15]; · iexists _; iexact H15
    isplitl [H16]; · iexists _; iexact H16
    iexists _; iexact H17
  · have h166 : runA.sl.v166_1 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = A (q0 (arg2.view.read (Elt F) f2)) (m0 (arg2.view.read (Elt F) f2) (arg3.view.read (Elt F) f3)) (arg3.view.read (Elt F) f3) (arg4.view.read (Elt F) f4) 8 := by
      unfold runA.sl.v166_1 runA.sl.H11_3; refine (Slots.miss arg11.view _ _ _ _ _ 0 (Or.inl (by decide))).trans ((Slots.hit arg11.view _ _ _ _ _ rfl).trans ?_); rw [hV7 (), h110, h112]; rfl
    have h172 : runA.sl.v172_1 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = A (q1 (arg2.view.read (Elt F) f2)) (m1 (arg2.view.read (Elt F) f2) (arg3.view.read (Elt F) f3)) (arg3.view.read (Elt F) f3) (arg4.view.read (Elt F) f4) 8 := by
      unfold runA.sl.v172_1; refine (Slots.hit arg11.view _ _ _ _ _ rfl).trans ?_; rw [hV7 (), h119, h121]; rfl
    have h168 : runA.sl.v168_1 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = k0_pay108 (S (q0 (arg2.view.read (Elt F) f2)) (m0 (arg2.view.read (Elt F) f2) (arg3.view.read (Elt F) f3)) (arg3.view.read (Elt F) f3) 8) := by
      unfold runA.sl.v168_1; refine (Slots.miss arg12.view _ _ _ _ _ 0 (Or.inl (by decide))).trans ((Slots.hit arg12.view _ _ _ _ _ rfl).trans ?_); rw [h16]
    have h174 : runA.sl.v174_1 (F := F) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (c := c) (i := i) (hc := hc) (f2 := f2) (f3 := f3) (f4 := f4) (f17 := f17) = k0_pay109 (S (q1 (arg2.view.read (Elt F) f2)) (m1 (arg2.view.read (Elt F) f2) (arg3.view.read (Elt F) f3)) (arg3.view.read (Elt F) f3) 8) := by
      unfold runA.sl.v174_1; refine (Slots.hit arg12.view _ _ _ _ _ rfl).trans ?_; rw [h17]
    have hlam : runA.sl.r_19 (F := F) (arg5 := arg5) (arg6 := arg6) (arg7 := arg7) (arg8 := arg8) (f5 := f5) (f6 := f6) (f7 := f7) (f8 := f8) = k0_pay111 (arg5.view.read (Elt F) f5) (arg6.view.read (Elt F) f6) (arg7.view.read (Elt F) f7) (arg8.view.read (Elt F) f8) := by unfold runA.sl.r_19; rw [View.readAt_full, View.readAt_full, View.readAt_full, View.readAt_full]
    have hg : View.readAt (Elt F) arg9.view (Rect.unit (s := S1x128) ![0, 0] S1x128.size inb_S1x128_S1x128_0_0).toLoadRect f9 = (arg9.view.read (Elt F) f9) := View.readAt_full _ _ _
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitl [H10]; · iexact H10
      ipureintro
      exact (View.read_writes_full _ _ _ _ _).trans (by rw [hlam, h166, h168, h172, h174, hg]; exact (if_neg (fun h => hT (hlow.mpr h))).symm)
    isplitl [H11]; · iexists _; iexact H11
    isplitl [H12]; · iexists _; iexact H12
    isplitl [H13]
    · iexists _; isplitl [H13]; · iexact H13
      ipureintro
      exact ⟨h24, h30⟩
    isplitl [H14]; · iexists _; iexact H14
    isplitl [H15]; · iexists _; iexact H15
    isplitl [H16]; · iexists _; iexact H16
    iexists _; iexact H17

end Cert.KernelIdeal.Att
end
-- ==== Proof.AttFrame.lean ====
module

public import proofs.«01_k».proof.Proof.AttRun
public import Idealize.ShloMosaic.Lib.Claim

/-! The attention call over its grid: the proof data, the body at every point, the launch and the frame.

The scratch buffers hold anything between points, except that within a head (before a point that is not a
multiple of 8) the key-norm scratch holds the norms of the head's key block. -/

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S128x1024 .bf16 := win0_0.stage (cfg0.slots t 0)
abbrev ms1 (t : Fin cfg0.N) : Memref sig .tc .vmem S8192x128 .bf16 := win0_1.stage (cfg0.slots t 1)
abbrev ms2 (t : Fin cfg0.N) : Memref sig .tc .vmem S8x128x1024 .bf16 := win0_2.stage (cfg0.slots t 2)
abbrev ms3 (t : Fin cfg0.N) : Memref sig .tc .vmem S1x64 .f32 := win0_3.stage (cfg0.slots t 3)
abbrev ms4 (t : Fin cfg0.N) : Memref sig .tc .vmem S1x64 .f32 := win0_4.stage (cfg0.slots t 4)
abbrev ms5 (t : Fin cfg0.N) : Memref sig .tc .vmem S1x64 .f32 := win0_5.stage (cfg0.slots t 5)
abbrev ms6 (t : Fin cfg0.N) : Memref sig .tc .vmem S1x64 .f32 := win0_6.stage (cfg0.slots t 6)
abbrev ms7 (t : Fin cfg0.N) : Memref sig .tc .vmem S1x128 .f32 := win0_7.stage (cfg0.slots t 7)
abbrev ms8 (t : Fin cfg0.N) : Memref sig .tc .vmem S1024x128 .bf16 := win0_8.stage (cfg0.slots t 8)
abbrev sc0 : Memref sig .tc .vmem S2x128x1024 .f32 := Memref.whole cc0_scratch0
abbrev sc1 : Memref sig .tc .vmem S2x1x1024 .f32 := Memref.whole cc0_scratch1
abbrev sc2 : Memref sig .tc .vmem S2x1x128 .f32 := Memref.whole cc0_scratch2
abbrev sc3 : Memref sig .tc .vmem S2x1024x1024 .f32 := Memref.whole cc0_scratch3
abbrev sc4 : Memref sig .tc .vmem S2x1024x1024 .f32 := Memref.whole cc0_scratch4
abbrev sc5 : Memref sig .tc .vmem S2x1024x1024 .bf16 := Memref.whole cc0_scratch5
abbrev sc6 : Memref sig .tc .vmem S2x1024x1024 .bf16 := Memref.whole cc0_scratch6

theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

theorem hcond : ∀ t : Fin cfg0.N, k0_cond1 (grid0.coords t) = 1#1 ↔ t.val % 8 = 0 :=
  (by decide +kernel : ∀ t : Fin grid0.N, k0_cond1 (grid0.coords t) = 1#1 ↔ t.val % 8 = 0)

/-- The key-norm scratch holds the norms of the key block `x3`. -/
def Norms (x3 : Vec F S8192x128 .bf16) (g : BufTy.Contents (Elt F) sc2.view.ty) : Prop :=
  sc2.view.readAt (Elt F) (Rect.unit (s := S2x1x128) ![0, 0, 0] S1x1x128.size inb_S2x1x128_S1x1x128_0_0_0).toLoadRect g = k0_pay78 (kn x3 8).1
    ∧ sc2.view.readAt (Elt F) (Rect.unit (s := S2x1x128) ![1, 0, 0] S1x1x128.size inb_S2x1x128_S1x1x128_1_0_0).toLoadRect g = k0_pay79 (kn x3 8).2

/-- Between points: the scratch at anything, the key norms within a head at the head's. -/
def PhiS (c : Dev nD) (n : ℕ) (_ : n ≤ cfg0.N) : sProp 𝕄 :=
  iprop(iprop((∃ d, owns (c : Thread nD τ) sc0 fullShare d) ∗ (∃ d, owns (c : Thread nD τ) sc1 fullShare d) ∗ (∃ g, (sc2.view.loc (c : Thread nD τ) ↦[sc2.view.set]{fullShare} g) ∗ ⌜∀ t : Fin cfg0.N, t.val + 1 = n → n % 8 ≠ 0 → Norms (iblk m c 1 t) g⌝) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r))

/-- The output block of a point. -/
def outAt (c : Dev nD) (t : Fin cfg0.N) : Vec F S1024x128 .bf16 :=
  out (iblk m c 0 t) (iblk m c 1 t) (iblk m c 2 t) (iblk m c 3 t) (iblk m c 4 t) (iblk m c 5 t) (iblk m c 6 t) (iblk m c 7 t)

/-- The proof data: inputs stay, the output block is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Within a head the key block stays. -/
theorem keys_stay (c : Dev nD) (t t' : Fin cfg0.N) (h : t.val + 1 = t'.val) (h8 : t'.val % 8 ≠ 0) :
    iblk m c 1 t' = iblk m c 1 t := by
  have hf : (cfg0.win 1).fetch t' = false := by
    rw [Bool.eq_false_iff]; exact fun e => h8 ((fetch0_1 t').mp e)
  have hb := (dats m 0 c).before_of_pos 1 t' (by omega) hf (iblk m c 1 t')
  rw [before_1] at hb
  have ht : (⟨t'.val - 1, Nat.lt_of_le_of_lt (Nat.sub_le _ _) t'.isLt⟩ : Fin cfg0.N) = t := Fin.ext (by show t'.val - 1 = t.val; omega)
  rw [ht] at hb
  refine hb.trans ?_
  rw [show (cfg0.win 1).flush t = false from rfl, if_neg Bool.false_ne_true]
  exact after_1 m c t

theorem PhiS_zero (c : Dev nD) : Pipeline.ΦA spec0 c ⊢ PhiS m c 0 (Nat.zero_le _) := by
  rw [PhiA_eq]; unfold PhiS
  iintro ⟨⟨H0, H1, ⟨%d, H2⟩, H3, H4, H5, H6⟩, Hg⟩
  isplitl [H0 H1 H2 H3 H4 H5 H6]
  · isplitl [H0]; · iexact H0
    isplitl [H1]; · iexact H1
    isplitl [H2]
    · unfold owns; icases H2 with ⟨%f, %hf, H2⟩
      iexists f; isplitl [H2]; · iexact H2
      ipureintro; intro t ht; omega
    isplitl [H3]; · iexact H3
    isplitl [H4]; · iexact H4
    isplitl [H5]; · iexact H5
    iexact H6
  iexact Hg

theorem PhiS_last (c : Dev nD) (n : ℕ) (hn : n ≤ cfg0.N) : PhiS m c n hn ⊢ Pipeline.ΦA spec0 c := by
  rw [PhiA_eq]; unfold PhiS
  iintro ⟨⟨H0, H1, ⟨%g, H2, %hg⟩, H3, H4, H5, H6⟩, Hg⟩
  isplitl [H0 H1 H2 H3 H4 H5 H6]
  · isplitl [H0]; · iexact H0
    isplitl [H1]; · iexact H1
    isplitl [H2]
    · iexists _; unfold owns; iexists g; isplitr
      swap; · iexact H2
      ipureintro; rfl
    isplitl [H3]; · iexact H3
    isplitl [H4]; · iexact H4
    isplitl [H5]; · iexact H5
    iexact H6
  iexact Hg

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (ms8 t) fullShare (outAt m c t) := by
  unfold Dat.leavesExact; rw [show cfg0.idle 8 (grid0.coords t) = false from rfl, after_8]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7, leaves_8]
  rw [show (dats m 0 c).owesAt () t.succ = (dats m 0 c).owesAt () t.castSucc from rfl, PhiS_castSucc m c t]
  rw [show (dats m 0 c).Φ t.succ = PhiS m c (t.val + 1) t.isLt from rfl]
  unfold PhiS owns
  iintro ⟨⟨⟨⟨%x0, %e0, %he0, S0⟩, ⟨%x1, %e1, %he1, S1⟩, ⟨%g2, S2, %hg2⟩, ⟨%x3, %e3, %he3, S3⟩, ⟨%x4, %e4, %he4, S4⟩, ⟨%x5, %e5, %he5, S5⟩, ⟨%x6, %e6, %he6, S6⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  by_cases h8 : t.val % 8 = 0
  · iapply (runA c Set.univ (grid0.coords t) ((hcond t).mpr h8) _ f0 f1 f2 f3 f4 f5 f6 f7 f8 e0 e1 g2 e3 e4 e5 e6)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    isplitl [S6]; · iexact S6
    iintro ⟨H0, H1, H2, H3, H4, H5, H6, H7, ⟨%g8, H8, %h8'⟩, ⟨%s0, S0⟩, ⟨%s1, S1⟩, ⟨%s2, S2, %hs⟩, ⟨%s3, S3⟩, ⟨%s4, S4⟩, ⟨%s5, S5⟩, ⟨%s6, S6⟩⟩
    isplitl [S0 S1 S2 S3 S4 S5 S6 Hg]
    · isplitl [S0 S1 S2 S3 S4 S5 S6]
      · isplitl [S0]; · iexists _; iexists s0; isplitr; swap; · iexact S0
                        ipureintro; rfl
        isplitl [S1]; · iexists _; iexists s1; isplitr; swap; · iexact S1
                        ipureintro; rfl
        isplitl [S2]
        · iexists s2; isplitl [S2]; · iexact S2
          ipureintro; intro t' ht' _
          have : t' = t := Fin.ext (by omega)
          subst this; rw [← hf1]; exact hs
        isplitl [S3]; · iexists _; iexists s3; isplitr; swap; · iexact S3
                        ipureintro; rfl
        isplitl [S4]; · iexists _; iexists s4; isplitr; swap; · iexact S4
                        ipureintro; rfl
        isplitl [S5]; · iexists _; iexists s5; isplitr; swap; · iexact S5
                        ipureintro; rfl
        iexists _; iexists s6; isplitr; swap; · iexact S6
        ipureintro; rfl
      iexact Hg
    isplitl [Ho]; · iexact Ho
    isplitl [H0]
    · iexists f0; isplitr; swap; · iexact H0
      ipureintro; exact hf0
    isplitl [H1]
    · iexists f1; isplitr; swap; · iexact H1
      ipureintro; exact hf1
    isplitl [H2]
    · iexists f2; isplitr; swap; · iexact H2
      ipureintro; exact hf2
    isplitl [H3]
    · iexists f3; isplitr; swap; · iexact H3
      ipureintro; exact hf3
    isplitl [H4]
    · iexists f4; isplitr; swap; · iexact H4
      ipureintro; exact hf4
    isplitl [H5]
    · iexists f5; isplitr; swap; · iexact H5
      ipureintro; exact hf5
    isplitl [H6]
    · iexists f6; isplitr; swap; · iexact H6
      ipureintro; exact hf6
    isplitl [H7]
    · iexists f7; isplitr; swap; · iexact H7
      ipureintro; exact hf7
    iexists g8; isplitr; swap; · iexact H8
    ipureintro; rw [h8', hf0, hf1, hf2, hf3, hf4, hf5, hf6, hf7]; rfl
  · have hN : Norms ((ms1 t).view.read (Elt F) f1) g2 := by
      have ht : (⟨t.val - 1, by omega⟩ : Fin cfg0.N).val + 1 = t.val := by show t.val - 1 + 1 = t.val; omega
      have := hg2 ⟨t.val - 1, by omega⟩ ht h8
      rw [← keys_stay m c ⟨t.val - 1, by omega⟩ t ht h8, ← hf1] at this
      exact this
    iapply (runB c Set.univ (grid0.coords t) (fun h => h8 ((hcond t).mp h)) _ f0 f1 f2 f3 f4 f5 f6 f7 f8 e0 e1 g2 e3 e4 e5 e6 hN)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    isplitl [S6]; · iexact S6
    iintro ⟨H0, H1, H2, H3, H4, H5, H6, H7, ⟨%g8, H8, %h8'⟩, ⟨%s0, S0⟩, ⟨%s1, S1⟩, ⟨%s2, S2, %hs⟩, ⟨%s3, S3⟩, ⟨%s4, S4⟩, ⟨%s5, S5⟩, ⟨%s6, S6⟩⟩
    isplitl [S0 S1 S2 S3 S4 S5 S6 Hg]
    · isplitl [S0 S1 S2 S3 S4 S5 S6]
      · isplitl [S0]; · iexists _; iexists s0; isplitr; swap; · iexact S0
                        ipureintro; rfl
        isplitl [S1]; · iexists _; iexists s1; isplitr; swap; · iexact S1
                        ipureintro; rfl
        isplitl [S2]
        · iexists s2; isplitl [S2]; · iexact S2
          ipureintro; intro t' ht' _
          have : t' = t := Fin.ext (by omega)
          subst this; rw [← hf1]; exact hs
        isplitl [S3]; · iexists _; iexists s3; isplitr; swap; · iexact S3
                        ipureintro; rfl
        isplitl [S4]; · iexists _; iexists s4; isplitr; swap; · iexact S4
                        ipureintro; rfl
        isplitl [S5]; · iexists _; iexists s5; isplitr; swap; · iexact S5
                        ipureintro; rfl
        iexists _; iexists s6; isplitr; swap; · iexact S6
        ipureintro; rfl
      iexact Hg
    isplitl [Ho]; · iexact Ho
    isplitl [H0]
    · iexists f0; isplitr; swap; · iexact H0
      ipureintro; exact hf0
    isplitl [H1]
    · iexists f1; isplitr; swap; · iexact H1
      ipureintro; exact hf1
    isplitl [H2]
    · iexists f2; isplitr; swap; · iexact H2
      ipureintro; exact hf2
    isplitl [H3]
    · iexists f3; isplitr; swap; · iexact H3
      ipureintro; exact hf3
    isplitl [H4]
    · iexists f4; isplitr; swap; · iexact H4
      ipureintro; exact hf4
    isplitl [H5]
    · iexists f5; isplitr; swap; · iexact H5
      ipureintro; exact hf5
    isplitl [H6]
    · iexists f6; isplitr; swap; · iexact H6
      ipureintro; exact hf6
    isplitl [H7]
    · iexists f7; isplitr; swap; · iexact H7
      ipureintro; exact hf7
    iexists g8; isplitr; swap; · iexact H8
    ipureintro; rw [h8', hf0, hf1, hf2, hf3, hf4, hf5, hf6, hf7]; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := PhiS_zero m c

theorem hout (c : Dev nD) : (dats m 0 c).Φ (Fin.last cfg0.N) ⊢ Pipeline.ΦA spec0 c := PhiS_last m c _ (Nat.le_of_lt_succ (Fin.last cfg0.N).isLt)

set_option backward.isDefEq.respectTransparency.types false in
/-- Every run ends, with the arrays as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Att

end
-- ==== Proof.AttFrames.lean ====
module

public import proofs.«01_k».proof.Defs
public import proofs.«01_k».proof.Proof.AttFrame
public import proofs.«01_k».proof.Proof.Gen.Kernel
public import proofs.«01_k».proof.Proof.Gen.ReferenceIdeal.Run
public import Idealize.ShloMosaic.Lib.Claim

/-! The frames of the attention call and of its reference, from their runs. -/

@[expose] public section

set_option maxRecDepth 16384

noncomputable section

namespace Cert.Proof

open Idealize.ShloMosaic Idealize.ShloMosaic.TcCoe Idealize.SL.Sem

theorem att_frame_ideal : Cert.quiescent_KernelIdeal := fun m ρ _ => Cert.KernelIdeal.Att.frame_run (F := Ideal) m ρ

/-- The two printed programs call one kernel body. -/
theorem att_bodies : Cert.Kernel.defs₀ (F := Bits) = Cert.KernelIdeal.defs₀ (F := Bits) := by
  unfold Cert.Kernel.defs₀ Cert.KernelIdeal.defs₀
  refine congrArg _ ?_
  funext l a
  match l, a with
  | 0, (t, s) => rfl
  | ⟨_ + 1, h⟩, _ => exact absurd h (Nat.not_lt.2 (Nat.le_add_left _ _))

theorem att_tables : Cert.Kernel.defs (F := Bits) = Cert.KernelIdeal.defs (F := Bits) :=
  congrArg (Pipeline.defs Cert.KernelIdeal.pcfgs) att_bodies

theorem att_frame : Cert.quiescent_Kernel := fun m ρ _ => by
  have h := Cert.KernelIdeal.Att.frame_run (F := Bits) m ρ
  rw [← att_tables] at h
  exact h

theorem att_frame_ref : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

end Cert.Proof

end
-- ==== Proof.AttReal.lean ====
module

public import Idealize.ShloMosaic.Lib.Pointwise

/-! The mathematics of the attention over the reals: a softmax is the same under any shift of its scores, and the
online recurrence over chunks of keys arrives at it. -/

@[expose] public section

noncomputable section

namespace Cert.Softmax

open Idealize.ShloMosaic

/-- A value that is a real number. -/
def Finite (x : EReal) : Prop := ∃ r : ℝ, x = r

theorem Finite.real (r : ℝ) : Finite (r : EReal) := ⟨r, rfl⟩
theorem Finite.zero : Finite 0 := ⟨0, rfl⟩
theorem Finite.add {x y : EReal} (hx : Finite x) (hy : Finite y) : Finite (x + y) := by
  obtain ⟨a, rfl⟩ := hx; obtain ⟨b, rfl⟩ := hy; exact ⟨a + b, (EReal.coe_add a b).symm⟩
theorem Finite.mul {x y : EReal} (hx : Finite x) (hy : Finite y) : Finite (x * y) := by
  obtain ⟨a, rfl⟩ := hx; obtain ⟨b, rfl⟩ := hy; exact ⟨a * b, (EReal.coe_mul a b).symm⟩
theorem Finite.max {x y : EReal} (hx : Finite x) (hy : Finite y) : Finite (max x y) := by
  rcases max_choice x y with h | h <;> rw [h] <;> assumption

theorem coe_sum {ι : Type*} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

theorem Finite.sum {ι : Type*} (t : Finset ι) {f : ι → EReal} (h : ∀ i, Finite (f i)) : Finite (∑ i ∈ t, f i) := by
  choose g hg using h
  exact ⟨∑ i ∈ t, g i, by rw [coe_sum]; exact Finset.sum_congr rfl fun i _ => hg i⟩

/-- The largest of finitely many reals, from below every real, is one of them or nothing. -/
theorem fold_max_bot {ι : Type*} (t : Finset ι) {f : ι → EReal} (h : ∀ i, Finite (f i)) :
    (t = ∅ ∧ t.fold max ⊥ f = ⊥) ∨ Finite (t.fold max ⊥ f) := by
  classical
  induction t using Finset.induction_on with
  | empty => exact Or.inl ⟨rfl, rfl⟩
  | insert a t ha ih =>
    refine Or.inr ?_
    rw [Finset.fold_insert ha]
    rcases ih with ⟨_, e⟩ | e
    · rw [e, max_eq_left bot_le]; exact h a
    · exact (h a).max e

theorem Finite.fold_max {ι : Type*} [Fintype ι] [Nonempty ι] {f : ι → EReal} (h : ∀ i, Finite (f i)) :
    Finite (Finset.univ.fold Max.max ⊥ f) := by
  rcases fold_max_bot Finset.univ h with ⟨e, _⟩ | e
  · exact absurd e Finset.univ_nonempty.ne_empty
  · exact e

/-- A power of two. -/
def two (x : ℝ) : ℝ := Real.exp (Real.log 2 * x)

theorem two_pos (x : ℝ) : 0 < two x := Real.exp_pos _
theorem two_add (x y : ℝ) : two (x + y) = two x * two y := by unfold two; rw [mul_add, Real.exp_add]
theorem two_sub (x y : ℝ) : two (x - y) = two x / two y := by unfold two; rw [mul_sub, Real.exp_sub]

theorem exp2_sub (x y : ℝ) : Ideal.exp2 ((x : EReal) - (y : EReal)) = (two (x - y) : EReal) := by
  rw [← EReal.coe_sub, Ideal.exp2_coe]
  exact congrArg _ (Real.rpow_def_of_pos two_pos' _)
where two_pos' : (0 : ℝ) < 2 := by norm_num

theorem exp_sub (x y : ℝ) : Ideal.exp ((x : EReal) - (y : EReal)) = (Real.exp (x - y) : EReal) := by
  rw [← EReal.coe_sub, Ideal.exp_coe]

theorem div_real (x y : ℝ) (h : y ≠ 0) : Ideal.div (x : EReal) (y : EReal) = ((x / y : ℝ) : EReal) := by
  rw [Ideal.div_coe h, ← EReal.coe_mul, mul_one_div]

/-- The softmax of the scores `s` of the first `n` keys, applied to the values `v`. -/
def att (s v : ℕ → ℝ) (n : ℕ) : ℝ := (∑ c ∈ Finset.range n, v c * two (s c)) / ∑ c ∈ Finset.range n, two (s c)

theorem sum_two_pos (s : ℕ → ℝ) (M : ℝ) {n : ℕ} (hn : 0 < n) : 0 < ∑ c ∈ Finset.range n, two (s c - M) :=
  Finset.sum_pos (fun _ _ => two_pos _) ⟨0, Finset.mem_range.2 hn⟩

/-- The shift does not matter. -/
theorem att_shift (s v : ℕ → ℝ) (M : ℝ) (n : ℕ) :
    (∑ c ∈ Finset.range n, v c * two (s c - M)) / (∑ c ∈ Finset.range n, two (s c - M)) = att s v n := by
  unfold att
  simp only [two_sub, ← mul_div_assoc, ← Finset.sum_div]
  exact div_div_div_cancel_right₀ (two_pos M).ne' _ _

theorem div_att (s v : ℕ → ℝ) (M : ℝ) {n : ℕ} (hn : 0 < n) :
    Ideal.div ((∑ c ∈ Finset.range n, v c * two (s c - M) : ℝ) : EReal) ((∑ c ∈ Finset.range n, two (s c - M) : ℝ) : EReal)
      = (att s v n : EReal) := by
  rw [div_real _ _ (sum_two_pos s M hn).ne', att_shift]

/-- The sums over one more chunk of `T` keys. -/
theorem chunk (f : ℕ → ℝ) (T n : ℕ) :
    ∑ c ∈ Finset.range ((n + 1) * T), f c = (∑ c ∈ Finset.range (n * T), f c) + ∑ l : Fin T, f (n * T + l.val) := by
  rw [Nat.add_mul, Nat.one_mul, Finset.sum_range_add, ← Finset.sum_range (fun l => f (n * T + l))]

/-- The sum of the probabilities shifted by `M`, chunk by chunk. -/
theorem shifted_sum {T K : ℕ} (s : ℕ → ℝ) (M : ℝ) (S : ℕ → EReal) (h0 : S 0 = 0)
    (hs : ∀ n < K, S (n + 1) = S n + ∑ l : Fin T, Ideal.exp2 ((s (n * T + l.val) : EReal) - (M : EReal))) :
    ∀ n ≤ K, S n = ((∑ c ∈ Finset.range (n * T), two (s c - M) : ℝ) : EReal) := by
  intro n
  induction n with
  | zero => intro _; rw [h0]; simp
  | succ n ih =>
    intro hn
    rw [hs n hn, ih (Nat.le_of_succ_le hn), chunk, EReal.coe_add, coe_sum Finset.univ]
    simp only [exp2_sub]

/-- The values weighted by them, chunk by chunk. -/
theorem shifted_acc {T K : ℕ} (s v : ℕ → ℝ) (M : ℝ) (A : ℕ → EReal) (h0 : A 0 = 0)
    (hs : ∀ n < K, A (n + 1) = A n + ∑ l : Fin T, (v (n * T + l.val) : EReal) * Ideal.exp2 ((s (n * T + l.val) : EReal) - (M : EReal))) :
    ∀ n ≤ K, A n = ((∑ c ∈ Finset.range (n * T), v c * two (s c - M) : ℝ) : EReal) := by
  intro n
  induction n with
  | zero => intro _; rw [h0]; simp
  | succ n ih =>
    intro hn
    rw [hs n hn, ih (Nat.le_of_succ_le hn), chunk, EReal.coe_add, coe_sum Finset.univ]
    simp only [exp2_sub, EReal.coe_mul]

/-- The online softmax's maximum, sum and weighted values after each chunk. -/
structure Online (T K : ℕ) (s v : ℕ → ℝ) (m l a : ℕ → EReal) : Prop where
  m0 : m 0 = ⊥
  l0 : l 0 = 0
  a0 : a 0 = 0
  m1 : ∀ n < K, m (n + 1) = max (m n) (Finset.univ.fold max ⊥ fun i : Fin T => (s (n * T + i.val) : EReal))
  l1 : ∀ n < K, l (n + 1) = Ideal.exp2 (m n - m (n + 1)) * l n + ∑ i : Fin T, Ideal.exp2 ((s (n * T + i.val) : EReal) - m (n + 1))
  a1 : ∀ n < K, a (n + 1) = a n * Ideal.exp2 (m n - m (n + 1))
    + ∑ i : Fin T, (v (n * T + i.val) : EReal) * Ideal.exp2 ((s (n * T + i.val) : EReal) - m (n + 1))

/-- After a chunk the maximum is a real number, and the other two are the sums shifted by it. -/
theorem Online.after {T K : ℕ} [NeZero T] {s v : ℕ → ℝ} {m l a : ℕ → EReal} (h : Online T K s v m l a) :
    ∀ n < K, ∃ M : ℝ, m (n + 1) = M ∧ l (n + 1) = ((∑ c ∈ Finset.range ((n + 1) * T), two (s c - M) : ℝ) : EReal)
      ∧ a (n + 1) = ((∑ c ∈ Finset.range ((n + 1) * T), v c * two (s c - M) : ℝ) : EReal) := by
  have hx : ∀ n, Finite (Finset.univ.fold max ⊥ fun i : Fin T => (s (n * T + i.val) : EReal)) := fun n => Finite.fold_max fun i => .real _
  intro n
  induction n with
  | zero =>
    intro hn
    obtain ⟨M, hM⟩ : Finite (m 1) := by rw [h.m1 0 hn, h.m0, max_eq_right bot_le]; exact hx 0
    refine ⟨M, hM, ?_, ?_⟩
    · rw [h.l1 0 hn, h.l0, mul_zero, zero_add, chunk, coe_eq hM, EReal.coe_add, coe_sum Finset.univ]
      simp [exp2_sub]
    · rw [h.a1 0 hn, h.a0, zero_mul, zero_add, chunk, coe_eq hM, EReal.coe_add, coe_sum Finset.univ]
      simp [exp2_sub]
  | succ n ih =>
    intro hn
    obtain ⟨M, hm, hl, ha⟩ := ih (Nat.lt_of_succ_lt hn)
    obtain ⟨N, hN⟩ : Finite (m (n + 1 + 1)) := by rw [h.m1 _ hn, hm]; exact (Finite.real M).max (hx _)
    refine ⟨N, hN, ?_, ?_⟩
    · rw [h.l1 _ hn, hN, hm, hl, chunk _ _ (n + 1), EReal.coe_add, coe_sum Finset.univ, exp2_sub, ← EReal.coe_mul]
      simp only [exp2_sub]
      refine congrArg₂ (· + ·) (congrArg _ ?_) rfl
      rw [Finset.mul_sum]
      exact Finset.sum_congr rfl fun c _ => by rw [← two_add]; congr 1; ring
    · rw [h.a1 _ hn, hN, hm, ha, chunk _ _ (n + 1), EReal.coe_add, coe_sum Finset.univ, exp2_sub, ← EReal.coe_mul]
      simp only [exp2_sub, EReal.coe_mul]
      refine congrArg₂ (· + ·) ?_ rfl
      rw [← EReal.coe_mul]
      refine congrArg _ ?_
      rw [Finset.sum_mul]
      exact Finset.sum_congr rfl fun c _ => by rw [mul_assoc, ← two_add]; congr 2; ring
where coe_eq {x : EReal} {M : ℝ} (h : x = M) : x = M := h

theorem Online.value {T K : ℕ} [NeZero T] {s v : ℕ → ℝ} {m l a : ℕ → EReal} (h : Online T K s v m l a) {n : ℕ} (hn : n < K) :
    Ideal.div (a (n + 1)) (l (n + 1)) = (att s v ((n + 1) * T) : EReal) := by
  obtain ⟨M, _, hl, ha⟩ := h.after n hn
  rw [hl, ha, div_att _ _ _ (Nat.mul_pos n.succ_pos (NeZero.pos T))]

theorem shifted_value {T K : ℕ} [NeZero T] {s v : ℕ → ℝ} {M : ℝ} {S A : ℕ → EReal} (hS0 : S 0 = 0) (hA0 : A 0 = 0)
    (hS : ∀ n < K, S (n + 1) = S n + ∑ l : Fin T, Ideal.exp2 ((s (n * T + l.val) : EReal) - (M : EReal)))
    (hA : ∀ n < K, A (n + 1) = A n + ∑ l : Fin T, (v (n * T + l.val) : EReal) * Ideal.exp2 ((s (n * T + l.val) : EReal) - (M : EReal)))
    (hK : 0 < K) : Ideal.div (A K) (S K) = (att s v (K * T) : EReal) := by
  rw [shifted_sum s M S hS0 hS K le_rfl, shifted_acc s v M A hA0 hA K le_rfl, div_att _ _ _ (Nat.mul_pos hK (NeZero.pos T))]

/-- The difference of two softmaxes applied to the values at once. -/
theorem difference {N : ℕ} (hN : 0 < N) (s t v : ℕ → ℝ) (M M' lam : ℝ) :
    ∑ c : Fin N, (v c.val : EReal) *
        (Ideal.div (Ideal.exp (((Real.log 2 * s c.val : ℝ) : EReal) - (M : EReal))) (∑ d : Fin N, Ideal.exp (((Real.log 2 * s d.val : ℝ) : EReal) - (M : EReal)))
          - (lam : EReal) * Ideal.div (Ideal.exp (((Real.log 2 * t c.val : ℝ) : EReal) - (M' : EReal))) (∑ d : Fin N, Ideal.exp (((Real.log 2 * t d.val : ℝ) : EReal) - (M' : EReal))))
      = (att s v N : EReal) - (lam : EReal) * (att t v N : EReal) := by
  have key : ∀ (u : ℕ → ℝ) (W : ℝ) (c : Fin N), Ideal.div (Ideal.exp (((Real.log 2 * u c.val : ℝ) : EReal) - (W : EReal)))
      (∑ d : Fin N, Ideal.exp (((Real.log 2 * u d.val : ℝ) : EReal) - (W : EReal)))
      = ((two (u c.val) / ∑ d ∈ Finset.range N, two (u d) : ℝ) : EReal) := by
    intro u W c
    have hpos : 0 < ∑ d : Fin N, Real.exp (Real.log 2 * u d.val - W) := Finset.sum_pos (fun _ _ => Real.exp_pos _) ⟨⟨0, hN⟩, Finset.mem_univ _⟩
    simp only [exp_sub]
    rw [← coe_sum, div_real _ _ hpos.ne']
    refine congrArg _ ?_
    simp only [Real.exp_sub, ← Finset.sum_div]
    rw [div_div_div_cancel_right₀ (Real.exp_pos W).ne', Finset.sum_range]
    rfl
  simp only [key]
  rw [← EReal.coe_mul, ← EReal.coe_sub]
  simp only [← EReal.coe_mul, ← EReal.coe_sub]
  rw [← coe_sum]
  refine congrArg _ ?_
  unfold att
  rw [Finset.sum_range (fun c => v c * two (s c)), Finset.sum_range (fun c => v c * two (t c)), Finset.sum_div, Finset.sum_div, Finset.mul_sum, ← Finset.sum_sub_distrib]
  exact Finset.sum_congr rfl fun c _ => by ring

end Cert.Softmax
end
-- ==== Proof.AttRef.lean ====
module

public import proofs.«01_k».proof.Proof.AttReal
public import proofs.«01_k».proof.Proof.Gen.ReferenceIdeal.Run
public import Idealize.ShloMosaic.Lib.Pipeline.ValueKit

/-! The reference of the attention, read at one entry of its result, piece by piece. -/

@[expose] public section

set_option maxRecDepth 16384

noncomputable section

namespace Cert.Softmax

open Idealize.ShloMosaic

/-- The mixing weight of the second softmax. -/
def lam (a b c d : Fin 64 → EReal) : EReal :=
  Ideal.exp (∑ e : Fin 64, a e * b e) - Ideal.exp (∑ e : Fin 64, c e * d e) + Ideal.ofBits .f32 0x3E4CCCCD#32

/-- The root-mean-square norm of a head's row at one entry, with its gain. -/
def rms (y : Fin 128 → EReal) (g : EReal) (d : Fin 128) : EReal :=
  y d * Ideal.rsqrt (Ideal.div (∑ j : Fin 128, y j * y j) (Ideal.ofBits .f32 0x43000000#32) + Ideal.ofBits .f32 0x3727C5AC#32) * g * Ideal.ofBits .f32 0x3F4CCCCD#32

/-- Feature `e` of map `i` of head `h`. -/
def feat (h : Fin 8) (i : Fin 2) (e : Fin 64) : Fin 1024 := ⟨h.val * 128 + i.val * 64 + e.val, by omega⟩

/-- Output column `d` of head `h`. -/
def col (h : Fin 8) (d : Fin 128) : Fin 1024 := ⟨h.val * 128 + d.val, by omega⟩

/-- The `c`-th key's number. -/
def nth (c : ℕ) : Fin 8192 := ⟨c % 8192, Nat.mod_lt _ (by norm_num)⟩

theorem nth_val (c : Fin 8192) : nth c.val = c := Fin.ext (Nat.mod_eq_of_lt c.isLt)

/-- The score of key `c` for query `r`, map `i` of head `h`. -/
def score (q : Fin 1024 → Fin 8192 → ℝ) (k : Fin 8192 → Fin 1024 → ℝ) (h : Fin 8) (i : Fin 2) (r : Fin 8192) (c : ℕ) : ℝ :=
  ∑ e : Fin 64, k (nth c) (feat h i e) * q (feat h i e) r

/-- Entry `d` of key `c`'s value in head `h`. -/
def value (v : Fin 8 → Fin 1024 → Fin 1024 → ℝ) (h : Fin 8) (d : Fin 128) (c : ℕ) : ℝ :=
  v ⟨(nth c).val / 1024, by omega⟩ (col h d) ⟨(nth c).val % 1024, by omega⟩

/-- The attention at row `r`, column `d` of head `h`. -/
def spec (q : Fin 1024 → Fin 8192 → ℝ) (k : Fin 8192 → Fin 1024 → ℝ) (v : Fin 8 → Fin 1024 → Fin 1024 → ℝ) (lm : ℝ) (g : EReal)
    (r : Fin 8192) (h : Fin 8) (d : Fin 128) : EReal :=
  rms (fun j => (att (score q k h 0 r) (value v h j) 8192 : EReal) - (lm : EReal) * (att (score q k h 1 r) (value v h j) 8192 : EReal)) g d

end Cert.Softmax

namespace Cert.ReferenceIdeal.Value

open Idealize.ShloMosaic Idealize.ShloMosaic.TcCoe Idealize.SL.Sem
open Cert.ReferenceIdeal Cert.ReferenceIdeal.Gen
open Cert.Softmax (Finite lam rms feat col score value spec)

/-- The queries in natural units. -/
def qV (XQ : FVec Ideal S1024x8192 .bf16) : FVec Ideal S8192x8x2x64 .f32 :=
  mulf (shapeCast _ (transpose S8192x1024 [1, 0] (extf .f32 XQ bitsLt_bf16_f32) transposes_S1024x8192_S8192x1024_1_0) shapeCasts_S8192x1024_S8192x8x2x64) (broadcastInDim S8192x8x2x64 ![] bcast_S_S8192x8x2x64 (id (Host.log (constant S_ .f32 0x40000000#32))))
/-- The keys by head and map. -/
def kV (XK : FVec Ideal S8192x1024 .bf16) : FVec Ideal S8192x8x2x64 .f32 :=
  shapeCast S8192x8x2x64 (extf .f32 XK bitsLt_bf16_f32) shapeCasts_S8192x1024_S8192x8x2x64
/-- The values by head. -/
def vV (XV : FVec Ideal S8x1024x1024 .bf16) : FVec Ideal S8192x8x128 .f32 :=
  shapeCast S8192x8x128 (transpose S8x1024x1024 [0, 2, 1] (extf .f32 XV bitsLt_bf16_f32) transposes_S8x1024x1024_S8x1024x1024_0_2_1) shapeCasts_S8x1024x1024_S8192x8x128
/-- The scores. -/
def scV (Q K : FVec Ideal S8192x8x2x64 .f32) : FVec Ideal S8x2x8192x8192 .f32 :=
  Host.dotGeneral dot_S8192x8x2x64_S8192x8x2x64_S8x2x8192x8192_3_3_0_0_12_12 none Q K
/-- The largest score of each query. -/
def mxV (Sc : FVec Ideal S8x2x8192x8192 .f32) : FVec Ideal S8x2x8192 .f32 :=
  maximumf (broadcastInDim S8x2x8192 ![] bcast_S_S8x2x8192 (constant S_ .f32 0xFF800000#32)) (Host.reduce FloatOps.maximumf Sc (constant S_ .f32 0xFF800000#32) reducesTo_S8x2x8192x8192_S8x2x8192_d3 h_S_)
/-- The exponentials of the shifted scores. -/
def expV (Sc : FVec Ideal S8x2x8192x8192 .f32) : FVec Ideal S8x2x8192x8192 .f32 :=
  Host.exp (subf Sc (broadcastInDim S8x2x8192x8192 ![0, 1, 2, 3] bcast_S8x2x8192x1_S8x2x8192x8192_0_1_2_3 (broadcastInDim S8x2x8192x1 ![0, 1, 2] bcast_S8x2x8192_S8x2x8192x1_0_1_2 (mxV Sc))))
/-- The softmax. -/
def softV (E : FVec Ideal S8x2x8192x8192 .f32) : FVec Ideal S8x2x8192x8192 .f32 :=
  Host.divf E (broadcastInDim S8x2x8192x8192 ![0, 1, 2, 3] bcast_S8x2x8192x1_S8x2x8192x8192_0_1_2_3 (broadcastInDim S8x2x8192x1 ![0, 1, 2] bcast_S8x2x8192_S8x2x8192x1_0_1_2 (Host.reduceAdd E (constant S_ .f32 0x00000000#32) reducesTo_S8x2x8192x8192_S8x2x8192_d3 h_S_)))
/-- The mixing weight. -/
def lamV (L1 K1 L2 K2 : FVec Ideal S1x64 .f32) : FVec Ideal S_ .f32 :=
  addf (subf (Host.exp (Host.reduceAdd (mulf (shapeCast _ L1 shapeCasts_S1x64_S64) (shapeCast _ K1 shapeCasts_S1x64_S64)) (constant S_ .f32 0x00000000#32) reducesTo_S64_S_d0 h_S_)) (Host.exp (Host.reduceAdd (mulf (shapeCast _ L2 shapeCasts_S1x64_S64) (shapeCast _ K2 shapeCasts_S1x64_S64)) (constant S_ .f32 0x00000000#32) reducesTo_S64_S_d0 h_S_))) (constant S_ .f32 0x3E4CCCCD#32)
/-- The differential weights. -/
def wtV (Aa : FVec Ideal S8x2x8192x8192 .f32) (Lam : FVec Ideal S_ .f32) : FVec Ideal S8x8192x8192 .f32 :=
  subf (shapeCast S8x8192x8192 (extractStridedSlice S8x1x8192x8192 ![0, 0, 0, 0] Aa slices_S8x2x8192x8192_S8x1x8192x8192_0_0_0_0) shapeCasts_S8x1x8192x8192_S8x8192x8192) (mulf (broadcastInDim S8x8192x8192 ![] bcast_S_S8x8192x8192 Lam) (shapeCast S8x8192x8192 (extractStridedSlice S8x1x8192x8192 ![0, 1, 0, 0] Aa slices_S8x2x8192x8192_S8x1x8192x8192_0_1_0_0) shapeCasts_S8x1x8192x8192_S8x8192x8192))
/-- The heads' outputs. -/
def headV (Vv : FVec Ideal S8192x8x128 .f32) (W : FVec Ideal S8x8192x8192 .f32) : FVec Ideal S8192x8x128 .f32 :=
  transpose S8192x8x128 [2, 0, 1] (Host.dotGeneral dot_S8192x8x128_S8x8192x8192_S8x128x8192_0_2_2_1_1_0 none Vv W) transposes_S8x128x8192_S8192x8x128_2_0_1
/-- The norm and the result's cast. -/
def rmsV (Oo : FVec Ideal S8192x8x128 .f32) (G : FVec Ideal S1x128 .f32) : FVec Ideal S8192x1024 .bf16 :=
  truncf .bf16 (shapeCast S8192x1024 (mulf (mulf (mulf Oo (broadcastInDim S8192x8x128 ![0, 1, 2] bcast_S8192x8x1_S8192x8x128_0_1_2 (Host.rsqrt (addf (Host.divf (broadcastInDim S8192x8x1 ![0, 1] bcast_S8192x8_S8192x8x1_0_1 (Host.reduceAdd (mulf Oo Oo) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x3727C5AC#32)))))) (broadcastInDim S8192x8x128 ![0, 1, 2] bcast_S1x1x128_S8192x8x128_0_1_2 (broadcastInDim S1x1x128 ![2] bcast_S128_S1x1x128_2 (shapeCast _ G shapeCasts_S1x128_S128)))) (broadcastInDim S8192x8x128 ![] bcast_S_S8192x8x128 (constant S_ .f32 0x3F4CCCCD#32))) shapeCasts_S8192x8x128_S8192x1024) bitsLt_bf16_f32

theorem res_eq (m : (ℓ : Loc nD τ sig) → Buf (Elt Ideal) ℓ) (c : Dev nD) :
    res_out0 (F := Ideal) m c = rmsV (headV (vV (m ((c.tc : Thread nD τ).loc main_arg2)))
      (wtV (softV (expV (scV (qV (m ((c.tc : Thread nD τ).loc main_arg0))) (kV (m ((c.tc : Thread nD τ).loc main_arg1))))))
        (lamV (m ((c.tc : Thread nD τ).loc main_arg3)) (m ((c.tc : Thread nD τ).loc main_arg4)) (m ((c.tc : Thread nD τ).loc main_arg5)) (m ((c.tc : Thread nD τ).loc main_arg6)))))
      (m ((c.tc : Thread nD τ).loc main_arg7)) := by
  unfold res_out0 res_main_v62; rfl

theorem q_at (XQ : FVec Ideal S1024x8192 .bf16) (r : Fin 8192) (h : Fin 8) (i : Fin 2) (e : Fin 64) :
    qV XQ (ix4 r h i e) = XQ (ix2 (feat h i e) r) * Ideal.log (Ideal.ofBits .f32 0x40000000#32) := by
  pointwise [qV, feat]
  rfl

theorem k_at (XK : FVec Ideal S8192x1024 .bf16) (r : Fin 8192) (h : Fin 8) (i : Fin 2) (e : Fin 64) :
    kV XK (ix4 r h i e) = XK (ix2 r (feat h i e)) := by
  pointwise [kV, feat]

theorem v_at (XV : FVec Ideal S8x1024x1024 .bf16) (c : Fin 8192) (h : Fin 8) (d : Fin 128) (u : Fin 8) (l : Fin 1024) (hu : c.val = 1024 * u.val + l.val) :
    vV XV (ix3 c h d) = XV (ix3 u (col h d) l) := by
  pointwise [vV, col]
  blk_ext

theorem sc_at (Q K : FVec Ideal S8192x8x2x64 .f32) (h : Fin 8) (i : Fin 2) (r c : Fin 8192) :
    scV Q K (ix4 h i r c) = ∑ e : Fin 64, Q (ix4 r h i e) * K (ix4 c h i e) := by
  pointwise [scV]

theorem bits_bot : Ideal.ofBits .f32 0xFF800000#32 = ⊥ := by simp [Ideal.ofBits, Ideal.ieee]

theorem bits_two : Ideal.log (Ideal.ofBits .f32 0x40000000#32) = ((Real.log 2 : ℝ) : EReal) := by
  have h : Ideal.ofBits .f32 0x40000000#32 = ((2 : ℝ) : EReal) := by simp [Ideal.ofBits, Ideal.ieee, -EReal.coe_mul]; norm_num
  rw [h, Ideal.log_coe, if_neg (by norm_num)]

/-- A reduction by maximum from below every real is a real. -/
theorem reduce_finite {s t u : Shape} {a : Fin s.rank} (x : s.Idx → EReal) (hx : ∀ j, Finite (x j)) (init : u.Idx → EReal) (h0 : ∀ i, init i = ⊥)
    (h' : s.ReducesTo [a] t) (h : s.Reduces [a] t) (hu : 0 < u.numel) (hp : 0 < s.size a) (j : t.Idx) : Finite (Host.reduce max x init h' hu j) := by
  haveI : Nonempty (Fin (s.size a)) := ⟨⟨0, hp⟩⟩
  rw [Host.reduce_eq_fold_single max x init h' h hu j, h0]
  exact Finite.fold_max fun k => hx _

theorem bot_max {x y : EReal} (hx : x = ⊥) (hy : Finite y) : Finite (max x y) := by rw [hx, max_eq_right bot_le]; exact hy

theorem mx_finite (Sc : FVec Ideal S8x2x8192x8192 .f32) (hS : ∀ j, Finite (Sc j)) (j : S8x2x8192.Idx) : Finite (mxV Sc j) := by
  unfold mxV
  rw [maximumf_apply, Ideal.maximumf_def]
  refine bot_max bits_bot ?_
  rw [Ideal.maximumf_eq_max]
  exact reduce_finite Sc hS _ (fun _ => bits_bot) _ (by decide) _ (by decide) j

theorem exp_at (Sc : FVec Ideal S8x2x8192x8192 .f32) (h : Fin 8) (i : Fin 2) (r c : Fin 8192) :
    expV Sc (ix4 h i r c) = Ideal.exp (Sc (ix4 h i r c) - mxV Sc (ix3 h i r)) := by
  pointwise [expV]

theorem soft_at (E : FVec Ideal S8x2x8192x8192 .f32) (h : Fin 8) (i : Fin 2) (r c : Fin 8192) :
    softV E (ix4 h i r c) = Ideal.div (E (ix4 h i r c)) (∑ d : Fin 8192, E (ix4 h i r d)) := by
  pointwise [softV]

theorem lam_at (L1 K1 L2 K2 : FVec Ideal S1x64 .f32) (j : S_.Idx) :
    lamV L1 K1 L2 K2 j = lam (fun e => L1 (ix2 0 e)) (fun e => K1 (ix2 0 e)) (fun e => L2 (ix2 0 e)) (fun e => K2 (ix2 0 e)) := by
  pointwise [lamV, lam]

theorem wt_at (Aa : FVec Ideal S8x2x8192x8192 .f32) (Lam : FVec Ideal S_ .f32) (x : EReal) (hx : ∀ j, Lam j = x) (h : Fin 8) (r c : Fin 8192) :
    wtV Aa Lam (ix3 h r c) = Aa (ix4 h 0 r c) - x * Aa (ix4 h 1 r c) := by
  pointwise [wtV, hx]

theorem head_at (Vv : FVec Ideal S8192x8x128 .f32) (W : FVec Ideal S8x8192x8192 .f32) (r : Fin 8192) (h : Fin 8) (d : Fin 128) :
    headV Vv W (ix3 r h d) = ∑ c : Fin 8192, Vv (ix3 c h d) * W (ix3 h r c) := by
  pointwise [headV]

theorem rms_at (Oo : FVec Ideal S8192x8x128 .f32) (G : FVec Ideal S1x128 .f32) (r : Fin 8192) (h : Fin 8) (d : Fin 128) :
    rmsV Oo G (ix2 r (col h d)) = rms (fun j => Oo (ix3 r h j)) (G (ix2 0 d)) d := by
  pointwise [rmsV, rms, col]

/-- The reference at row `r`, column `d` of head `h`, when what it reads are reals. -/
theorem ref_at (XQ : FVec Ideal S1024x8192 .bf16) (XK : FVec Ideal S8192x1024 .bf16) (XV : FVec Ideal S8x1024x1024 .bf16)
    (L1 K1 L2 K2 : FVec Ideal S1x64 .f32) (G : FVec Ideal S1x128 .f32)
    (q : Fin 1024 → Fin 8192 → ℝ) (k : Fin 8192 → Fin 1024 → ℝ) (v : Fin 8 → Fin 1024 → Fin 1024 → ℝ) (lm : ℝ)
    (hq : ∀ f r, XQ (ix2 f r) = q f r) (hk : ∀ c f, XK (ix2 c f) = k c f) (hv : ∀ u f l, XV (ix3 u f l) = v u f l)
    (hl : lam (fun e => L1 (ix2 0 e)) (fun e => K1 (ix2 0 e)) (fun e => L2 (ix2 0 e)) (fun e => K2 (ix2 0 e)) = lm)
    (r : Fin 8192) (h : Fin 8) (d : Fin 128) :
    rmsV (headV (vV XV) (wtV (softV (expV (scV (qV XQ) (kV XK)))) (lamV L1 K1 L2 K2))) G (ix2 r (col h d)) = spec q k v lm (G (ix2 0 d)) r h d := by
  have hS : ∀ (h : Fin 8) (i : Fin 2) (r c : Fin 8192), scV (qV XQ) (kV XK) (ix4 h i r c) = ((Real.log 2 * score q k h i r c.val : ℝ) : EReal) := by
    intro h i r c
    rw [sc_at]
    simp only [q_at, k_at, bits_two, hq, hk, ← EReal.coe_mul]
    rw [← Cert.Softmax.coe_sum]
    refine congrArg _ ?_
    unfold score
    rw [Cert.Softmax.nth_val, Finset.mul_sum]
    exact Finset.sum_congr rfl fun e _ => by ring
  have hM : ∀ (h : Fin 8) (i : Fin 2) (r : Fin 8192), Finite (mxV (scV (qV XQ) (kV XK)) (ix3 h i r)) := fun h i r =>
    mx_finite _ (fun j => ⟨_, (congrArg _ (eq_ix4 j)).trans (hS (j 0) (j 1) (j 2) (j 3))⟩) _
  obtain ⟨M, hM0⟩ := hM h 0 r
  obtain ⟨N, hN0⟩ := hM h 1 r
  rw [rms_at]
  unfold spec
  refine congrFun (congrFun (congrArg rms (funext fun j => ?_)) _) _
  rw [head_at, ← Cert.Softmax.difference (by norm_num) _ _ _ M N lm]
  refine Finset.sum_congr rfl fun c _ => congrArg₂ (· * ·) ?_ ?_
  · rw [v_at XV c h j ⟨c.val / 1024, by omega⟩ ⟨c.val % 1024, by omega⟩ (by show c.val = 1024 * (c.val / 1024) + c.val % 1024; omega), hv]
    unfold value
    simp only [Cert.Softmax.nth_val]
  · rw [wt_at _ _ lm (fun j => (lam_at L1 K1 L2 K2 j).trans hl), soft_at, soft_at]
    simp only [exp_at, hS, hM0, hN0]

end Cert.ReferenceIdeal.Value

end
-- ==== Proof.AttPay.lean ====
module

public import proofs.«01_k».proof.Proof.AttModel
public import proofs.«01_k».proof.Proof.AttRef
public import Idealize.ShloMosaic.Lib.Pipeline.ValueKit

/-! The pieces of the attention kernel's body read at one entry. -/

@[expose] public section

set_option maxRecDepth 16384

noncomputable section

namespace Cert.KernelIdeal.Att

open Idealize.ShloMosaic Idealize.ShloMosaic.TcCoe Idealize.SL.Sem
open Cert.KernelIdeal Cert.KernelIdeal.Gen
open Cert.Softmax (Finite lam rms)

theorem exp2_def (x : Ideal .f32) : FloatOps.exp2 x = Ideal.exp2 x := rfl

theorem slt_at : ∀ e : Fin 128, IntOp.cmpi .slt (BitVec.ofNat 32 e.val) 64#32 = if e.val < 64 then 1#1 else 0#1 := by decide
theorem sge_at : ∀ e : Fin 128, IntOp.cmpi .sge (BitVec.ofNat 32 e.val) 64#32 = if e.val < 64 then 0#1 else 1#1 := by decide

/-- The features of map 0 of a feature's number, others zero -/
def keep0 (e : Fin 128) (x : EReal) : EReal := if e.val < 64 then x else 0
/-- and those of map 1. -/
def keep1 (e : Fin 128) (x : EReal) : EReal := if e.val < 64 then 0 else x

theorem slt_select (e : Fin 128) (x : EReal) : Scalar.select (IntOp.cmpi .slt (BitVec.ofNat 32 e.val) 64#32) x 0 = keep0 e x := by
  unfold keep0; rw [slt_at]; split <;> rfl
theorem sge_select (e : Fin 128) (x : EReal) : Scalar.select (IntOp.cmpi .sge (BitVec.ofNat 32 e.val) 64#32) x 0 = keep1 e x := by
  unfold keep1; rw [sge_at]; split <;> rfl

theorem prob_at (q : FVec Ideal S128x1024 .bf16) (m : FVec Ideal S1x1024 .f32) (k : FVec Ideal S1024x128 .bf16) (l x : Fin 1024) :
    k0_pay86 (F := Ideal) q m k (ix3 0 l x) = Ideal.exp2 ((∑ e : Fin 128, k (ix2 l e) * q (ix2 e x)) - m (ix2 0 x)) := by
  pointwise [k0_pay86, k0_pay85, exp2_def]

theorem psum_at (q : FVec Ideal S128x1024 .bf16) (m : FVec Ideal S1x1024 .f32) (k : FVec Ideal S1024x128 .bf16) (x : Fin 1024) :
    k0_pay87 (F := Ideal) q m k (ix2 0 x) = ∑ l : Fin 1024, Ideal.exp2 ((∑ e : Fin 128, k (ix2 l e) * q (ix2 e x)) - m (ix2 0 x)) := by
  pointwise [k0_pay87, k0_pay85, exp2_def]

theorem acc_at (v : FVec Ideal S1x128x1024 .bf16) (a : FVec Ideal S1x128x1024 .f32) (p : FVec Ideal S1x1024x1024 .bf16) (d : Fin 128) (x : Fin 1024) :
    k0_pay99 (F := Ideal) v a p (ix3 0 d x) = a (ix3 0 d x) + ∑ l : Fin 1024, v (ix3 0 d l) * p (ix3 0 l x) := by
  pointwise [k0_pay99, k0_pay98]

theorem score_at (q : FVec Ideal S128x1024 .bf16) (k : FVec Ideal S1024x128 .bf16) (l x : Fin 1024) :
    k0_pay57 (F := Ideal) q k (ix3 0 l x) = ∑ e : Fin 128, k (ix2 l e) * q (ix2 e x) := by
  pointwise [k0_pay57, k0_pay56]

theorem top_at (q : FVec Ideal S128x1024 .bf16) (k : FVec Ideal S1024x128 .bf16) (x : Fin 1024) :
    k0_pay58 (F := Ideal) q k (ix2 0 x) = Finset.univ.fold max ⊥ fun l : Fin 1024 => ∑ e : Fin 128, k (ix2 l e) * q (ix2 e x) := by
  rw [← Cert.ReferenceIdeal.Value.bits_bot]
  pointwise [k0_pay58, k0_pay56]

theorem max_at (a b : FVec Ideal S1x1024 .f32) (x : Fin 1024) : k0_pay32 (F := Ideal) a b (ix2 0 x) = max (a (ix2 0 x)) (b (ix2 0 x)) := by
  pointwise [k0_pay32]

theorem osum_at (m l M : FVec Ideal S1x1024 .f32) (s : FVec Ideal S1x1024x1024 .f32) (x : Fin 1024) :
    k0_pay35 (F := Ideal) m l M s (ix2 0 x) = Ideal.exp2 (m (ix2 0 x) - k0_pay32 (F := Ideal) m M (ix2 0 x)) * l (ix2 0 x)
      + ∑ i : Fin 1024, Ideal.exp2 (s (ix3 0 i x) - k0_pay32 (F := Ideal) m M (ix2 0 x)) := by
  pointwise [k0_pay35, k0_pay34, k0_pay33, k0_pay32, exp2_def]

theorem oacc_at (v : FVec Ideal S1x128x1024 .bf16) (m M : FVec Ideal S1x1024 .f32) (s : FVec Ideal S1x1024x1024 .f32) (a : FVec Ideal S1x128x1024 .f32)
    (d : Fin 128) (x : Fin 1024) :
    k0_pay36 (F := Ideal) (k0_pay31 (F := Ideal) v) (k0_pay33 (F := Ideal) m M) (k0_pay34 (F := Ideal) m M s) a (ix3 0 d x)
      = a (ix3 0 d x) * Ideal.exp2 (m (ix2 0 x) - k0_pay32 (F := Ideal) m M (ix2 0 x))
      + ∑ i : Fin 1024, v (ix3 0 d i) * Ideal.exp2 (s (ix3 0 i x) - k0_pay32 (F := Ideal) m M (ix2 0 x)) := by
  pointwise [k0_pay36, k0_pay31, k0_pay34, k0_pay33, k0_pay32, exp2_def]

theorem q0_at (q : FVec Ideal S128x1024 .bf16) (e : Fin 128) (x : Fin 1024) :
    k0_pay71 (F := Ideal) q (ix2 e x) = keep0 e (q (ix2 e x)) := by
  pointwise [k0_pay71, k0_pay70]
  exact slt_select e _

theorem q1_at (q : FVec Ideal S128x1024 .bf16) (e : Fin 128) (x : Fin 1024) :
    k0_pay72 (F := Ideal) q (ix2 e x) = keep1 e (q (ix2 e x)) := by
  pointwise [k0_pay72, k0_pay70]
  exact sge_select e _

theorem lam_at (a b c d : FVec Ideal S1x64 .f32) :
    k0_pay111 (F := Ideal) a b c d (ix2 0 0) = lam (fun e => a (ix2 0 e)) (fun e => b (ix2 0 e)) (fun e => c (ix2 0 e)) (fun e => d (ix2 0 e)) := by
  pointwise [k0_pay111, lam]

theorem shift0_at (q : FVec Ideal S128x1024 .bf16) (n : FVec Ideal S1x1 .f32) (x : Fin 1024) :
    k0_pay81 (F := Ideal) q (k0_pay78 (F := Ideal) n) (ix2 0 x) = Ideal.sqrt ((∑ e : Fin 64, q (ix2 ⟨e.val, by omega⟩ x) * q (ix2 ⟨e.val, by omega⟩ x)) * n (ix2 0 0)) := by
  pointwise [k0_pay81, k0_pay78, k0_pay80, k0_pay70]

theorem shift1_at (q : FVec Ideal S128x1024 .bf16) (n : FVec Ideal S1x1 .f32) (x : Fin 1024) :
    k0_pay82 (F := Ideal) q (k0_pay79 (F := Ideal) n) (ix2 0 x) = Ideal.sqrt ((∑ e : Fin 64, q (ix2 ⟨64 + e.val, by omega⟩ x) * q (ix2 ⟨64 + e.val, by omega⟩ x)) * n (ix2 0 0)) := by
  pointwise [k0_pay82, k0_pay79, k0_pay80, k0_pay70]

theorem norm0_at (n : FVec Ideal S1x1 .f32) (k : FVec Ideal S1024x128 .bf16) :
    k0_pay76 (F := Ideal) n k (ix2 0 0) = max (n (ix2 0 0)) (Finset.univ.fold max ⊥ fun l : Fin 1024 => ∑ e : Fin 128, keep0 e (k (ix2 l e) * k (ix2 l e))) := by
  rw [← Cert.ReferenceIdeal.Value.bits_bot]
  pointwise [k0_pay76, k0_pay75]
  simp only [slt_select]

theorem norm1_at (n : FVec Ideal S1x1 .f32) (k : FVec Ideal S1024x128 .bf16) :
    k0_pay77 (F := Ideal) n k (ix2 0 0) = max (n (ix2 0 0)) (Finset.univ.fold max ⊥ fun l : Fin 1024 => ∑ e : Fin 128, keep1 e (k (ix2 l e) * k (ix2 l e))) := by
  rw [← Cert.ReferenceIdeal.Value.bits_bot]
  pointwise [k0_pay77, k0_pay75]
  simp only [sge_select]

theorem zero_at : k0_pay74 (F := Ideal) (ix2 0 0) = 0 := by pointwise [k0_pay74]
theorem start_at (x : Fin 1024) : k0_pay73 (F := Ideal) (ix2 0 x) = 0 := by pointwise [k0_pay73]
theorem bottom_at (x : Fin 1024) : k0_pay55 (F := Ideal) (ix2 0 x) = ⊥ := by
  rw [← Cert.ReferenceIdeal.Value.bits_bot]
  pointwise [k0_pay55]
theorem zacc_at (d : Fin 128) (x : Fin 1024) : (zacc (F := Ideal)) (ix3 0 d x) = 0 := Ideal.ofBits_zero_f32

/-- The block from the two maps' sums and weighted values. -/
theorem block_at (w : FVec Ideal S1x1 .f32) (a b : FVec Ideal S1x128x1024 .f32) (s t : FVec Ideal S1x1024 .f32) (g : FVec Ideal S1x128 .f32) (x : Fin 1024) (d : Fin 128) :
    k0_pay1 (F := Ideal) w a (k0_pay108 (F := Ideal) s) b (k0_pay109 (F := Ideal) t) g (ix2 x d)
      = rms (fun j => Ideal.div (a (ix3 0 j x)) (s (ix2 0 x)) - w (ix2 0 0) * Ideal.div (b (ix3 0 j x)) (t (ix2 0 x))) (g (ix2 0 d)) d := by
  pointwise [k0_pay1, k0_pay108, k0_pay109, rms]
  exact (mul_assoc _ _ _).symm

theorem slow_eq (s : FVec Ideal S1x1024 .f32) : k0_pay68 (F := Ideal) s = k0_pay108 (F := Ideal) s := rfl
theorem slow_eq' (s : FVec Ideal S1x1024 .f32) : k0_pay69 (F := Ideal) s = k0_pay109 (F := Ideal) s := rfl

end Cert.KernelIdeal.Att

end
-- ==== Proof.AttSoft.lean ====
module

public import proofs.«01_k».proof.Proof.AttPay

/-! What one point of the attention kernel writes, when what it reads are reals: both of its branches give the difference
of the two softmaxes, normalised. -/

@[expose] public section

set_option maxRecDepth 16384

noncomputable section

namespace Cert.KernelIdeal.Att

open Idealize.ShloMosaic Idealize.ShloMosaic.TcCoe Idealize.SL.Sem
open Cert.KernelIdeal Cert.KernelIdeal.Gen
open Cert.Softmax (Finite lam rms nth att)

theorem kc_at (x3 : FVec Ideal S8192x128 .bf16) (j : ℕ) (hj : j < 8) (l : Fin 1024) (e : Fin 128) :
    (show FVec Ideal S1024x128 .bf16 from kc (F := Ideal) x3 j) (ix2 l e) = x3 (ix2 (nth (j * 1024 + l.val)) e) := by
  refine congrArg x3 (funext fun a => Fin.ext ?_)
  match a with
  | 0 => show 1024 * (j % 8) + 1 * l.val = (j * 1024 + l.val) % 8192; omega
  | 1 => show 0 + 1 * e.val = e.val; omega

theorem vc_at (x4 : FVec Ideal S8x128x1024 .bf16) (j : ℕ) (hj : j < 8) (d : Fin 128) (l : Fin 1024) :
    (show FVec Ideal S1x128x1024 .bf16 from vc (F := Ideal) x4 j) (ix3 0 d l)
      = x4 (ix3 ⟨(nth (j * 1024 + l.val)).val / 1024, by omega⟩ d ⟨(nth (j * 1024 + l.val)).val % 1024, by omega⟩) := by
  refine congrArg x4 (funext fun a => Fin.ext ?_)
  match a with
  | 0 => show j % 8 + 1 * 0 = (j * 1024 + l.val) % 8192 / 1024; omega
  | 1 => show 0 + 1 * d.val = d.val; omega
  | 2 => show 0 + 1 * l.val = (j * 1024 + l.val) % 8192 % 1024; omega

section Map
variable (q : FVec Ideal S128x1024 .bf16) (m : FVec Ideal S1x1024 .f32) (x3 : FVec Ideal S8192x128 .bf16) (x4 : FVec Ideal S8x128x1024 .bf16)
  (x : Fin 1024) (d : Fin 128)

/-- The accumulators of one query, as sequences over the chunks: the shifted softmax's -/
def sumAt (n : ℕ) : EReal := (show FVec Ideal S1x1024 .f32 from S (F := Ideal) q m x3 n) (ix2 0 x)
def accAt (n : ℕ) : EReal := (show FVec Ideal S1x128x1024 .f32 from A (F := Ideal) q m x3 x4 n) (ix3 0 d x)
/-- and the online softmax's. -/
def maxO (n : ℕ) : EReal := (show FVec Ideal S1x1024 .f32 from (O (F := Ideal) q x3 x4 n).1) (ix2 0 x)
def sumO (n : ℕ) : EReal := (show FVec Ideal S1x1024 .f32 from (O (F := Ideal) q x3 x4 n).2.1) (ix2 0 x)
def accO (n : ℕ) : EReal := (show FVec Ideal S1x128x1024 .f32 from (O (F := Ideal) q x3 x4 n).2.2) (ix3 0 d x)
/-- The score of key `l` of a chunk -/
def keyDot (n : ℕ) (l : Fin 1024) : EReal := ∑ e : Fin 128, (show FVec Ideal S1024x128 .bf16 from kc (F := Ideal) x3 n) (ix2 l e) * q (ix2 e x)
/-- and an entry of its value. -/
def valAt (n : ℕ) (l : Fin 1024) : EReal := (show FVec Ideal S1x128x1024 .bf16 from vc (F := Ideal) x4 n) (ix3 0 d l)

theorem sumAt_zero : sumAt q m x3 x 0 = 0 := start_at x
theorem accAt_zero : accAt q m x3 x4 x d 0 = 0 := zacc_at d x
theorem sumAt_succ (n : ℕ) : sumAt q m x3 x (n + 1) = sumAt q m x3 x n + ∑ l : Fin 1024, Ideal.exp2 (keyDot q x3 x n l - m (ix2 0 x)) :=
  congrArg (fun z => sumAt q m x3 x n + z) (psum_at q m (kc (F := Ideal) x3 n) x)
theorem accAt_succ (n : ℕ) : accAt q m x3 x4 x d (n + 1) = accAt q m x3 x4 x d n + ∑ l : Fin 1024, valAt x4 d n l * Ideal.exp2 (keyDot q x3 x n l - m (ix2 0 x)) := by
  refine (acc_at (vc (F := Ideal) x4 n) (A (F := Ideal) q m x3 x4 n) (P (F := Ideal) q m x3 n) d x).trans ?_
  exact congrArg (fun z => accAt q m x3 x4 x d n + z) (Finset.sum_congr rfl fun l _ => congrArg (fun z => valAt x4 d n l * z) (prob_at q m (kc (F := Ideal) x3 n) l x))

theorem maxO_zero : maxO q x3 x4 x 0 = ⊥ := bottom_at x
theorem sumO_zero : sumO q x3 x4 x 0 = 0 := start_at x
theorem accO_zero : accO q x3 x4 x d 0 = 0 := zacc_at d x
theorem maxO_succ (n : ℕ) : maxO q x3 x4 x (n + 1) = max (maxO q x3 x4 x n) (Finset.univ.fold max ⊥ fun l : Fin 1024 => keyDot q x3 x n l) :=
  (max_at (O (F := Ideal) q x3 x4 n).1 (Mx (F := Ideal) q x3 n) x).trans (congrArg (fun z => max (maxO q x3 x4 x n) z) (top_at q (kc (F := Ideal) x3 n) x))
theorem sumO_succ (n : ℕ) : sumO q x3 x4 x (n + 1) = Ideal.exp2 (maxO q x3 x4 x n - maxO q x3 x4 x (n + 1)) * sumO q x3 x4 x n
    + ∑ l : Fin 1024, Ideal.exp2 (keyDot q x3 x n l - maxO q x3 x4 x (n + 1)) := by
  refine (osum_at (O (F := Ideal) q x3 x4 n).1 (O (F := Ideal) q x3 x4 n).2.1 (Mx (F := Ideal) q x3 n) (Sc (F := Ideal) q x3 n) x).trans ?_
  exact congrArg (fun z => Ideal.exp2 (maxO q x3 x4 x n - maxO q x3 x4 x (n + 1)) * sumO q x3 x4 x n + z)
    (Finset.sum_congr rfl fun l _ => congrArg (fun z => Ideal.exp2 (z - maxO q x3 x4 x (n + 1))) (score_at q (kc (F := Ideal) x3 n) l x))
theorem accO_succ (n : ℕ) : accO q x3 x4 x d (n + 1) = accO q x3 x4 x d n * Ideal.exp2 (maxO q x3 x4 x n - maxO q x3 x4 x (n + 1))
    + ∑ l : Fin 1024, valAt x4 d n l * Ideal.exp2 (keyDot q x3 x n l - maxO q x3 x4 x (n + 1)) := by
  refine (oacc_at (vc (F := Ideal) x4 n) (O (F := Ideal) q x3 x4 n).1 (Mx (F := Ideal) q x3 n) (Sc (F := Ideal) q x3 n) (O (F := Ideal) q x3 x4 n).2.2 d x).trans ?_
  exact congrArg (fun z => accO q x3 x4 x d n * Ideal.exp2 (maxO q x3 x4 x n - maxO q x3 x4 x (n + 1)) + z)
    (Finset.sum_congr rfl fun l _ => congrArg (fun z => valAt x4 d n l * Ideal.exp2 (z - maxO q x3 x4 x (n + 1))) (score_at q (kc (F := Ideal) x3 n) l x))

variable {s v : ℕ → ℝ} (hs : ∀ j < 8, ∀ l : Fin 1024, keyDot q x3 x j l = (s (j * 1024 + l.val) : EReal))
  (hv : ∀ j < 8, ∀ l : Fin 1024, valAt x4 d j l = (v (j * 1024 + l.val) : EReal))
include hs hv

/-- One map of the shifted softmax. -/
theorem fast_map (M : ℝ) (hm : m (ix2 0 x) = M) : Ideal.div (accAt q m x3 x4 x d 8) (sumAt q m x3 x 8) = (att s v 8192 : EReal) :=
  Cert.Softmax.shifted_value (T := 1024) (K := 8) (M := M) (s := s) (v := v) (S := sumAt q m x3 x) (A := accAt q m x3 x4 x d)
    (sumAt_zero q m x3 x) (accAt_zero q m x3 x4 x d)
    (fun n hn => by rw [sumAt_succ, hm]; simp only [hs n hn])
    (fun n hn => by rw [accAt_succ, hm]; simp only [hs n hn, hv n hn]) (by norm_num)

/-- One map of the online softmax. -/
theorem slow_map : Ideal.div (accO q x3 x4 x d 8) (sumO q x3 x4 x 8) = (att s v 8192 : EReal) :=
  Cert.Softmax.Online.value (T := 1024) (K := 8) (s := s) (v := v) (m := maxO q x3 x4 x) (l := sumO q x3 x4 x) (a := accO q x3 x4 x d)
    ⟨maxO_zero q x3 x4 x, sumO_zero q x3 x4 x, accO_zero q x3 x4 x d,
      fun n hn => by rw [maxO_succ]; simp only [hs n hn],
      fun n hn => by rw [sumO_succ]; simp only [hs n hn],
      fun n hn => by rw [accO_succ]; simp only [hs n hn, hv n hn]⟩ (n := 7) (by norm_num)
end Map

/-- Feature `e` of map `i` in a head's block. -/
def half (i : Fin 2) (e : Fin 64) : Fin 128 := ⟨i.val * 64 + e.val, by omega⟩

theorem sum_keep0 (f g : Fin 128 → EReal) : ∑ e : Fin 128, f e * keep0 e (g e) = ∑ e : Fin 64, f (half 0 e) * g (half 0 e) := by
  refine (Fin.sum_univ_add (a := 64) (b := 64) _).trans ?_
  have h : ∑ e : Fin 64, f (Fin.natAdd 64 e) * keep0 (Fin.natAdd 64 e) (g (Fin.natAdd 64 e)) = 0 :=
    Finset.sum_eq_zero fun e _ => by unfold keep0; rw [if_neg (by show ¬(64 + e.val < 64); omega), mul_zero]
  rw [h, add_zero]
  refine Finset.sum_congr rfl fun e _ => ?_
  have he : Fin.castAdd 64 e = half 0 e := Fin.ext (by show e.val = 0 * 64 + e.val; omega)
  unfold keep0
  rw [he, if_pos (by show 0 * 64 + e.val < 64; omega)]

theorem sum_keep1 (f g : Fin 128 → EReal) : ∑ e : Fin 128, f e * keep1 e (g e) = ∑ e : Fin 64, f (half 1 e) * g (half 1 e) := by
  refine (Fin.sum_univ_add (a := 64) (b := 64) _).trans ?_
  have h : ∑ e : Fin 64, f (Fin.castAdd 64 e) * keep1 (Fin.castAdd 64 e) (g (Fin.castAdd 64 e)) = 0 :=
    Finset.sum_eq_zero fun e _ => by unfold keep1; rw [if_pos (by show e.val < 64; omega), mul_zero]
  rw [h, zero_add]
  refine Finset.sum_congr rfl fun e _ => ?_
  have he : Fin.natAdd 64 e = half 1 e := Fin.ext (by show 64 + e.val = 1 * 64 + e.val; omega)
  unfold keep1
  rw [he, if_neg (by show ¬(1 * 64 + e.val < 64); omega)]

/-- A real that is not negative. -/
def Nonneg (x : EReal) : Prop := ∃ r : ℝ, 0 ≤ r ∧ x = r

theorem Nonneg.zero : Nonneg 0 := ⟨0, le_rfl, rfl⟩
theorem Nonneg.sq (r : ℝ) : Nonneg ((r : EReal) * (r : EReal)) := ⟨r * r, mul_self_nonneg r, (EReal.coe_mul r r).symm⟩
theorem Nonneg.sum {ι : Type*} (t : Finset ι) {f : ι → EReal} (h : ∀ i, Nonneg (f i)) : Nonneg (∑ i ∈ t, f i) := by
  choose g h0 hg using h
  exact ⟨∑ i ∈ t, g i, Finset.sum_nonneg fun i _ => h0 i, by rw [Cert.Softmax.coe_sum]; exact Finset.sum_congr rfl fun i _ => hg i⟩
theorem Nonneg.max {x y : EReal} (hx : Nonneg x) (hy : Finite y) : Nonneg (max x y) := by
  obtain ⟨a, ha, rfl⟩ := hx
  obtain ⟨b, hb⟩ := (Finite.real a).max hy
  refine ⟨b, ?_, hb⟩
  have : (a : EReal) ≤ b := hb ▸ le_max_left _ _
  exact ha.trans (EReal.coe_le_coe_iff.1 this)
theorem Nonneg.sqrt {x y : EReal} (hx : Nonneg x) (hy : Nonneg y) : Finite (Ideal.sqrt (x * y)) := by
  obtain ⟨a, ha, rfl⟩ := hx
  obtain ⟨b, hb, rfl⟩ := hy
  rw [← EReal.coe_mul, Ideal.sqrt_coe, if_neg (not_lt.2 (mul_nonneg ha hb))]
  exact Finite.real _

section Point
variable (x2 : FVec Ideal S128x1024 .bf16) (x3 : FVec Ideal S8192x128 .bf16) (x4 : FVec Ideal S8x128x1024 .bf16)
  (x5 x6 x7 x8 : FVec Ideal S1x64 .f32) (x9 : FVec Ideal S1x128 .f32)
  (a : Fin 128 → Fin 1024 → ℝ) (b : Fin 8192 → Fin 128 → ℝ) (w : Fin 8 → Fin 128 → Fin 1024 → ℝ) (lm : ℝ)

/-- The score of key `c` for query `x` of map `i` in the block. -/
def blockScore (i : Fin 2) (x : Fin 1024) (c : ℕ) : ℝ := ∑ e : Fin 64, b (nth c) (half i e) * a (half i e) x
/-- Entry `d` of key `c`'s value in the block. -/
def blockValue (d : Fin 128) (c : ℕ) : ℝ := w ⟨(nth c).val / 1024, by omega⟩ d ⟨(nth c).val % 1024, by omega⟩

variable (ha : ∀ e x, x2 (ix2 e x) = a e x) (hb : ∀ c e, x3 (ix2 c e) = b c e) (hw : ∀ u d l, x4 (ix3 u d l) = w u d l)

/-- The largest squared norms of the keys so far, per map. -/
def norm0 (n : ℕ) : EReal := (show FVec Ideal S1x1 .f32 from (kn (F := Ideal) x3 n).1) (ix2 0 0)
def norm1 (n : ℕ) : EReal := (show FVec Ideal S1x1 .f32 from (kn (F := Ideal) x3 n).2) (ix2 0 0)

theorem Nonneg.finite {y : EReal} : Nonneg y → Finite y := fun ⟨r, _, e⟩ => ⟨r, e⟩

theorem Nonneg.keep0 {y : EReal} (h : Nonneg y) (e : Fin 128) : Nonneg (keep0 e y) := by
  unfold Att.keep0; split
  · exact h
  · exact Nonneg.zero
theorem Nonneg.keep1 {y : EReal} (h : Nonneg y) (e : Fin 128) : Nonneg (keep1 e y) := by
  unfold Att.keep1; split
  · exact Nonneg.zero
  · exact h

include hb in
theorem sq_nonneg_key (n : ℕ) (hn : n < 8) (l : Fin 1024) (e : Fin 128) :
    Nonneg ((show FVec Ideal S1024x128 .bf16 from kc (F := Ideal) x3 n) (ix2 l e) * (show FVec Ideal S1024x128 .bf16 from kc (F := Ideal) x3 n) (ix2 l e)) := by
  rw [(kc_at x3 n hn l e).trans (hb _ _)]
  exact Nonneg.sq _

include hb in
theorem norms_nonneg (n : ℕ) (hn : n ≤ 8) : Nonneg (norm0 x3 n) ∧ Nonneg (norm1 x3 n) := by
  induction n with
  | zero => exact ⟨(show norm0 x3 0 = 0 from zero_at) ▸ Nonneg.zero, (show norm1 x3 0 = 0 from zero_at) ▸ Nonneg.zero⟩
  | succ n ih =>
    obtain ⟨h0, h1⟩ := ih (by omega)
    have hk := sq_nonneg_key x3 b hb n (by omega)
    constructor
    · have e : norm0 x3 (n + 1) = _ := norm0_at (kn (F := Ideal) x3 n).1 (kc (F := Ideal) x3 n)
      rw [e]
      exact h0.max (Finite.fold_max fun l => (Nonneg.sum _ fun e => (hk l e).keep0 e).finite)
    · have e : norm1 x3 (n + 1) = _ := norm1_at (kn (F := Ideal) x3 n).2 (kc (F := Ideal) x3 n)
      rw [e]
      exact h1.max (Finite.fold_max fun l => (Nonneg.sum _ fun e => (hk l e).keep1 e).finite)

include ha hb in
theorem m0_finite (x : Fin 1024) : Finite ((show FVec Ideal S1x1024 .f32 from m0 (F := Ideal) x2 x3) (ix2 0 x)) := by
  have e : (show FVec Ideal S1x1024 .f32 from m0 (F := Ideal) x2 x3) (ix2 0 x) = _ := shift0_at x2 (kn (F := Ideal) x3 8).1 x
  rw [e]
  refine Nonneg.sqrt (Nonneg.sum _ fun e => ?_) (norms_nonneg x3 b hb 8 le_rfl).1
  rw [ha]; exact Nonneg.sq _

include ha hb in
theorem m1_finite (x : Fin 1024) : Finite ((show FVec Ideal S1x1024 .f32 from m1 (F := Ideal) x2 x3) (ix2 0 x)) := by
  have e : (show FVec Ideal S1x1024 .f32 from m1 (F := Ideal) x2 x3) (ix2 0 x) = _ := shift1_at x2 (kn (F := Ideal) x3 8).2 x
  rw [e]
  refine Nonneg.sqrt (Nonneg.sum _ fun e => ?_) (norms_nonneg x3 b hb 8 le_rfl).2
  rw [ha]; exact Nonneg.sq _

/-- The queries of the two maps, as arrays. -/
def qz : FVec Ideal S128x1024 .bf16 := q0 (F := Ideal) x2
def qo : FVec Ideal S128x1024 .bf16 := q1 (F := Ideal) x2

include ha hb in
theorem scores0 (x : Fin 1024) (j : ℕ) (hj : j < 8) (l : Fin 1024) : keyDot (qz x2) x3 x j l = (blockScore a b 0 x (j * 1024 + l.val) : EReal) := by
  have h : ∀ e, qz x2 (ix2 e x) = keep0 e (a e x) := fun e => (q0_at x2 e x).trans (by rw [ha])
  have hk : ∀ e, (show FVec Ideal S1024x128 .bf16 from kc (F := Ideal) x3 j) (ix2 l e) = b (nth (j * 1024 + l.val)) e := fun e => (kc_at x3 j hj l e).trans (hb _ _)
  unfold keyDot
  rw [Finset.sum_congr rfl fun e _ => congrArg₂ (· * ·) (hk e) (h e), sum_keep0 (fun e => (b (nth (j * 1024 + l.val)) e : EReal)) (fun e => (a e x : EReal))]
  unfold blockScore
  rw [Cert.Softmax.coe_sum]
  exact Finset.sum_congr rfl fun e _ => (EReal.coe_mul _ _).symm

include ha hb in
theorem scores1 (x : Fin 1024) (j : ℕ) (hj : j < 8) (l : Fin 1024) : keyDot (qo x2) x3 x j l = (blockScore a b 1 x (j * 1024 + l.val) : EReal) := by
  have h : ∀ e, qo x2 (ix2 e x) = keep1 e (a e x) := fun e => (q1_at x2 e x).trans (by rw [ha])
  have hk : ∀ e, (show FVec Ideal S1024x128 .bf16 from kc (F := Ideal) x3 j) (ix2 l e) = b (nth (j * 1024 + l.val)) e := fun e => (kc_at x3 j hj l e).trans (hb _ _)
  unfold keyDot
  rw [Finset.sum_congr rfl fun e _ => congrArg₂ (· * ·) (hk e) (h e), sum_keep1 (fun e => (b (nth (j * 1024 + l.val)) e : EReal)) (fun e => (a e x : EReal))]
  unfold blockScore
  rw [Cert.Softmax.coe_sum]
  exact Finset.sum_congr rfl fun e _ => (EReal.coe_mul _ _).symm

include hw in
theorem values (d : Fin 128) (j : ℕ) (hj : j < 8) (l : Fin 1024) : valAt x4 d j l = (blockValue w d (j * 1024 + l.val) : EReal) :=
  (vc_at x4 j hj d l).trans (hw _ _ _)

variable (hl : lam (fun e => x5 (ix2 0 e)) (fun e => x6 (ix2 0 e)) (fun e => x7 (ix2 0 e)) (fun e => x8 (ix2 0 e)) = lm)

/-- The difference of the two softmaxes at one query, normalised, from the reals. -/
def blockOut (x : Fin 1024) (d : Fin 128) (g : EReal) : EReal :=
  rms (fun j => (att (blockScore a b 0 x) (blockValue w j) 8192 : EReal) - (lm : EReal) * (att (blockScore a b 1 x) (blockValue w j) 8192 : EReal)) g d

include ha hb hw hl

theorem slow_at (x : Fin 1024) (d : Fin 128) :
    (show FVec Ideal S1024x128 .bf16 from outSlow (F := Ideal) x2 x3 x4 x5 x6 x7 x8 x9) (ix2 x d) = blockOut a b w lm x d (x9 (ix2 0 d)) := by
  refine (block_at (k0_pay111 (F := Ideal) x5 x6 x7 x8) (O (F := Ideal) (qz x2) x3 x4 8).2.2 (O (F := Ideal) (qo x2) x3 x4 8).2.2
    (O (F := Ideal) (qz x2) x3 x4 8).2.1 (O (F := Ideal) (qo x2) x3 x4 8).2.1 x9 x d).trans ?_
  refine congrArg (fun f => rms f (x9 (ix2 0 d)) d) (funext fun j => ?_)
  exact congrArg₂ (· - ·) (slow_map (qz x2) x3 x4 x j (scores0 x2 x3 a b ha hb x) (values x4 w hw j))
    (congrArg₂ (· * ·) ((lam_at x5 x6 x7 x8).trans hl) (slow_map (qo x2) x3 x4 x j (scores1 x2 x3 a b ha hb x) (values x4 w hw j)))

theorem fast_at (x : Fin 1024) (d : Fin 128) :
    (show FVec Ideal S1024x128 .bf16 from outFast (F := Ideal) x2 x3 x4 x5 x6 x7 x8 x9) (ix2 x d) = blockOut a b w lm x d (x9 (ix2 0 d)) := by
  obtain ⟨M, hM⟩ := m0_finite x2 x3 a b ha hb x
  obtain ⟨N, hN⟩ := m1_finite x2 x3 a b ha hb x
  refine (block_at (k0_pay111 (F := Ideal) x5 x6 x7 x8) (A (F := Ideal) (qz x2) (m0 (F := Ideal) x2 x3) x3 x4 8) (A (F := Ideal) (qo x2) (m1 (F := Ideal) x2 x3) x3 x4 8)
    (S (F := Ideal) (qz x2) (m0 (F := Ideal) x2 x3) x3 8) (S (F := Ideal) (qo x2) (m1 (F := Ideal) x2 x3) x3 8) x9 x d).trans ?_
  refine congrArg (fun f => rms f (x9 (ix2 0 d)) d) (funext fun j => ?_)
  exact congrArg₂ (· - ·) (fast_map (qz x2) (m0 (F := Ideal) x2 x3) x3 x4 x j (scores0 x2 x3 a b ha hb x) (values x4 w hw j) M hM)
    (congrArg₂ (· * ·) ((lam_at x5 x6 x7 x8).trans hl) (fast_map (qo x2) (m1 (F := Ideal) x2 x3) x3 x4 x j (scores1 x2 x3 a b ha hb x) (values x4 w hw j) N hN))

/-- The block at an entry, whichever branch computed it. -/
theorem out_at (x : Fin 1024) (d : Fin 128) :
    (show FVec Ideal S1024x128 .bf16 from out (F := Ideal) x2 x3 x4 x5 x6 x7 x8 x9) (ix2 x d) = blockOut a b w lm x d (x9 (ix2 0 d)) := by
  unfold out
  split
  · exact slow_at x2 x3 x4 x5 x6 x7 x8 x9 a b w lm ha hb hw hl x d
  · exact fast_at x2 x3 x4 x5 x6 x7 x8 x9 a b w lm ha hb hw hl x d
end Point

end Cert.KernelIdeal.Att

end
-- ==== Proof.AttValue.lean ====
module

public import proofs.«01_k».proof.Proof.AttFrame
public import proofs.«01_k».proof.Proof.AttSoft
public import Idealize.ShloMosaic.Lib.Pipeline.ValueKit

/-! The array the attention call leaves, entry by entry: point `t` works on head `t / 8` and on the queries of block
`t % 8`, and writes their rows of the head's columns. -/

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen
open Cert.Softmax (Finite lam rms nth att feat col spec)

variable (m : (ℓ : Loc nD τ sig) → Buf (Elt Ideal) ℓ)

theorem idx : ∀ t : Fin cfg0.N, win0_0.index t = ![t.val / 8, t.val % 8] ∧ win0_1.index t = ![0, t.val / 8]
    ∧ win0_2.index t = ![0, t.val / 8, 0] ∧ win0_3.index t = ![0, 0] ∧ win0_4.index t = ![0, 0] ∧ win0_5.index t = ![0, 0]
    ∧ win0_6.index t = ![0, 0] ∧ win0_7.index t = ![0, 0] ∧ win0_8.index t = ![t.val % 8, t.val / 8] ∧ t.val / 8 < 8 :=
  (by decide +kernel : ∀ t : Fin grid0.N, _)

abbrev argQ (c : Dev nD) : FVec Ideal S1024x8192 .bf16 := m ((c.tc : Thread nD τ).loc main_arg0)
abbrev argK (c : Dev nD) : FVec Ideal S8192x1024 .bf16 := m ((c.tc : Thread nD τ).loc main_arg1)
abbrev argV (c : Dev nD) : FVec Ideal S8x1024x1024 .bf16 := m ((c.tc : Thread nD τ).loc main_arg2)
abbrev argA (c : Dev nD) : FVec Ideal S1x64 .f32 := m ((c.tc : Thread nD τ).loc main_arg3)
abbrev argB (c : Dev nD) : FVec Ideal S1x64 .f32 := m ((c.tc : Thread nD τ).loc main_arg4)
abbrev argC (c : Dev nD) : FVec Ideal S1x64 .f32 := m ((c.tc : Thread nD τ).loc main_arg5)
abbrev argD (c : Dev nD) : FVec Ideal S1x64 .f32 := m ((c.tc : Thread nD τ).loc main_arg6)
abbrev argG (c : Dev nD) : FVec Ideal S1x128 .f32 := m ((c.tc : Thread nD τ).loc main_arg7)

theorem a_at (c : Dev nD) (e : Fin 64) : (show FVec Ideal S1x64 .f32 from V m c main_v1) (ix2 0 e) = argA m c (ix2 0 e) := by
  entry_read; pointwise
theorem b_at (c : Dev nD) (e : Fin 64) : (show FVec Ideal S1x64 .f32 from V m c main_v3) (ix2 0 e) = argB m c (ix2 0 e) := by
  entry_read; pointwise
theorem c_at (c : Dev nD) (e : Fin 64) : (show FVec Ideal S1x64 .f32 from V m c main_v5) (ix2 0 e) = argC m c (ix2 0 e) := by
  entry_read; pointwise
theorem d_at (c : Dev nD) (e : Fin 64) : (show FVec Ideal S1x64 .f32 from V m c main_v7) (ix2 0 e) = argD m c (ix2 0 e) := by
  entry_read; pointwise
theorem g_at (c : Dev nD) (d : Fin 128) : (show FVec Ideal S1x128 .f32 from V m c main_v9) (ix2 0 d) = argG m c (ix2 0 d) := by
  entry_read; pointwise
theorem qt_at (c : Dev nD) (f : Fin 1024) (r : Fin 8192) : (show FVec Ideal S1024x8192 .bf16 from V m c main_arg0) (ix2 f r) = argQ m c (ix2 f r) := by
  entry_read; rfl
theorem k_at (c : Dev nD) (r : Fin 8192) (f : Fin 1024) : (show FVec Ideal S8192x1024 .bf16 from V m c main_arg1) (ix2 r f) = argK m c (ix2 r f) := by
  entry_read; rfl
theorem vt_at (c : Dev nD) (u : Fin 8) (f l : Fin 1024) : (show FVec Ideal S8x1024x1024 .bf16 from V m c main_arg2) (ix3 u f l) = argV m c (ix3 u f l) := by
  entry_read; rfl

/-- The head and the row of a point's query. -/
def head (t : Fin cfg0.N) : Fin 8 := ⟨t.val / 8, (idx t).2.2.2.2.2.2.2.2.2⟩
def row (t : Fin cfg0.N) (x : Fin 1024) : Fin 8192 := ⟨t.val % 8 * 1024 + x.val, by omega⟩

theorem blk0 (c : Dev nD) (t : Fin cfg0.N) (e : Fin 128) (x : Fin 1024) :
    (show FVec Ideal S128x1024 .bf16 from iblk m c 0 t) (ix2 e x) = argQ m c (ix2 (col (head t) e) (row t x)) := by
  refine Eq.trans ?_ (qt_at m c (col (head t) e) (row t x))
  blk_ext [iblk, idx t, col, head, row]

theorem blk1 (c : Dev nD) (t : Fin cfg0.N) (r : Fin 8192) (e : Fin 128) :
    (show FVec Ideal S8192x128 .bf16 from iblk m c 1 t) (ix2 r e) = argK m c (ix2 r (col (head t) e)) := by
  refine Eq.trans ?_ (k_at m c r (col (head t) e))
  blk_ext [iblk, idx t, col, head]

theorem blk2 (c : Dev nD) (t : Fin cfg0.N) (u : Fin 8) (d : Fin 128) (l : Fin 1024) :
    (show FVec Ideal S8x128x1024 .bf16 from iblk m c 2 t) (ix3 u d l) = argV m c (ix3 u (col (head t) d) l) := by
  refine Eq.trans ?_ (vt_at m c u (col (head t) d) l)
  blk_ext [iblk, idx t, col, head]

theorem blk3 (c : Dev nD) (t : Fin cfg0.N) (e : Fin 64) : (show FVec Ideal S1x64 .f32 from iblk m c 3 t) (ix2 0 e) = argA m c (ix2 0 e) := by
  refine Eq.trans ?_ (a_at m c e)
  blk_ext [iblk, idx t]
theorem blk4 (c : Dev nD) (t : Fin cfg0.N) (e : Fin 64) : (show FVec Ideal S1x64 .f32 from iblk m c 4 t) (ix2 0 e) = argB m c (ix2 0 e) := by
  refine Eq.trans ?_ (b_at m c e)
  blk_ext [iblk, idx t]
theorem blk5 (c : Dev nD) (t : Fin cfg0.N) (e : Fin 64) : (show FVec Ideal S1x64 .f32 from iblk m c 5 t) (ix2 0 e) = argC m c (ix2 0 e) := by
  refine Eq.trans ?_ (c_at m c e)
  blk_ext [iblk, idx t]
theorem blk6 (c : Dev nD) (t : Fin cfg0.N) (e : Fin 64) : (show FVec Ideal S1x64 .f32 from iblk m c 6 t) (ix2 0 e) = argD m c (ix2 0 e) := by
  refine Eq.trans ?_ (d_at m c e)
  blk_ext [iblk, idx t]
theorem blk7 (c : Dev nD) (t : Fin cfg0.N) (d : Fin 128) : (show FVec Ideal S1x128 .f32 from iblk m c 7 t) (ix2 0 d) = argG m c (ix2 0 d) := by
  refine Eq.trans ?_ (g_at m c d)
  blk_ext [iblk, idx t]

section Real
variable (c : Dev nD) (q : Fin 1024 → Fin 8192 → ℝ) (k : Fin 8192 → Fin 1024 → ℝ) (v : Fin 8 → Fin 1024 → Fin 1024 → ℝ) (lm : ℝ)

/-- The result array of the call, from the reals its arguments are. -/
def result : FVec Ideal S8192x1024 .bf16 := fun i =>
  spec q k v lm (argG m c (ix2 0 ⟨(i 1).val % 128, Nat.mod_lt _ (by norm_num)⟩)) (i 0)
    ⟨(i 1).val / 128, by have : (i 1).val < 1024 := (i 1).isLt; omega⟩ ⟨(i 1).val % 128, Nat.mod_lt _ (by norm_num)⟩

theorem result_at (r : Fin 8192) (h : Fin 8) (d : Fin 128) : result m c q k v lm (ix2 r (col h d)) = spec q k v lm (argG m c (ix2 0 d)) r h d := by
  have hd : (⟨(col h d).val % 128, Nat.mod_lt _ (by norm_num)⟩ : Fin 128) = d := Fin.ext (by show (h.val * 128 + d.val) % 128 = d.val; omega)
  have hh : (⟨(col h d).val / 128, by have := (col h d).isLt; omega⟩ : Fin 8) = h := Fin.ext (by show (h.val * 128 + d.val) / 128 = h.val; omega)
  show spec q k v lm (argG m c (ix2 0 ⟨(col h d).val % 128, _⟩)) r ⟨(col h d).val / 128, _⟩ ⟨(col h d).val % 128, _⟩ = _
  rw [hd, hh]

variable (hq : ∀ f r, argQ m c (ix2 f r) = q f r) (hk : ∀ r f, argK m c (ix2 r f) = k r f) (hv : ∀ u f l, argV m c (ix3 u f l) = v u f l)
  (hl : lam (fun e => argA m c (ix2 0 e)) (fun e => argB m c (ix2 0 e)) (fun e => argC m c (ix2 0 e)) (fun e => argD m c (ix2 0 e)) = lm)

theorem col_half (h : Fin 8) (i : Fin 2) (e : Fin 64) : col h (half i e) = feat h i e :=
  Fin.ext (by show h.val * 128 + (i.val * 64 + e.val) = h.val * 128 + i.val * 64 + e.val; omega)

include hq hk hv hl

theorem outAt_at (t : Fin cfg0.N) (x : Fin 1024) (d : Fin 128) :
    (show FVec Ideal S1024x128 .bf16 from outAt m c t) (ix2 x d) = result m c q k v lm (ix2 (row t x) (col (head t) d)) := by
  refine (out_at (iblk m c 0 t) (iblk m c 1 t) (iblk m c 2 t) (iblk m c 3 t) (iblk m c 4 t) (iblk m c 5 t) (iblk m c 6 t) (iblk m c 7 t)
    (fun e x => q (col (head t) e) (row t x)) (fun r e => k r (col (head t) e)) (fun u d l => v u (col (head t) d) l) lm
    (fun e x => (blk0 m c t e x).trans (hq _ _)) (fun r e => (blk1 m c t r e).trans (hk _ _)) (fun u d l => (blk2 m c t u d l).trans (hv _ _ _)) ?_ x d).trans ?_
  · rw [← hl]
    exact congr (congr (congr (congrArg lam (funext (blk3 m c t))) (funext (blk4 m c t))) (funext (blk5 m c t))) (funext (blk6 m c t))
  · rw [result_at]
    have e7 := blk7 m c t d
    have hs : ∀ i, blockScore (fun e x => q (col (head t) e) (row t x)) (fun r e => k r (col (head t) e)) i x = Cert.Softmax.score q k (head t) i (row t x) := fun i => by
      funext n
      unfold blockScore Cert.Softmax.score
      exact Finset.sum_congr rfl fun e _ => by simp only [col_half]
    unfold blockOut spec
    rw [hs, hs]
    exact congrArg (fun g => rms _ g d) e7

theorem final : (dats m 0 c).arrAt 8 (cfgs 0).N = result m c q k v lm := by
  refine (dats m 0 c).arrAt_eq_of_covers 8 _ (by decide +kernel) fun t hf y => ?_
  blk_simp
  rw [after_8]
  refine Eq.trans ?_ ((outAt_at m c q k v lm hq hk hv hl t (y 0) (y 1)).trans ?_)
  · show outAt m c t y = outAt m c t (ix2 (y 0) (y 1))
    congr 1; exact eq_ix2 y
  · refine congrArg (result m c q k v lm) ?_
    blk_ext [idx t, col, head, row]
end Real

end Cert.KernelIdeal.Att

end
-- ==== Proof.AttClaims.lean ====
module

public import proofs.«01_k».proof.Proof.AttFrames
public import proofs.«01_k».proof.Proof.AttValue
public import proofs.«01_k».proof.Proof.AttRef

/-! The value claim of the attention call: where the precondition holds its arguments are reals, and both programs then
compute the differential attention of those reals. -/

@[expose] public section

set_option maxRecDepth 16384

noncomputable section

namespace Cert.Pre_finite

open Idealize.ShloMosaic

theorem facts : Facts where
  bcast_S_S1024x8192 := by decide
  bcast_S_S8192x1024 := by decide
  bcast_S_S8x1024x1024 := by decide
  bcast_S_S1x64 := by decide

instance : Facts := facts

open Cert.Softmax (Finite)

theorem top_bf16 : Ideal.ofBits .bf16 0x7F80#16 = ⊤ := by simp [Ideal.ofBits, Ideal.ieee]
theorem top_f32 : Ideal.ofBits .f32 0x7F800000#32 = ⊤ := by simp [Ideal.ofBits, Ideal.ieee]

/-- An entry whose size is below infinity is a real. -/
theorem finite_of_lt (x : EReal) (h : Ideal.cmp .olt (max x (-x)) ⊤ = 1#1) : Finite x := by
  induction x with
  | bot => simp [Ideal.cmp] at h
  | coe r => exact ⟨r, rfl⟩
  | top => simp [Ideal.cmp] at h

theorem finite_bf16 {s : Shape} (hb : S_.BroadcastsInDim s (![] : Fin 0 → Fin s.rank)) (x : FVec Ideal s .bf16)
    (h : cmpf .olt (Host.absf x) (broadcastInDim s ![] hb (constant S_ .bf16 0x7F80#16)) = fun _ => 1#1) (i : s.Idx) : Finite (x i) := by
  have e : Ideal.cmp .olt (max (x i) (-(x i))) (Ideal.ofBits .bf16 0x7F80#16) = 1#1 := congrFun h i
  rw [top_bf16] at e
  exact finite_of_lt _ e

theorem finite_f32 {s : Shape} (hb : S_.BroadcastsInDim s (![] : Fin 0 → Fin s.rank)) (x : FVec Ideal s .f32)
    (h : cmpf .olt (Host.absf x) (broadcastInDim s ![] hb (constant S_ .f32 0x7F800000#32)) = fun _ => 1#1) (i : s.Idx) : Finite (x i) := by
  have e : Ideal.cmp .olt (max (x i) (-(x i))) (Ideal.ofBits .f32 0x7F800000#32) = 1#1 := congrFun h i
  rw [top_f32] at e
  exact finite_of_lt _ e

end Cert.Pre_finite

namespace Cert.Softmax

open Idealize.ShloMosaic

theorem Finite.exp {x : EReal} (h : Finite x) : Finite (Ideal.exp x) := by
  obtain ⟨r, rfl⟩ := h
  exact ⟨_, Ideal.exp_coe r⟩

theorem Finite.sub {x y : EReal} (hx : Finite x) (hy : Finite y) : Finite (x - y) := by
  obtain ⟨a, rfl⟩ := hx
  obtain ⟨b, rfl⟩ := hy
  exact ⟨a - b, (EReal.coe_sub a b).symm⟩

theorem start_finite : Finite (Ideal.ofBits .f32 0x3E4CCCCD#32) := by
  simp only [Ideal.ofBits, Ideal.ieee]
  exact ⟨_, rfl⟩

/-- The mixing weight of reals is a real. -/
theorem lam_finite {a b c d : Fin 64 → EReal} (ha : ∀ e, Finite (a e)) (hb : ∀ e, Finite (b e)) (hc : ∀ e, Finite (c e)) (hd : ∀ e, Finite (d e)) :
    Finite (lam a b c d) :=
  ((Finite.sum _ fun e => (ha e).mul (hb e)).exp.sub (Finite.sum _ fun e => (hc e).mul (hd e)).exp).add start_finite

end Cert.Softmax

namespace Cert.Proof

open Idealize.ShloMosaic Idealize.ShloMosaic.TcCoe Idealize.SL.Sem
open Cert.Softmax (Finite lam)
open Cert.KernelIdeal.Att (argQ argK argV argA argB argC argD argG)

theorem att_frame_ideal_pre : Cert.quiescent_KernelIdeal_pre_finite := fun m g _ => att_frame_ideal m g trivial
theorem att_frame_ref_pre : Cert.quiescent_ReferenceIdeal_pre_finite := fun m g _ => att_frame_ref m g trivial

/-- The precondition makes the arguments reals, the gain apart. -/
theorem reals (m : (ℓ : Loc Cert.KernelIdeal.nD Cert.KernelIdeal.τ Cert.KernelIdeal.sig) → Buf (Elt Ideal) ℓ) (h : Cert.Pre_KernelIdeal_finite m)
    (c : Dev Cert.KernelIdeal.nD) : ∃ (q : Fin 1024 → Fin 8192 → ℝ) (k : Fin 8192 → Fin 1024 → ℝ) (v : Fin 8 → Fin 1024 → Fin 1024 → ℝ) (lm : ℝ),
      (∀ f r, argQ m c (ix2 f r) = q f r) ∧ (∀ r f, argK m c (ix2 r f) = k r f) ∧ (∀ u f l, argV m c (ix3 u f l) = v u f l)
      ∧ lam (fun e => argA m c (ix2 0 e)) (fun e => argB m c (ix2 0 e)) (fun e => argC m c (ix2 0 e)) (fun e => argD m c (ix2 0 e)) = lm := by
  obtain ⟨h0, h1, h2, h3, h4, h5, h6⟩ := h c
  have f0 := Cert.Pre_finite.finite_bf16 Cert.Pre_finite.facts.bcast_S_S1024x8192 (argQ m c) h0
  have f1 := Cert.Pre_finite.finite_bf16 Cert.Pre_finite.facts.bcast_S_S8192x1024 (argK m c) h1
  have f2 := Cert.Pre_finite.finite_bf16 Cert.Pre_finite.facts.bcast_S_S8x1024x1024 (argV m c) h2
  have f3 := Cert.Pre_finite.finite_f32 Cert.Pre_finite.facts.bcast_S_S1x64 (argA m c) h3
  have f4 := Cert.Pre_finite.finite_f32 Cert.Pre_finite.facts.bcast_S_S1x64 (argB m c) h4
  have f5 := Cert.Pre_finite.finite_f32 Cert.Pre_finite.facts.bcast_S_S1x64 (argC m c) h5
  have f6 := Cert.Pre_finite.finite_f32 Cert.Pre_finite.facts.bcast_S_S1x64 (argD m c) h6
  choose q hq using f0
  choose k hk using f1
  choose v hv using f2
  obtain ⟨lm, hl⟩ := Cert.Softmax.lam_finite (fun e => f3 (ix2 0 e)) (fun e => f4 (ix2 0 e)) (fun e => f5 (ix2 0 e)) (fun e => f6 (ix2 0 e))
  exact ⟨fun f r => q (ix2 f r), fun r f => k (ix2 r f), fun u f l => v (ix3 u f l), lm, fun f r => hq _, fun r f => hk _, fun u f l => hv _, hl⟩

/-- The kernel's result and the reference's, at one entry, are the same function of the reals. -/
theorem att_meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.Pre_KernelIdeal_finite m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (show FVec Ideal Cert.KernelIdeal.S8192x1024 .bf16 from Cert.ReferenceIdeal.Value.res_out0 (F := Ideal) m' c)
      = (Cert.KernelIdeal.Att.dats m 0 c).arrAt 8 (Cert.KernelIdeal.cfgs 0).N := by
  obtain ⟨q, k, v, lm, hq, hk, hv, hl⟩ := reals m h c
  rw [Cert.KernelIdeal.Att.final m c q k v lm hq hk hv hl]
  refine (Cert.ReferenceIdeal.Value.res_eq m' c).trans ?_
  rw [e0, e1, e2, e3, e4, e5, e6, e7]
  funext i
  have hi : (i 1).val < 1024 := (i 1).isLt
  have he : i = ix2 (i 0) (Cert.Softmax.col ⟨(i 1).val / 128, by omega⟩ ⟨(i 1).val % 128, by omega⟩) := by
    refine (eq_ix2 i).trans (congrArg (ix2 (i 0)) (Fin.ext ?_))
    show (i 1).val = (i 1).val / 128 * 128 + (i 1).val % 128
    omega
  rw [he]
  refine Eq.trans ?_ (Cert.KernelIdeal.Att.result_at m c q k v lm (i 0) ⟨(i 1).val / 128, by omega⟩ ⟨(i 1).val % 128, by omega⟩).symm
  exact Cert.ReferenceIdeal.Value.ref_at (argQ m c) (argK m c) (argV m c) (argA m c) (argB m c) (argC m c) (argD m c) (argG m c) q k v lm hq hk hv hl _ _ _

theorem att_value : Cert.algebraic_KernelIdeal_ReferenceIdeal_pre_finite := by
  pair_intro
  · run_from Cert.KernelIdeal.Att.run_main m g
  · run_from Cert.ReferenceIdeal.Value.run m' g'
    obtain ⟨h0, h1, h2, h3, h4, h5, h6, h7⟩ := hagree c
    exact att_meet m m' c ‹_› h0 h1 h2 h3 h4 h5 h6 h7

end Cert.Proof

end
-- ==== Proof.FfnRun.lean ====
module

public import proofs.«01_k».proof.Proof.Slots
public import proofs.«01_k».proof.Proof.Gen.FfnIdeal.Skeleton
public import proofs.«01_k».proof.Proof.Gen.FfnIdeal.Points
public import proofs.«01_k».proof.Proof.Gen.FfnIdeal.Frame

/-! One grid point of the feed-forward call: the first tile of a row block, a middle tile, the last point. -/

@[expose] public section

set_option maxRecDepth 16384

noncomputable section

namespace Cert.FfnIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen

variable {F : FTy → Type} [FloatOps F]

local notation "𝕄G" => MT nD τ sig Unit (Elt F) ℕ (UR sig nD τ) ℕ

/-- The last point's output block: the residual and half the accumulated product, normalised. -/
def fin (x acc : Vec F S1024x2048 .f32) (g b : Vec F S1x2048 .f32) : FVec F S1024x2048 .f32 :=
  k0_pay5 (k0_pay8 g) (k0_pay9 b) (k0_pay10 x acc) (k0_pay11 x acc) k0_pay12

/-- The condition of the first tile. -/
abbrev k0_cond1 (i : grid0.Coords) : Prop := Scalar.cmpi .ne (Scalar.extui (Scalar.cmpi .eq (BitVec.ofNat 32 (i 1).val) 0#32)) 0#32 = 1#1

variable {arg2 : Memref sig .tc .vmem S1024x2048 .f32} {harg2 : arg2.IsWhole} {arg3 : Memref sig .tc .vmem S2048x512 .bf16} {harg3 : arg3.IsWhole} {arg4 : Memref sig .tc .vmem S2048x512 .bf16} {harg4 : arg4.IsWhole} {arg5 : Memref sig .tc .vmem S512x2048 .bf16} {harg5 : arg5.IsWhole} {arg6 : Memref sig .tc .vmem S1x2048 .f32} {harg6 : arg6.IsWhole} {arg7 : Memref sig .tc .vmem S1x2048 .f32} {harg7 : arg7.IsWhole} {arg8 : Memref sig .tc .vmem S1024x2048 .f32} {harg8 : arg8.IsWhole} {arg9 : Memref sig .tc .vmem S1024x2048 .bf16} {harg9 : arg9.IsWhole} {arg10 : Memref sig .tc .vmem S1024x2048 .f32} {harg10 : arg10.IsWhole} {arg11 : Memref sig .tc .vmem S2x1024x512 .bf16} {harg11 : arg11.IsWhole}

set_option maxHeartbeats 4000000 in
theorem runInit (c : Dev nD) (E : Set ℕ) (i : grid0.Coords) (h1 : k0_cond1 i) (h2 : ¬ k0_cond2 i = 1#1) (h3 : ¬ k0_cond3 i = 1#1) (K : PUnit → sProp 𝕄G) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)  :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g, (arg9.view.loc (c : Thread nD τ) ↦[arg9.view.set]{fullShare} g) ∗ ⌜arg9.view.read (Elt F) g = k0_pay1 (arg2.view.read (Elt F) f2)⌝) ∗ (∃ g, (arg10.view.loc (c : Thread nD τ) ↦[arg10.view.set]{fullShare} g) ∗ ⌜arg10.view.read (Elt F) g = k0_pay2⌝) ∗ (∃ g, (arg11.view.loc (c : Thread nD τ) ↦[arg11.view.set]{fullShare} g) ∗ ⌜arg11.view.readAt (Elt F) (Rect.unit (s := S2x1024x512) ![0, 0, 0] S1x1024x512.size inb_S2x1024x512_S1x1024x512_0_0_0).toLoadRect g = k0_pay3 (k0_pay1 (arg2.view.read (Elt F) f2)) (arg3.view.read (Elt F) f3) (arg4.view.read (Elt F) f4)⌝)) -∗ K PUnit.unit))
      ⊢ wp frame (wpE (defs₀ (F := F)) Variants.none (c : Thread nD τ) none) E (cc0_ffn_ln (F := F) i arg2 harg2 arg3 harg3 arg4 harg4 arg5 harg5 arg6 harg6 arg7 harg7 arg8 harg8 arg9 harg9 arg10 harg10 arg11 harg11) K := by
  simp only [cc0_ffn_ln_eq_skeleton]; unfold cc0_ffn_ln_skel
  iintro ⟨H2, H3, H4, H5, H6, H7, H8, H9, H10, H11, HK⟩
  sl_exec (disch := first | sl_exact h1 | sl_exact h2 | sl_exact h3)
  sl_step
  iapply HK
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; isplitl [H9]; · iexact H9
    ipureintro; unfold runInit.sl.H9_1; rw [View.read_writes_full, View.readAt_full]
  isplitl [H10]
  · iexists _; isplitl [H10]; · iexact H10
    ipureintro; rw [View.read_writes_full]
  iexists _; isplitl [H11]; · iexact H11
  ipureintro; refine (Slots.hit arg11.view _ _ _ _ _ rfl).trans ?_
  unfold runInit.sl.v21 runInit.sl.H9_1
  rw [View.readAt_full, View.readAt_full]
  congr 1
  · refine (View.readAt_full _ _ _).trans ?_; rw [View.read_writes_full]
  · exact View.readAt_full _ _ _

set_option maxHeartbeats 4000000 in
theorem runMid (c : Dev nD) (E : Set ℕ) (i : grid0.Coords) (h1 : ¬ k0_cond1 i) (h2 : k0_cond2 i = 1#1) (h3 : ¬ k0_cond3 i = 1#1) (K : PUnit → sProp 𝕄G) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (hv : Vec F S1x1024x512 .bf16) (h11 : arg11.view.readAt (Elt F) (Rect.unit (s := S2x1024x512) (k0_off1 i) S1x1024x512.size (k0_off1_inb i h2)).toLoadRect f11 = hv) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ g, (arg10.view.loc (c : Thread nD τ) ↦[arg10.view.set]{fullShare} g) ∗ ⌜arg10.view.read (Elt F) g = k0_pay6 (arg10.view.read (Elt F) f10) hv (arg5.view.read (Elt F) f5)⌝) ∗ (∃ g, (arg11.view.loc (c : Thread nD τ) ↦[arg11.view.set]{fullShare} g) ∗ ⌜arg11.view.readAt (Elt F) (Rect.unit (s := S2x1024x512) (k0_off2 i) S1x1024x512.size (k0_off2_inb i h2)).toLoadRect g = k0_pay3 (arg9.view.read (Elt F) f9) (arg3.view.read (Elt F) f3) (arg4.view.read (Elt F) f4)⌝)) -∗ K PUnit.unit))
      ⊢ wp frame (wpE (defs₀ (F := F)) Variants.none (c : Thread nD τ) none) E (cc0_ffn_ln (F := F) i arg2 harg2 arg3 harg3 arg4 harg4 arg5 harg5 arg6 harg6 arg7 harg7 arg8 harg8 arg9 harg9 arg10 harg10 arg11 harg11) K := by
  simp only [cc0_ffn_ln_eq_skeleton]; unfold cc0_ffn_ln_skel
  iintro ⟨H2, H3, H4, H5, H6, H7, H8, H9, H10, H11, HK⟩
  sl_exec (disch := first | sl_exact h1 | sl_exact h2 | sl_exact h3)
  sl_step
  iapply HK
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; isplitl [H10]; · iexact H10
    ipureintro; rw [View.read_writes_full, View.readAt_full, View.readAt_full]
  iexists _; isplitl [H11]; · iexact H11
  ipureintro; refine (Slots.hit arg11.view _ _ _ _ _ rfl).trans ?_
  unfold runMid.sl.r; rw [View.readAt_full, View.readAt_full, View.readAt_full]; rfl

set_option maxHeartbeats 4000000 in
theorem runFin (c : Dev nD) (E : Set ℕ) (i : grid0.Coords) (h1 : ¬ k0_cond1 i) (h2 : ¬ k0_cond2 i = 1#1) (h3 : k0_cond3 i = 1#1) (K : PUnit → sProp 𝕄G) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (hv : Vec F S1x1024x512 .bf16) (h11 : arg11.view.readAt (Elt F) (Rect.unit (s := S2x1024x512) ![0, 0, 0] S1x1024x512.size inb_S2x1024x512_S1x1024x512_0_0_0).toLoadRect f11 = hv) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ g, (arg8.view.loc (c : Thread nD τ) ↦[arg8.view.set]{fullShare} g) ∗ ⌜arg8.view.read (Elt F) g = fin (arg2.view.read (Elt F) f2) (k0_pay6 (arg10.view.read (Elt F) f10) hv (arg5.view.read (Elt F) f5)) (arg6.view.read (Elt F) f6) (arg7.view.read (Elt F) f7)⌝) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g))) -∗ K PUnit.unit))
      ⊢ wp frame (wpE (defs₀ (F := F)) Variants.none (c : Thread nD τ) none) E (cc0_ffn_ln (F := F) i arg2 harg2 arg3 harg3 arg4 harg4 arg5 harg5 arg6 harg6 arg7 harg7 arg8 harg8 arg9 harg9 arg10 harg10 arg11 harg11) K := by
  simp only [cc0_ffn_ln_eq_skeleton]; unfold cc0_ffn_ln_skel
  iintro ⟨H2, H3, H4, H5, H6, H7, H8, H9, H10, H11, HK⟩
  sl_exec (disch := first | sl_exact h1 | sl_exact h2 | sl_exact h3)
  sl_step
  iapply HK
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; isplitl [H8]; · iexact H8
    ipureintro; rw [View.read_writes_full]
    unfold runFin.sl.r runFin.sl.r_1 runFin.sl.r_2 runFin.sl.r_3
    have hb : runFin.sl.v25 (F := F) (arg5 := arg5) (arg10 := arg10) f5 f10 hv = k0_pay6 (arg10.view.read (Elt F) f10) hv (arg5.view.read (Elt F) f5) := by
      unfold runFin.sl.v25; refine (View.readAt_full _ _ _).trans ?_; (try unfold runFin.sl.H10_1); rw [View.read_writes_full, View.readAt_full, View.readAt_full]; rfl
    rw [hb, View.readAt_full, View.readAt_full, View.readAt_full]; rfl
  isplitl [H9]
  · iexists _; iexact H9
  isplitl [H10]
  · iexists _; iexact H10
  iexists _; iexact H11

end Cert.FfnIdeal.Blk

end
-- ==== Proof.FfnFrame.lean ====
module

public import proofs.«01_k».proof.Proof.FfnRun
public import Idealize.ShloMosaic.Lib.Claim

/-! The feed-forward call over its grid: the proof data, the body at every point, the launch and the frame.

Before a point that is not the first of its row block the scratch holds the block's rows, the product of the
tiles already passed, and the last tile's hidden block in the slot of that tile's parity. -/

@[expose] public section

set_option maxRecDepth 16384

noncomputable section

namespace Cert.FfnIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1024x2048 .f32 := win0_0.stage (cfg0.slots t 0)
abbrev ms1 (t : Fin cfg0.N) : Memref sig .tc .vmem S2048x512 .bf16 := win0_1.stage (cfg0.slots t 1)
abbrev ms2 (t : Fin cfg0.N) : Memref sig .tc .vmem S2048x512 .bf16 := win0_2.stage (cfg0.slots t 2)
abbrev ms3 (t : Fin cfg0.N) : Memref sig .tc .vmem S512x2048 .bf16 := win0_3.stage (cfg0.slots t 3)
abbrev ms4 (t : Fin cfg0.N) : Memref sig .tc .vmem S1x2048 .f32 := win0_4.stage (cfg0.slots t 4)
abbrev ms5 (t : Fin cfg0.N) : Memref sig .tc .vmem S1x2048 .f32 := win0_5.stage (cfg0.slots t 5)
abbrev ms6 (t : Fin cfg0.N) : Memref sig .tc .vmem S1024x2048 .f32 := win0_6.stage (cfg0.slots t 6)
abbrev sc0 : Memref sig .tc .vmem S1024x2048 .bf16 := Memref.whole cc0_scratch0
abbrev sc1 : Memref sig .tc .vmem S1024x2048 .f32 := Memref.whole cc0_scratch1
abbrev sc2 : Memref sig .tc .vmem S2x1024x512 .bf16 := Memref.whole cc0_scratch2

theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem hcond1 : ∀ t : Fin cfg0.N, k0_cond1 (grid0.coords t) ↔ t.val % 12 = 0 :=
  (by decide +kernel : ∀ t : Fin grid0.N, k0_cond1 (grid0.coords t) ↔ t.val % 12 = 0)
theorem hcond2 : ∀ t : Fin cfg0.N, k0_cond2 (grid0.coords t) = 1#1 ↔ (1 ≤ t.val % 12 ∧ t.val % 12 ≤ 10) :=
  (by decide +kernel : ∀ t : Fin grid0.N, k0_cond2 (grid0.coords t) = 1#1 ↔ (1 ≤ t.val % 12 ∧ t.val % 12 ≤ 10))
theorem hcond3 : ∀ t : Fin cfg0.N, k0_cond3 (grid0.coords t) = 1#1 ↔ t.val % 12 = 11 :=
  (by decide +kernel : ∀ t : Fin grid0.N, k0_cond3 (grid0.coords t) = 1#1 ↔ t.val % 12 = 11)
theorem hoff1 : ∀ t : Fin cfg0.N, 1 ≤ t.val % 12 → k0_off1 (grid0.coords t) = ![(t.val - 1) % 2, 0, 0] :=
  (by decide +kernel : ∀ t : Fin grid0.N, 1 ≤ t.val % 12 → k0_off1 (grid0.coords t) = ![(t.val - 1) % 2, 0, 0])
theorem hoff2 : ∀ t : Fin cfg0.N, k0_off2 (grid0.coords t) = ![t.val % 2, 0, 0] :=
  (by decide +kernel : ∀ t : Fin grid0.N, k0_off2 (grid0.coords t) = ![t.val % 2, 0, 0])

/-- The hidden block of a point's tile. -/
def hAt (c : Dev nD) (t : Fin cfg0.N) : Vec F S1x1024x512 .bf16 :=
  k0_pay3 (k0_pay1 (iblk m c 0 t)) (iblk m c 1 t) (iblk m c 2 t)

/-- The product accumulated after point `n`. -/
def accAt (c : Dev nD) : (n : ℕ) → n < cfg0.N → Vec F S1024x2048 .f32
  | 0, _ => k0_pay2
  | n + 1, h => if (n + 1) % 12 = 0 then k0_pay2
      else k0_pay6 (accAt c n (Nat.lt_of_succ_lt h)) (hAt m c ⟨n, Nat.lt_of_succ_lt h⟩) (iblk m c 3 ⟨n + 1, h⟩)

theorem accAt_first (c : Dev nD) (t : Fin cfg0.N) (h : t.val % 12 = 0) : accAt m c t.val t.isLt = k0_pay2 := by
  obtain ⟨n, hn⟩ := t
  cases n with
  | zero => rfl
  | succ n => exact if_pos h

theorem accAt_next (c : Dev nD) (s t : Fin cfg0.N) (e : s.val + 1 = t.val) (h : t.val % 12 ≠ 0) :
    accAt m c t.val t.isLt = k0_pay6 (accAt m c s.val s.isLt) (hAt m c s) (iblk m c 3 t) := by
  obtain ⟨n, hn⟩ := s; obtain ⟨k, hk⟩ := t
  have : k = n + 1 := e.symm
  subst this
  exact if_neg h

/-- The slot `k` of the hidden scratch holds `h`, whatever the offset is written as. -/
def Slot (k : ℕ) (g : BufTy.Contents (Elt F) sc2.view.ty) (h : Vec F S1x1024x512 .bf16) : Prop :=
  ∀ (off : Fin 3 → ℕ) (inb : ∀ a, off a + S1x1024x512.size a ≤ S2x1024x512.size a), off = ![k, 0, 0] →
    sc2.view.readAt (Elt F) (Rect.unit (s := S2x1024x512) off S1x1024x512.size inb).toLoadRect g = h

theorem Slot.of {k : ℕ} {g : BufTy.Contents (Elt F) sc2.view.ty} {h : Vec F S1x1024x512 .bf16} (off : Fin 3 → ℕ)
    (inb : ∀ a, off a + S1x1024x512.size a ≤ S2x1024x512.size a) (e : off = ![k, 0, 0])
    (hr : sc2.view.readAt (Elt F) (Rect.unit (s := S2x1024x512) off S1x1024x512.size inb).toLoadRect g = h) : Slot k g h := by
  intro off' inb' e'
  obtain rfl : off' = off := e'.trans e.symm
  exact hr

/-- What the scratch holds before point `n`. -/
def Held (c : Dev nD) (n : ℕ) (g0 : BufTy.Contents (Elt F) sc0.view.ty) (g1 : BufTy.Contents (Elt F) sc1.view.ty)
    (g2 : BufTy.Contents (Elt F) sc2.view.ty) : Prop :=
  ∀ t : Fin cfg0.N, t.val + 1 = n → n % 12 ≠ 0 →
    sc0.view.read (Elt F) g0 = k0_pay1 (iblk m c 0 t) ∧ sc1.view.read (Elt F) g1 = accAt m c t.val t.isLt
      ∧ Slot (t.val % 2) g2 (hAt m c t)

def PhiS (c : Dev nD) (n : ℕ) (_ : n ≤ cfg0.N) : sProp 𝕄 :=
  iprop((∃ g0, ∃ g1, ∃ g2, (sc0.view.loc (c : Thread nD τ) ↦[sc0.view.set]{fullShare} g0) ∗ (sc1.view.loc (c : Thread nD τ) ↦[sc1.view.set]{fullShare} g1) ∗ (sc2.view.loc (c : Thread nD τ) ↦[sc2.view.set]{fullShare} g2) ∗ ⌜Held m c n g0 g1 g2⌝) ∗ (∃ r, prngReg c r))

/-- The output block, as the last point of a row block leaves it. -/
def outAt (c : Dev nD) (t : Fin cfg0.N) : Vec F S1024x2048 .f32 :=
  fin (iblk m c 0 t) (accAt m c t.val t.isLt) (iblk m c 4 t) (iblk m c 5 t)

/-- The proof data: inputs stay, the output block is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Within a row block the rows stay. -/
theorem rows_stay (c : Dev nD) (t t' : Fin cfg0.N) (h : t.val + 1 = t'.val) (h12 : t'.val % 12 ≠ 0) :
    iblk m c 0 t' = iblk m c 0 t := by
  have hf : (cfg0.win 0).fetch t' = false := by
    rw [Bool.eq_false_iff]; exact fun e => h12 ((fetch0_0 t').mp e)
  have hb := (dats m 0 c).before_of_pos 0 t' (by omega) hf (iblk m c 0 t')
  rw [before_0] at hb
  have ht : (⟨t'.val - 1, Nat.lt_of_le_of_lt (Nat.sub_le _ _) t'.isLt⟩ : Fin cfg0.N) = t := Fin.ext (by show t'.val - 1 = t.val; omega)
  rw [ht] at hb
  refine hb.trans ?_
  rw [show (cfg0.win 0).flush t = false from rfl, if_neg Bool.false_ne_true]
  exact after_0 m c t

theorem PhiS_zero (c : Dev nD) : Pipeline.ΦA spec0 c ⊢ PhiS m c 0 (Nat.zero_le _) := by
  rw [PhiA_eq]; unfold PhiS owns
  iintro ⟨⟨⟨%d0, %g0, %h0, H0⟩, ⟨%d1, %g1, %h1, H1⟩, ⟨%d2, %g2, %h2, H2⟩⟩, Hg⟩
  isplitl [H0 H1 H2]
  · iexists g0; iexists g1; iexists g2
    isplitl [H0]; · iexact H0
    isplitl [H1]; · iexact H1
    isplitl [H2]; · iexact H2
    ipureintro; intro t ht; omega
  iexact Hg

theorem PhiS_last (c : Dev nD) (n : ℕ) (hn : n ≤ cfg0.N) : PhiS m c n hn ⊢ Pipeline.ΦA spec0 c := by
  rw [PhiA_eq]; unfold PhiS owns
  iintro ⟨⟨%g0, %g1, %g2, H0, H1, H2, %hg⟩, Hg⟩
  isplitl [H0 H1 H2]
  · isplitl [H0]
    · iexists _; iexists g0; isplitr; swap; · iexact H0
      ipureintro; rfl
    isplitl [H1]
    · iexists _; iexists g1; isplitr; swap; · iexact H1
      ipureintro; rfl
    iexists _; iexists g2; isplitr; swap; · iexact H2
    ipureintro; rfl
  iexact Hg

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after_5]
theorem leaves_fin (c : Dev nD) (t : Fin cfg0.N) (h : t.val % 12 = 11) : (dats m 0 c).leavesExact 6 t = owns (c : Thread nD τ) (ms6 t) fullShare (outAt m c t) := by
  have hl : cfg0.idle 6 (grid0.coords t) = false := by
    show (!(k0_cond3 (grid0.coords t) == 1#1)) = false
    rw [(hcond3 t).mpr h]; rfl
  unfold Dat.leavesExact; rw [hl, after_6]
theorem leaves_idle (c : Dev nD) (t : Fin cfg0.N) (h : t.val % 12 ≠ 11) :
    (dats m 0 c).leavesExact 6 t = iprop(∃ d, owns (c : Thread nD τ) (ms6 t) fullShare ((dats m 0 c).before 6 t d)) := by
  refine Dat.leavesExact_idle (dats m 0 c) 6 t ?_ ?_
  · show (!(k0_cond3 (grid0.coords t) == 1#1)) = true
    rw [show (k0_cond3 (grid0.coords t) == 1#1) = false from beq_eq_false_iff_ne.mpr fun e => h ((hcond3 t).mp e)]; rfl
  · rw [Bool.eq_false_iff]; exact fun e => h ((flush0_6 t).mp e)

set_option maxHeartbeats 2000000 in
theorem soundInit (c : Dev nD) (t : Fin cfg0.N) (h : t.val % 12 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5]
  rw [leaves_idle m c t (by omega)]
  rw [show (dats m 0 c).owesAt () t.succ = (dats m 0 c).owesAt () t.castSucc from rfl, PhiS_castSucc m c t]
  rw [show (dats m 0 c).Φ t.succ = PhiS m c (t.val + 1) t.isLt from rfl]
  unfold PhiS owns
  iintro ⟨⟨⟨%g0, %g1, %g2, S0, S1, S2, %hg⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  iapply (runInit c Set.univ (grid0.coords t) ((hcond1 t).mpr h) (fun e => by have := (hcond2 t).mp e; omega) (fun e => by have := (hcond3 t).mp e; omega) _ f0 f1 f2 f3 f4 f5 f6 g0 g1 g2)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  iintro ⟨H0, H1, H2, H3, H4, H5, H6, ⟨%s0, S0, %k0⟩, ⟨%s1, S1, %k1⟩, ⟨%s2, S2, %k2⟩⟩
  isplitl [S0 S1 S2 Hg]
  · isplitl [S0 S1 S2]
    · iexists _; iexists _; iexists _
      isplitl [S0]; · iexact S0
      isplitl [S1]; · iexact S1
      isplitl [S2]; · iexact S2
      ipureintro; intro t' ht' h12
      have e : t' = t := Fin.ext (by omega)
      subst e
      refine ⟨k0.trans (by rw [hf0]), k1.trans (accAt_first m c t' h).symm, Slot.of _ _ ?_ (k2.trans ?_)⟩
      · rw [show t'.val % 2 = 0 by omega]
      · rw [hf0, hf1, hf2]; rfl
    iexact Hg
  isplitl [Ho]; · iexact Ho
  isplitl [H0]
  · iexists f0; isplitr; swap; · iexact H0
    ipureintro; exact hf0
  isplitl [H1]
  · iexists f1; isplitr; swap; · iexact H1
    ipureintro; exact hf1
  isplitl [H2]
  · iexists f2; isplitr; swap; · iexact H2
    ipureintro; exact hf2
  isplitl [H3]
  · iexists f3; isplitr; swap; · iexact H3
    ipureintro; exact hf3
  isplitl [H4]
  · iexists f4; isplitr; swap; · iexact H4
    ipureintro; exact hf4
  isplitl [H5]
  · iexists f5; isplitr; swap; · iexact H5
    ipureintro; exact hf5
  iexists d6; iexists f6; isplitr; swap; · iexact H6
  ipureintro; exact hf6

set_option maxHeartbeats 2000000 in
theorem soundMid (c : Dev nD) (t : Fin cfg0.N) (h1 : 1 ≤ t.val % 12) (h2 : t.val % 12 ≤ 10) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5]
  rw [leaves_idle m c t (by omega)]
  rw [show (dats m 0 c).owesAt () t.succ = (dats m 0 c).owesAt () t.castSucc from rfl, PhiS_castSucc m c t]
  rw [show (dats m 0 c).Φ t.succ = PhiS m c (t.val + 1) t.isLt from rfl]
  unfold PhiS owns
  iintro ⟨⟨⟨%g0, %g1, %g2, S0, S1, S2, %hg⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  have hs : t.val - 1 < cfg0.N := by omega
  obtain ⟨hx, ha, hh⟩ := hg ⟨t.val - 1, hs⟩ (by show t.val - 1 + 1 = t.val; omega) (by omega)
  rw [← rows_stay m c ⟨t.val - 1, hs⟩ t (by show t.val - 1 + 1 = t.val; omega) (by omega)] at hx
  iapply (runMid c Set.univ (grid0.coords t) (fun e => by have := (hcond1 t).mp e; omega) ((hcond2 t).mpr ⟨h1, h2⟩) (fun e => by have := (hcond3 t).mp e; omega) _ f0 f1 f2 f3 f4 f5 f6 g0 g1 g2 _ (hh _ _ (hoff1 t h1)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  iintro ⟨H0, H1, H2, H3, H4, H5, H6, S0, ⟨%s1, S1, %k1⟩, ⟨%s2, S2, %k2⟩⟩
  isplitl [S0 S1 S2 Hg]
  · isplitl [S0 S1 S2]
    · iexists _; iexists _; iexists _
      isplitl [S0]; · iexact S0
      isplitl [S1]; · iexact S1
      isplitl [S2]; · iexact S2
      ipureintro; intro t' ht' h12
      have e : t' = t := Fin.ext (by omega)
      subst e
      refine ⟨hx, k1.trans ?_, Slot.of _ _ (hoff2 t') (k2.trans ?_)⟩
      · rw [accAt_next m c ⟨t'.val - 1, hs⟩ t' (by show t'.val - 1 + 1 = t'.val; omega) (by omega), ha, hf3]
      · rw [hx, hf1, hf2]; rfl
    iexact Hg
  isplitl [Ho]; · iexact Ho
  isplitl [H0]
  · iexists f0; isplitr; swap; · iexact H0
    ipureintro; exact hf0
  isplitl [H1]
  · iexists f1; isplitr; swap; · iexact H1
    ipureintro; exact hf1
  isplitl [H2]
  · iexists f2; isplitr; swap; · iexact H2
    ipureintro; exact hf2
  isplitl [H3]
  · iexists f3; isplitr; swap; · iexact H3
    ipureintro; exact hf3
  isplitl [H4]
  · iexists f4; isplitr; swap; · iexact H4
    ipureintro; exact hf4
  isplitl [H5]
  · iexists f5; isplitr; swap; · iexact H5
    ipureintro; exact hf5
  iexists d6; iexists f6; isplitr; swap; · iexact H6
  ipureintro; exact hf6

set_option maxHeartbeats 2000000 in
theorem soundFin (c : Dev nD) (t : Fin cfg0.N) (h : t.val % 12 = 11) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5]
  rw [leaves_fin m c t h]
  rw [show (dats m 0 c).owesAt () t.succ = (dats m 0 c).owesAt () t.castSucc from rfl, PhiS_castSucc m c t]
  rw [show (dats m 0 c).Φ t.succ = PhiS m c (t.val + 1) t.isLt from rfl]
  unfold PhiS owns
  iintro ⟨⟨⟨%g0, %g1, %g2, S0, S1, S2, %hg⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  have hs : t.val - 1 < cfg0.N := by omega
  obtain ⟨hx, ha, hh⟩ := hg ⟨t.val - 1, hs⟩ (by show t.val - 1 + 1 = t.val; omega) (by omega)
  rw [← rows_stay m c ⟨t.val - 1, hs⟩ t (by show t.val - 1 + 1 = t.val; omega) (by omega)] at hx
  iapply (runFin c Set.univ (grid0.coords t) (fun e => by have := (hcond1 t).mp e; omega) (fun e => by have := (hcond2 t).mp e; omega) ((hcond3 t).mpr h) _ f0 f1 f2 f3 f4 f5 f6 g0 g1 g2 _ (hh _ _ (by show ![0, 0, 0] = ![(t.val - 1) % 2, 0, 0]; rw [show (t.val - 1) % 2 = 0 by omega])))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  iintro ⟨H0, H1, H2, H3, H4, H5, ⟨%s6, H6, %k6⟩, ⟨%s0, S0⟩, ⟨%s1, S1⟩, ⟨%s2, S2⟩⟩
  isplitl [S0 S1 S2 Hg]
  · isplitl [S0 S1 S2]
    · iexists _; iexists _; iexists _
      isplitl [S0]; · iexact S0
      isplitl [S1]; · iexact S1
      isplitl [S2]; · iexact S2
      ipureintro; intro t' ht' h12
      have e : t' = t := Fin.ext (by omega)
      subst e
      omega
    iexact Hg
  isplitl [Ho]; · iexact Ho
  isplitl [H0]
  · iexists f0; isplitr; swap; · iexact H0
    ipureintro; exact hf0
  isplitl [H1]
  · iexists f1; isplitr; swap; · iexact H1
    ipureintro; exact hf1
  isplitl [H2]
  · iexists f2; isplitr; swap; · iexact H2
    ipureintro; exact hf2
  isplitl [H3]
  · iexists f3; isplitr; swap; · iexact H3
    ipureintro; exact hf3
  isplitl [H4]
  · iexists f4; isplitr; swap; · iexact H4
    ipureintro; exact hf4
  isplitl [H5]
  · iexists f5; isplitr; swap; · iexact H5
    ipureintro; exact hf5
  iexists s6; isplitr; swap; · iexact H6
  ipureintro; rw [k6, hf0, hf3, hf4, hf5, ha, ← accAt_next m c ⟨t.val - 1, hs⟩ t (by show t.val - 1 + 1 = t.val; omega) (by omega)]; rfl

theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact soundInit m c t h0
  by_cases h1 : t.val % 12 = 11
  · exact soundFin m c t h1
  exact soundMid m c t (by omega) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := PhiS_zero m c

theorem hout (c : Dev nD) : (dats m 0 c).Φ (Fin.last cfg0.N) ⊢ Pipeline.ΦA spec0 c := PhiS_last m c _ (Nat.le_of_lt_succ (Fin.last cfg0.N).isLt)

set_option backward.isDefEq.respectTransparency.types false in
/-- Every run ends, with the arrays as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnIdeal.Blk

end
-- ==== Proof.FfnPure.lean ====
module

public import proofs.«01_k».proof.Proof.FfnRun
public import proofs.«01_k».proof.Proof.Gen.FfnReferenceIdeal.Run
public import Idealize.ShloMosaic.Lib.Pointwise

/-! The feed-forward half-step at one entry: the mathematics both programs compute, and the pieces of the
kernel's body and the reference's result read at an entry. -/

@[expose] public section

set_option maxRecDepth 16384

noncomputable section

namespace Cert.FfnIdeal.Blk

open Idealize.ShloMosaic Idealize.ShloMosaic.TcCoe Idealize.SL.Sem
open Cert.FfnIdeal Cert.FfnIdeal.Gen

/-- A hidden unit from its gate and its up projection. -/
def unit (hg hu : EReal) : EReal := hg * Ideal.logistic hg * hu

/-- The residual sum of one entry. -/
def mix (x a : EReal) : EReal := Ideal.ofBits .f32 0x3F9837F0#32 * x + Ideal.ofBits .f32 0x3F000000#32 * a

/-- A row less its mean. -/
def centred (y : Fin 2048 → EReal) (k : Fin 2048) : EReal := y k - Ideal.div (∑ j : Fin 2048, y j) (Ideal.ofBits .f32 0x45000000#32)

/-- The layer norm of a row at one entry, with its gain and bias. -/
def normed (y : Fin 2048 → EReal) (g b : EReal) (k : Fin 2048) : EReal :=
  centred y k * Ideal.rsqrt (Ideal.div (∑ j : Fin 2048, centred y j * centred y j) (Ideal.ofBits .f32 0x45000000#32) + Ideal.ofBits .f32 0x3727C5AC#32) * g + b

theorem pay2_at (r : Fin 1024) (k : Fin 2048) : k0_pay2 (F := Ideal) (ix2 r k) = 0 := by pointwise [k0_pay2]

theorem pay3_at (x : FVec Ideal S1024x2048 .f32) (wg wu : FVec Ideal S2048x512 .bf16) (r : Fin 1024) (l : Fin 512) :
    k0_pay3 (F := Ideal) (k0_pay1 (F := Ideal) x) wg wu (ix3 0 r l)
      = unit (∑ j : Fin 2048, x (ix2 r j) * wg (ix2 j l)) (∑ j : Fin 2048, x (ix2 r j) * wu (ix2 j l)) := by
  pointwise [k0_pay3, k0_pay1, unit]

theorem pay6_at (acc : FVec Ideal S1024x2048 .f32) (h : FVec Ideal S1x1024x512 .bf16) (w : FVec Ideal S512x2048 .bf16) (r : Fin 1024) (k : Fin 2048) :
    k0_pay6 (F := Ideal) acc h w (ix2 r k) = acc (ix2 r k) + ∑ l : Fin 512, h (ix3 0 r l) * w (ix2 l k) := by
  pointwise [k0_pay6]

theorem fin_at (x acc : FVec Ideal S1024x2048 .f32) (g b : FVec Ideal S1x2048 .f32) (r : Fin 1024) (k : Fin 2048) :
    fin (F := Ideal) x acc g b (ix2 r k)
      = normed (fun j => mix (x (ix2 r j)) (acc (ix2 r j))) (g (ix2 0 k)) (b (ix2 0 k)) k := by
  pointwise [fin, k0_pay5, k0_pay8, k0_pay9, k0_pay10, k0_pay11, k0_pay12, normed, centred, mix]

/-- The half-step at row `r`, column `k`, from the arrays both programs are given. -/
def half (X : FVec Ideal S1x8192x2048 .f32) (WG WU : FVec Ideal S1x2048x5632 .f32) (WD : FVec Ideal S1x5632x2048 .f32)
    (G B : FVec Ideal S1x2048 .f32) (r : Fin 8192) (k : Fin 2048) : EReal :=
  normed (fun j => mix (X (ix3 0 r j))
    (∑ f : Fin 5632, unit (∑ i : Fin 2048, X (ix3 0 r i) * WG (ix3 0 i f)) (∑ i : Fin 2048, X (ix3 0 r i) * WU (ix3 0 i f)) * WD (ix3 0 f j)))
    (G (ix2 0 k)) (B (ix2 0 k)) k

end Cert.FfnIdeal.Blk

namespace Cert.FfnReferenceIdeal.Value

open Idealize.ShloMosaic Idealize.ShloMosaic.TcCoe Idealize.SL.Sem
open Cert.FfnReferenceIdeal Cert.FfnReferenceIdeal.Gen
open Cert.FfnIdeal.Blk (half normed centred mix unit)

/-- A projection of the rows. -/
def upV (X : FVec Ideal S1x8192x2048 .f32) (W : FVec Ideal S1x2048x5632 .f32) : FVec Ideal S1x8192x5632 .f32 :=
  Host.dotGeneral dot_S1x8192x2048_S2048x5632_S1x8192x5632_2_0_01_1_n_n none X (shapeCast _ W shapeCasts_S1x2048x5632_S2048x5632)
/-- The hidden units. -/
def hidV (HG HU : FVec Ideal S1x8192x5632 .f32) : FVec Ideal S1x8192x5632 .f32 :=
  mulf (mulf HG (Host.divf (broadcastInDim S1x8192x5632 ![] bcast_S_S1x8192x5632 (constant S_ .f32 0x3F800000#32)) (addf (broadcastInDim S1x8192x5632 ![] bcast_S_S1x8192x5632 (constant S_ .f32 0x3F800000#32)) (Host.exp (Host.negf HG))))) HU
/-- The residual sum. -/
def mixV (X : FVec Ideal S1x8192x2048 .f32) (H : FVec Ideal S1x8192x5632 .f32) (WD : FVec Ideal S1x5632x2048 .f32) : FVec Ideal S1x8192x2048 .f32 :=
  addf (mulf (broadcastInDim S1x8192x2048 ![] bcast_S_S1x8192x2048 (constant S_ .f32 0x3F9837F0#32)) X) (mulf (broadcastInDim S1x8192x2048 ![] bcast_S_S1x8192x2048 (constant S_ .f32 0x3F000000#32)) (Host.dotGeneral dot_S1x8192x5632_S5632x2048_S1x8192x2048_2_0_01_1_n_n none H (shapeCast _ WD shapeCasts_S1x5632x2048_S5632x2048)))
/-- The rows' means. -/
def meanV (Y : FVec Ideal S1x8192x2048 .f32) : FVec Ideal S1x8192x1 .f32 :=
  Host.divf (broadcastInDim S1x8192x1 ![0, 1] bcast_S1x8192_S1x8192x1_0_1 (Host.reduceAdd Y (constant S_ .f32 0x00000000#32) reducesTo_S1x8192x2048_S1x8192_d2 h_S_)) (broadcastInDim S1x8192x1 ![] bcast_S_S1x8192x1 (constant S_ .f32 0x45000000#32))
/-- The rows less their means. -/
def cenV (Y : FVec Ideal S1x8192x2048 .f32) : FVec Ideal S1x8192x2048 .f32 :=
  subf Y (broadcastInDim S1x8192x2048 ![0, 1, 2] bcast_S1x8192x1_S1x8192x2048_0_1_2 (meanV Y))
/-- The layer norm. -/
def normV (Y : FVec Ideal S1x8192x2048 .f32) (G B : FVec Ideal S1x2048 .f32) : FVec Ideal S8192x2048 .f32 :=
  shapeCast S8192x2048 (addf (mulf (mulf (cenV Y) (broadcastInDim S1x8192x2048 ![0, 1, 2] bcast_S1x8192x1_S1x8192x2048_0_1_2 (Host.rsqrt (addf (Host.divf (broadcastInDim S1x8192x1 ![0, 1] bcast_S1x8192_S1x8192x1_0_1 (Host.reduceAdd (mulf (cenV Y) (cenV Y)) (constant S_ .f32 0x00000000#32) reducesTo_S1x8192x2048_S1x8192_d2 h_S_)) (broadcastInDim S1x8192x1 ![] bcast_S_S1x8192x1 (constant S_ .f32 0x45000000#32))) (broadcastInDim S1x8192x1 ![] bcast_S_S1x8192x1 (constant S_ .f32 0x3727C5AC#32)))))) (broadcastInDim S1x8192x2048 ![0, 1, 2] bcast_S1x1x2048_S1x8192x2048_0_1_2 (broadcastInDim S1x1x2048 ![2] bcast_S2048_S1x1x2048_2 (shapeCast _ G shapeCasts_S1x2048_S2048)))) (broadcastInDim S1x8192x2048 ![0, 1, 2] bcast_S1x1x2048_S1x8192x2048_0_1_2 (broadcastInDim S1x1x2048 ![2] bcast_S2048_S1x1x2048_2 (shapeCast _ B shapeCasts_S1x2048_S2048)))) shapeCasts_S1x8192x2048_S8192x2048

theorem res_eq (m : (ℓ : Loc nD τ sig) → Buf (Elt Ideal) ℓ) (c : Dev nD) :
    res_out0 (F := Ideal) m c = normV (mixV (m ((c.tc : Thread nD τ).loc main_arg0))
      (hidV (upV (m ((c.tc : Thread nD τ).loc main_arg0)) (m ((c.tc : Thread nD τ).loc main_arg1))) (upV (m ((c.tc : Thread nD τ).loc main_arg0)) (m ((c.tc : Thread nD τ).loc main_arg2))))
      (m ((c.tc : Thread nD τ).loc main_arg3))) (m ((c.tc : Thread nD τ).loc main_arg4)) (m ((c.tc : Thread nD τ).loc main_arg5)) := by
  unfold res_out0 res_main_v39; rfl

theorem up_at (X : FVec Ideal S1x8192x2048 .f32) (W : FVec Ideal S1x2048x5632 .f32) (r : Fin 8192) (f : Fin 5632) :
    upV X W (ix3 0 r f) = ∑ i : Fin 2048, X (ix3 0 r i) * W (ix3 0 i f) := by
  pointwise [upV]

theorem hid_at (HG HU : FVec Ideal S1x8192x5632 .f32) (r : Fin 8192) (f : Fin 5632) :
    hidV HG HU (ix3 0 r f) = unit (HG (ix3 0 r f)) (HU (ix3 0 r f)) := by
  unfold unit Ideal.logistic; pointwise [hidV]

theorem mix_at (X : FVec Ideal S1x8192x2048 .f32) (H : FVec Ideal S1x8192x5632 .f32) (WD : FVec Ideal S1x5632x2048 .f32) (r : Fin 8192) (j : Fin 2048) :
    mixV X H WD (ix3 0 r j) = mix (X (ix3 0 r j)) (∑ f : Fin 5632, H (ix3 0 r f) * WD (ix3 0 f j)) := by
  pointwise [mixV, mix]

theorem cen_at (Y : FVec Ideal S1x8192x2048 .f32) (r : Fin 8192) (k : Fin 2048) :
    cenV Y (ix3 0 r k) = centred (fun j => Y (ix3 0 r j)) k := by
  pointwise [cenV, meanV, centred]

theorem norm_at (Y : FVec Ideal S1x8192x2048 .f32) (G B : FVec Ideal S1x2048 .f32) (r : Fin 8192) (k : Fin 2048) :
    normV Y G B (ix2 r k) = normed (fun j => Y (ix3 0 r j)) (G (ix2 0 k)) (B (ix2 0 k)) k := by
  unfold normed; simp only [← cen_at]
  pointwise [normV]

/-- The reference's result at an entry. -/
theorem ref_at (m : (ℓ : Loc nD τ sig) → Buf (Elt Ideal) ℓ) (c : Dev nD) (r : Fin 8192) (k : Fin 2048) :
    res_out0 (F := Ideal) m c (ix2 r k)
      = half (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) r k := by
  rw [res_eq, norm_at]; unfold half; simp only [mix_at, hid_at, up_at]

end Cert.FfnReferenceIdeal.Value

end
-- ==== Proof.FfnValue.lean ====
module

public import proofs.«01_k».proof.Proof.FfnFrame
public import proofs.«01_k».proof.Proof.FfnPure
public import Idealize.ShloMosaic.Lib.Pipeline.ValueKit

/-! The array the feed-forward call leaves is the half-step of its arguments, entry by entry: eleven tiles of the
hidden units are summed, one after another, into the block's product, which is the whole contraction. -/

@[expose] public section

set_option maxRecDepth 16384

noncomputable section

namespace Cert.FfnIdeal.Blk

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

theorem idx : ∀ t : Fin cfg0.N, win0_0.index t = ![t.val / 12, 0] ∧ win0_1.index t = ![0, min (t.val % 12) 10]
    ∧ win0_2.index t = ![0, min (t.val % 12) 10] ∧ win0_3.index t = ![t.val % 12 - 1, 0] ∧ win0_4.index t = ![0, 0]
    ∧ win0_5.index t = ![0, 0] ∧ win0_6.index t = ![t.val / 12, 0] ∧ t.val / 12 < 8 :=
  (by decide +kernel : ∀ t : Fin grid0.N, _)

abbrev argX (c : Dev nD) : FVec Ideal S1x8192x2048 .f32 := m ((c.tc : Thread nD τ).loc main_arg0)
abbrev argG (c : Dev nD) : FVec Ideal S1x2048x5632 .f32 := m ((c.tc : Thread nD τ).loc main_arg1)
abbrev argU (c : Dev nD) : FVec Ideal S1x2048x5632 .f32 := m ((c.tc : Thread nD τ).loc main_arg2)
abbrev argD (c : Dev nD) : FVec Ideal S1x5632x2048 .f32 := m ((c.tc : Thread nD τ).loc main_arg3)

theorem rows_at (c : Dev nD) (R : Fin 8192) (j : Fin 2048) : (show FVec Ideal S8192x2048 .f32 from V m c main_v0) (ix2 R j) = argX m c (ix3 0 R j) := by
  entry_read; pointwise

theorem gate_at (c : Dev nD) (i : Fin 2048) (f : Fin 5632) : (show FVec Ideal S2048x5632 .bf16 from V m c main_v2) (ix2 i f) = argG m c (ix3 0 i f) := by
  entry_read; pointwise

theorem up_at (c : Dev nD) (i : Fin 2048) (f : Fin 5632) : (show FVec Ideal S2048x5632 .bf16 from V m c main_v4) (ix2 i f) = argU m c (ix3 0 i f) := by
  entry_read; pointwise

theorem down_at (c : Dev nD) (f : Fin 5632) (j : Fin 2048) : (show FVec Ideal S5632x2048 .bf16 from V m c main_v6) (ix2 f j) = argD m c (ix3 0 f j) := by
  entry_read; pointwise

theorem gain_at (c : Dev nD) (k : Fin 2048) : (show FVec Ideal S1x2048 .f32 from V m c main_v8) (ix2 0 k) = (show FVec Ideal S1x2048 .f32 from m ((c.tc : Thread nD τ).loc main_arg4)) (ix2 0 k) := by
  entry_read; pointwise

theorem bias_at (c : Dev nD) (k : Fin 2048) : (show FVec Ideal S1x2048 .f32 from V m c main_v10) (ix2 0 k) = (show FVec Ideal S1x2048 .f32 from m ((c.tc : Thread nD τ).loc main_arg5)) (ix2 0 k) := by
  entry_read; pointwise

theorem blk0 (c : Dev nD) (t : Fin cfg0.N) (r : Fin 1024) (j : Fin 2048) (R : Fin 8192) (hR : R.val = t.val / 12 * 1024 + r.val) :
    (show FVec Ideal S1024x2048 .f32 from iblk m c 0 t) (ix2 r j) = argX m c (ix3 0 R j) := by
  refine Eq.trans ?_ (rows_at m c R j)
  blk_ext [iblk, idx t]

theorem blk1 (c : Dev nD) (t : Fin cfg0.N) (i : Fin 2048) (l : Fin 512) (f : Fin 5632) (hf : f.val = t.val % 12 * 512 + l.val) (ht : t.val % 12 < 11) :
    (show FVec Ideal S2048x512 .bf16 from iblk m c 1 t) (ix2 i l) = argG m c (ix3 0 i f) := by
  refine Eq.trans ?_ (gate_at m c i f)
  blk_ext [iblk, idx t]

theorem blk2 (c : Dev nD) (t : Fin cfg0.N) (i : Fin 2048) (l : Fin 512) (f : Fin 5632) (hf : f.val = t.val % 12 * 512 + l.val) (ht : t.val % 12 < 11) :
    (show FVec Ideal S2048x512 .bf16 from iblk m c 2 t) (ix2 i l) = argU m c (ix3 0 i f) := by
  refine Eq.trans ?_ (up_at m c i f)
  blk_ext [iblk, idx t]

theorem blk3 (c : Dev nD) (t : Fin cfg0.N) (l : Fin 512) (j : Fin 2048) (f : Fin 5632) (hf : f.val = (t.val % 12 - 1) * 512 + l.val) :
    (show FVec Ideal S512x2048 .bf16 from iblk m c 3 t) (ix2 l j) = argD m c (ix3 0 f j) := by
  refine Eq.trans ?_ (down_at m c f j)
  blk_ext [iblk, idx t]

theorem blk4 (c : Dev nD) (t : Fin cfg0.N) (k : Fin 2048) :
    (show FVec Ideal S1x2048 .f32 from iblk m c 4 t) (ix2 0 k) = (show FVec Ideal S1x2048 .f32 from m ((c.tc : Thread nD τ).loc main_arg4)) (ix2 0 k) := by
  refine Eq.trans ?_ (gain_at m c k)
  blk_ext [iblk, idx t]

theorem blk5 (c : Dev nD) (t : Fin cfg0.N) (k : Fin 2048) :
    (show FVec Ideal S1x2048 .f32 from iblk m c 5 t) (ix2 0 k) = (show FVec Ideal S1x2048 .f32 from m ((c.tc : Thread nD τ).loc main_arg5)) (ix2 0 k) := by
  refine Eq.trans ?_ (bias_at m c k)
  blk_ext [iblk, idx t]

/-- Hidden unit `f` of row `R`. -/
def hid (c : Dev nD) (R : Fin 8192) (f : Fin 5632) : EReal :=
  unit (∑ i : Fin 2048, argX m c (ix3 0 R i) * argG m c (ix3 0 i f)) (∑ i : Fin 2048, argX m c (ix3 0 R i) * argU m c (ix3 0 i f))

theorem hAt_at (c : Dev nD) (t : Fin cfg0.N) (ht : t.val % 12 < 11) (r : Fin 1024) (l : Fin 512) (R : Fin 8192) (hR : R.val = t.val / 12 * 1024 + r.val)
    (f : Fin 5632) (hf : f.val = t.val % 12 * 512 + l.val) :
    (show FVec Ideal S1x1024x512 .bf16 from hAt m c t) (ix3 0 r l) = hid m c R f := by
  refine (pay3_at _ _ _ r l).trans ?_
  unfold hid
  refine congrArg₂ unit (Finset.sum_congr rfl fun i _ => ?_) (Finset.sum_congr rfl fun i _ => ?_)
  · exact congrArg₂ (· * ·) (blk0 m c t r i R hR) (blk1 m c t i l f hf ht)
  · exact congrArg₂ (· * ·) (blk0 m c t r i R hR) (blk2 m c t i l f hf ht)

/-- What tile `p` of the hidden units adds to an entry of the product. -/
def tile (c : Dev nD) (R : Fin 8192) (k : Fin 2048) (p : ℕ) : EReal :=
  if h : p < 11 then ∑ l : Fin 512, hid m c R ⟨p * 512 + l.val, by omega⟩ * argD m c (ix3 0 ⟨p * 512 + l.val, by omega⟩ k) else 0

theorem accAt_at (c : Dev nD) (q : ℕ) (r : Fin 1024) (R : Fin 8192) (hR : R.val = q * 1024 + r.val) (k : Fin 2048) :
    ∀ (s : ℕ) (hs : s ≤ 11) (hn : 12 * q + s < cfg0.N),
      (show FVec Ideal S1024x2048 .f32 from accAt m c (12 * q + s) hn) (ix2 r k) = ∑ p ∈ Finset.range s, tile m c R k p := by
  intro s
  induction s with
  | zero =>
    intro _ hn
    rw [Finset.sum_range_zero]
    exact (congrFun (accAt_first m c ⟨12 * q + 0, hn⟩ (by show (12 * q + 0) % 12 = 0; omega)) _).trans (pay2_at r k)
  | succ s ih =>
    intro hs hn
    have hn' : 12 * q + s < cfg0.N := by omega
    rw [Finset.sum_range_succ, ← ih (by omega) hn']
    refine (congrFun (accAt_next m c ⟨12 * q + s, hn'⟩ ⟨12 * q + (s + 1), hn⟩ rfl (by show (12 * q + (s + 1)) % 12 ≠ 0; omega)) _).trans ?_
    refine (pay6_at _ _ _ r k).trans (congrArg₂ (· + ·) rfl ?_)
    unfold tile
    rw [dif_pos (by omega)]
    refine Finset.sum_congr rfl fun l _ => congrArg₂ (· * ·) ?_ ?_
    · exact hAt_at m c ⟨12 * q + s, hn'⟩ (by show (12 * q + s) % 12 < 11; omega) r l R (by show R.val = (12 * q + s) / 12 * 1024 + r.val; omega) _
        (by show s * 512 + l.val = (12 * q + s) % 12 * 512 + l.val; omega)
    · exact blk3 m c ⟨12 * q + (s + 1), hn⟩ l k _ (by show s * 512 + l.val = ((12 * q + (s + 1)) % 12 - 1) * 512 + l.val; omega)

theorem tiles_sum (c : Dev nD) (R : Fin 8192) (k : Fin 2048) :
    ∑ p ∈ Finset.range 11, tile m c R k p = ∑ f : Fin 5632, hid m c R f * argD m c (ix3 0 f k) := by
  rw [Fin.sum_univ_tiles 11 512 rfl (fun f : Fin 5632 => hid m c R f * argD m c (ix3 0 f k)), Finset.sum_range]
  refine Finset.sum_congr rfl fun p _ => ?_
  unfold tile
  rw [dif_pos p.isLt]

/-- The result array of the call, as the half-step. -/
def result (c : Dev nD) : FVec Ideal S8192x2048 .f32 := fun i =>
  half (argX m c) (argG m c) (argU m c) (argD m c) (m ((c.tc : Thread nD τ).loc main_arg4)) (m ((c.tc : Thread nD τ).loc main_arg5)) (i 0) (i 1)

theorem outAt_at (c : Dev nD) (t : Fin cfg0.N) (h : t.val % 12 = 11) (r : Fin 1024) (k : Fin 2048) (R : Fin 8192) (hR : R.val = t.val / 12 * 1024 + r.val) :
    (show FVec Ideal S1024x2048 .f32 from outAt m c t) (ix2 r k) = result m c (ix2 R k) := by
  refine (fin_at _ _ _ _ r k).trans ?_
  unfold result half
  have e : ∀ j, (show FVec Ideal S1024x2048 .f32 from accAt m c t.val t.isLt) (ix2 r j) = ∑ f : Fin 5632, hid m c R f * argD m c (ix3 0 f j) := fun j => by
    rw [← tiles_sum]
    have ht : t.val = 12 * (t.val / 12) + 11 := by omega
    have hn : ∀ n (hn : n < cfg0.N), t.val = n → accAt m c t.val t.isLt = accAt m c n hn := fun n hn e => by subst e; rfl
    exact (congrFun (hn _ (by have := t.isLt; omega) ht) _).trans (accAt_at m c (t.val / 12) r R hR j 11 (le_refl _) (by have := t.isLt; omega))
  have e4 := blk4 m c t k
  have e5 := blk5 m c t k
  have e0 : ∀ j, (show FVec Ideal S1024x2048 .f32 from iblk m c 0 t) (ix2 r j) = argX m c (ix3 0 R j) := fun j => blk0 m c t r j R hR
  rw [show (fun j => mix ((show FVec Ideal S1024x2048 .f32 from iblk m c 0 t) (ix2 r j)) ((show FVec Ideal S1024x2048 .f32 from accAt m c t.val t.isLt) (ix2 r j)))
      = fun j => mix (argX m c (ix3 0 R j)) (∑ f : Fin 5632, hid m c R f * argD m c (ix3 0 f j)) from funext fun j => by rw [e, e0]]
  exact congrArg₂ (fun g b => normed _ g b k) e4 e5

theorem final (c : Dev nD) : (dats m 0 c).arrAt 6 (cfgs 0).N = result m c := by
  refine (dats m 0 c).arrAt_eq_of_covers 6 _ (by decide +kernel) fun t hf y => ?_
  have h11 : t.val % 12 = 11 := (flush0_6 t).mp hf
  blk_simp
  rw [after_6]
  have i6 := (idx t).2.2.2.2.2.2
  have hy0 : (y 0).val < 1024 := (y 0).isLt
  have hb : (show Fin 1024 from y 0).val + t.val / 12 * 1024 < 8192 := by
    show (y 0).val + t.val / 12 * 1024 < 8192; omega
  refine Eq.trans ?_ ((outAt_at m c t h11 (y 0) (y 1) ⟨t.val / 12 * 1024 + (y 0).val, by omega⟩ rfl).trans ?_)
  · show outAt m c t y = outAt m c t (ix2 (y 0) (y 1))
    congr 1; exact eq_ix2 y
  · refine congrArg (result m c) ?_
    blk_ext [idx t]

end Cert.FfnIdeal.Blk

end
-- ==== Proof.FfnClaims.lean ====
module

public import proofs.«01_k».proof.Defs
public import proofs.«01_k».proof.Proof.FfnValue
public import proofs.«01_k».proof.Proof.Gen.Ffn
public import Idealize.ShloMosaic.Lib.Claim

/-! The five claims about the feed-forward call, from its one run and the reference's. -/

@[expose] public section

set_option maxRecDepth 16384

noncomputable section

namespace Cert.Proof

open Idealize.ShloMosaic Idealize.ShloMosaic.TcCoe Idealize.SL.Sem

theorem ffn_frame_ideal : Cert.quiescent_FfnIdeal := fun m ρ _ => Cert.FfnIdeal.Blk.frame_run (F := Ideal) m ρ

/-- The two printed programs call one kernel body. -/
theorem ffn_bodies : Cert.Ffn.defs₀ (F := Bits) = Cert.FfnIdeal.defs₀ (F := Bits) := by
  unfold Cert.Ffn.defs₀ Cert.FfnIdeal.defs₀
  refine congrArg _ ?_
  funext l a
  match l, a with
  | 0, (t, s) => rfl
  | ⟨_ + 1, h⟩, _ => exact absurd h (Nat.not_lt.2 (Nat.le_add_left _ _))

theorem ffn_tables : Cert.Ffn.defs (F := Bits) = Cert.FfnIdeal.defs (F := Bits) :=
  congrArg (Pipeline.defs Cert.FfnIdeal.pcfgs) ffn_bodies

theorem ffn_frame : Cert.quiescent_Ffn := fun m ρ _ => by
  have h := Cert.FfnIdeal.Blk.frame_run (F := Bits) m ρ
  rw [← ffn_tables] at h
  exact h

theorem ffn_frame_ref : Cert.quiescent_FfnReferenceIdeal := fun m g _ =>
  (θ_run Cert.FfnReferenceIdeal.defs _ _).mono
    (fun r h => ⟨fun c => (h c).2, Idealize.ShloMosaic.sem_eq_zero_of_no_sems (by decide) r.2⟩)
    (Cert.FfnReferenceIdeal.Value.run m g)

theorem ffn_value : Cert.algebraic_FfnIdeal_FfnReferenceIdeal := by
  pair_intro
  · run_from Cert.FfnIdeal.Blk.run_main m g
  · run_from Cert.FfnReferenceIdeal.Value.run m' g'
    rw [Cert.FfnIdeal.Blk.final m c]
    funext i
    refine (congrArg _ (eq_ix2 i)).trans ((Cert.FfnReferenceIdeal.Value.ref_at m' c (i 0) (i 1)).trans ?_)
    obtain ⟨h0, h1, h2, h3, h4, h5⟩ := hagree c
    unfold Cert.FfnIdeal.Blk.result
    rw [h0, h1, h2, h3, h4, h5]

end Cert.Proof

end
-- ==== Proof.ProjClaims.lean ====
module

public import proofs.«01_k».proof.Defs
public import proofs.«01_k».proof.Proof.Gen.Proj
public import proofs.«01_k».proof.Proof.Gen.ProjIdeal.Value
public import proofs.«01_k».proof.Proof.Gen.ProjReferenceIdeal.Run
public import Idealize.ShloMosaic.Lib.Claim
public import Idealize.ShloMosaic.Lib.Pipeline.ValueKit

/-! The five claims about the convolution group's input projection. A block of rows is copied once into a buffer that
the next two points read again, so every point multiplies its own rows by its own columns of the weights. -/

@[expose] public section

set_option maxRecDepth 16384

noncomputable section

namespace Cert.ProjIdeal.Blk

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

theorem idx : ∀ t : Fin cfg0.N, win0_0.index t = ![t.val / 3, 0] ∧ win0_1.index t = ![0, t.val % 3] ∧ win0_2.index t = ![t.val / 3, t.val % 3] ∧ t.val / 3 < 8 :=
  (by decide +kernel : ∀ t : Fin grid0.N, _)

abbrev argX (c : Dev nD) : FVec Ideal S8192x2048 .bf16 := m ((c.tc : Thread nD τ).loc main_arg0)
abbrev argW (c : Dev nD) : FVec Ideal S1x2048x6144 .f32 := m ((c.tc : Thread nD τ).loc main_arg1)

theorem rows_at (c : Dev nD) (R : Fin 8192) (j : Fin 2048) : (show FVec Ideal S8192x2048 .bf16 from V m c main_arg0) (ix2 R j) = argX m c (ix2 R j) := by
  entry_read; rfl

theorem weight_at (c : Dev nD) (j : Fin 2048) (k : Fin 3072) : (show FVec Ideal S2048x3072 .bf16 from V m c main_v2) (ix2 j k) = argW m c (ix3 0 j ⟨k.val, by omega⟩) := by
  entry_read; pointwise

theorem blk0 (c : Dev nD) (t : Fin cfg0.N) (r : Fin 1024) (j : Fin 2048) (R : Fin 8192) (hR : R.val = t.val / 3 * 1024 + r.val) :
    (show FVec Ideal S1024x2048 .bf16 from iblk m c 0 t) (ix2 r j) = argX m c (ix2 R j) := by
  refine Eq.trans ?_ (rows_at m c R j)
  blk_ext [iblk, idx t]

theorem blk1 (c : Dev nD) (t : Fin cfg0.N) (j : Fin 2048) (l : Fin 1024) (k : Fin 3072) (hk : k.val = t.val % 3 * 1024 + l.val) :
    (show FVec Ideal S2048x1024 .bf16 from iblk m c 1 t) (ix2 j l) = argW m c (ix3 0 j ⟨k.val, by omega⟩) := by
  refine Eq.trans ?_ (weight_at m c j k)
  blk_ext [iblk, idx t]

theorem pay1_at (x : FVec Ideal S1024x2048 .bf16) (r : Fin 1024) (j : Fin 2048) : k0_pay1 (F := Ideal) x (ix2 r j) = x (ix2 r j) := by
  pointwise [k0_pay1]

theorem pay2_at (x : FVec Ideal S1024x2048 .bf16) (w : FVec Ideal S2048x1024 .bf16) (r l : Fin 1024) :
    k0_pay2 (F := Ideal) x w (ix2 r l) = ∑ j : Fin 2048, x (ix2 r j) * w (ix2 j l) := by
  pointwise [k0_pay2]

/-- The kept rows after point `n`: those of its row block. -/
theorem kept_at (c : Dev nD) (r : Fin 1024) (j : Fin 2048) : ∀ (n : ℕ) (hn : n < cfg0.N) (R : Fin 8192), R.val = n / 3 * 1024 + r.val →
    (outsAt0 m c n hn).2 (ix2 r j) = argX m c (ix2 R j) := by
  intro n
  induction n with
  | zero =>
    intro hn R hR
    rw [outsAt0_A m c ⟨0, hn⟩ rfl]
    frame_out
    exact (pay1_at _ r j).trans (blk0 m c ⟨0, hn⟩ r j R hR)
  | succ n ih =>
    intro hn R hR
    by_cases h : (n + 1) % 3 = 0
    · rw [outsAt0_A m c ⟨n + 1, hn⟩ h]
      frame_out
      exact (pay1_at _ r j).trans (blk0 m c ⟨n + 1, hn⟩ r j R hR)
    · rw [outsAt0_B m c ⟨n + 1, hn⟩ h]
      exact ih (Nat.lt_of_succ_lt hn) R (by omega)

/-- The result array of the call. -/
def whole (c : Dev nD) : FVec Ideal S8192x3072 .bf16 := fun i =>
  ∑ j : Fin 2048, argX m c (ix2 (i 0) j) * argW m c (ix3 0 j ⟨(i 1).val, Nat.lt_trans (i 1).isLt (by decide)⟩)

theorem stored_at (c : Dev nD) (t : Fin cfg0.N) (r l : Fin 1024) (R : Fin 8192) (hR : R.val = t.val / 3 * 1024 + r.val) (k : Fin 3072) (hk : k.val = t.val % 3 * 1024 + l.val) :
    (outsAt0 m c t.val t.isLt).1 (ix2 r l) = whole m c (ix2 R k) := by
  by_cases h : t.val % 3 = 0
  · rw [outsAt0_A m c t h]
    frame_out
    refine (pay2_at _ _ r l).trans (Finset.sum_congr rfl fun j _ => congrArg₂ (· * ·) ?_ (blk1 m c t j l k hk))
    exact (pay1_at _ r j).trans (blk0 m c t r j R hR)
  · rw [outsAt0_B m c t h]
    frame_out
    refine (pay2_at _ _ r l).trans (Finset.sum_congr rfl fun j _ => congrArg₂ (· * ·) ?_ (blk1 m c t j l k hk))
    have hn : t.val - 1 < cfg0.N := Nat.lt_of_le_of_lt (Nat.sub_le _ _) t.isLt
    refine Eq.trans ?_ (kept_at m c r j (t.val - 1) hn R (by omega))
    exact congrFun (Memref.IsWhole.read_unread (Val := Elt Ideal) (Memref.isWhole_whole cc0_scratch0) (outsAt0 m c (t.val - 1) hn).2) (ix2 r j)

theorem final (c : Dev nD) : (dats m 0 c).arrAt 2 (cfgs 0).N = whole m c := by
  refine (dats m 0 c).arrAt_eq_of_covers 2 _ (by decide +kernel) fun t hf y => ?_
  blk_simp
  rw [after0_2]
  have i2 := (idx t).2.2
  have hy0 : (y 0).val < 1024 := (y 0).isLt
  have hy1 : (y 1).val < 1024 := (y 1).isLt
  refine Eq.trans ?_ ((stored_at m c t (y 0) (y 1) ⟨t.val / 3 * 1024 + (y 0).val, by omega⟩ rfl ⟨t.val % 3 * 1024 + (y 1).val, by omega⟩ rfl).trans ?_)
  · exact congrArg _ (eq_ix2 y)
  · refine congrArg (whole m c) ?_
    blk_ext [idx t]

end Cert.ProjIdeal.Blk

namespace Cert.ProjReferenceIdeal.Value

open Idealize.ShloMosaic Idealize.ShloMosaic.TcCoe Idealize.SL.Sem
open Cert.ProjReferenceIdeal Cert.ProjReferenceIdeal.Gen

/-- The reference's projection of the rows. -/
def projV (X : FVec Ideal S8192x2048 .bf16) (W : FVec Ideal S1x2048x6144 .f32) : FVec Ideal S8192x3072 .bf16 :=
  truncf .bf16 (extractStridedSlice S8192x3072 ![0, 0] (Host.dotGeneral dot_S8192x2048_S2048x6144_S8192x6144_1_0_0_1_n_n none (extf .f32 X bitsLt_bf16_f32) (shapeCast _ W shapeCasts_S1x2048x6144_S2048x6144)) slices_S8192x6144_S8192x3072_0_0) bitsLt_bf16_f32

theorem proj_at (X : FVec Ideal S8192x2048 .bf16) (W : FVec Ideal S1x2048x6144 .f32) (R : Fin 8192) (k : Fin 3072) :
    projV X W (ix2 R k) = ∑ j : Fin 2048, X (ix2 R j) * W (ix3 0 j ⟨k.val, by omega⟩) := by
  pointwise [projV]

end Cert.ProjReferenceIdeal.Value

namespace Cert.Proof

open Idealize.ShloMosaic Idealize.ShloMosaic.TcCoe Idealize.SL.Sem

theorem proj_frame_ideal : Cert.quiescent_ProjIdeal := fun m ρ _ => Cert.ProjIdeal.Gen.frame (F := Ideal) m ρ

/-- The two printed programs call one kernel body. -/
theorem proj_bodies : Cert.Proj.defs₀ (F := Bits) = Cert.ProjIdeal.defs₀ (F := Bits) := by
  unfold Cert.Proj.defs₀ Cert.ProjIdeal.defs₀
  refine congrArg _ ?_
  funext l a
  match l, a with
  | 0, (t, s) => rfl
  | ⟨_ + 1, h⟩, _ => exact absurd h (Nat.not_lt.2 (Nat.le_add_left _ _))

theorem proj_tables : Cert.Proj.defs (F := Bits) = Cert.ProjIdeal.defs (F := Bits) :=
  congrArg (Pipeline.defs Cert.ProjIdeal.pcfgs) proj_bodies

theorem proj_frame : Cert.quiescent_Proj := fun m ρ _ => by
  have h := Cert.ProjIdeal.Gen.frame (F := Bits) m ρ
  rw [← proj_tables] at h
  exact h

theorem proj_frame_ref : Cert.quiescent_ProjReferenceIdeal := fun m g _ =>
  (θ_run Cert.ProjReferenceIdeal.defs _ _).mono
    (fun r h => ⟨fun c => (h c).2, Idealize.ShloMosaic.sem_eq_zero_of_no_sems (by decide) r.2⟩)
    (Cert.ProjReferenceIdeal.Value.run m g)

theorem proj_value : Cert.algebraic_ProjIdeal_ProjReferenceIdeal := by
  pair_intro
  · run_from Cert.ProjIdeal.Value.run_blocks m g
  · run_from Cert.ProjReferenceIdeal.Value.run m' g'
    rw [Cert.ProjIdeal.Blk.final m c]
    funext i
    exact (congrArg _ (eq_ix2 i)).trans (Cert.ProjReferenceIdeal.Value.proj_at _ _ (i 0) (i 1))

end Cert.Proof

end
-- ==== Proof.ValuesClaims.lean ====
module

public import proofs.«01_k».proof.Defs
public import proofs.«01_k».proof.Proof.Gen.Values
public import proofs.«01_k».proof.Proof.Gen.ValuesIdeal.Value
public import proofs.«01_k».proof.Proof.Gen.ValuesReferenceIdeal.Run
public import Idealize.ShloMosaic.Lib.Claim
public import Idealize.ShloMosaic.Lib.Pipeline.ValueKit

/-! The five claims about the attention values' projection. A block of rows is copied once into a buffer that the next
point reads again, so every point multiplies its own rows by its own columns of the weights and stores them turned. -/

@[expose] public section

set_option maxRecDepth 16384

noncomputable section

namespace Cert.ValuesIdeal.Blk

open Idealize.ShloMosaic Idealize.ShloMosaic.TcCoe Idealize.SL.Sem
open Idealize.ShloMosaic.Pipeline (Dat)
open Cert.ValuesIdeal Cert.ValuesIdeal.Gen

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2, 0] ∧ t.val / 2 < 8 :=
  (by decide +kernel : ∀ t : Fin grid0.N, _)

abbrev argX (c : Dev nD) : FVec Ideal S8192x2048 .bf16 := m ((c.tc : Thread nD τ).loc main_arg0)
abbrev argW (c : Dev nD) : FVec Ideal S1x2048x6144 .f32 := m ((c.tc : Thread nD τ).loc main_arg1)

theorem rows_at (c : Dev nD) (R : Fin 8192) (j : Fin 2048) : (show FVec Ideal S8192x2048 .bf16 from V m c main_arg0) (ix2 R j) = argX m c (ix2 R j) := by
  entry_read; rfl

theorem weight_at (c : Dev nD) (j : Fin 2048) (k : Fin 1024) : (show FVec Ideal S2048x1024 .bf16 from V m c main_v2) (ix2 j k) = argW m c (ix3 0 j ⟨5120 + k.val, by omega⟩) := by
  entry_read; pointwise

theorem blk0 (c : Dev nD) (t : Fin cfg0.N) (r : Fin 1024) (j : Fin 2048) (R : Fin 8192) (hR : R.val = t.val / 2 * 1024 + r.val) :
    (show FVec Ideal S1024x2048 .bf16 from iblk m c 0 t) (ix2 r j) = argX m c (ix2 R j) := by
  refine Eq.trans ?_ (rows_at m c R j)
  blk_ext [iblk, idx t]

theorem blk1 (c : Dev nD) (t : Fin cfg0.N) (j : Fin 2048) (l : Fin 512) (k : Fin 1024) (hk : k.val = t.val % 2 * 512 + l.val) :
    (show FVec Ideal S2048x512 .bf16 from iblk m c 1 t) (ix2 j l) = argW m c (ix3 0 j ⟨5120 + k.val, by omega⟩) := by
  refine Eq.trans ?_ (weight_at m c j k)
  blk_ext [iblk, idx t]

theorem pay1_at (x : FVec Ideal S1024x2048 .bf16) (r : Fin 1024) (j : Fin 2048) : k0_pay1 (F := Ideal) x (ix2 r j) = x (ix2 r j) := by
  pointwise [k0_pay1]

theorem pay2_at (x : FVec Ideal S1024x2048 .bf16) (w : FVec Ideal S2048x512 .bf16) (r : Fin 1024) (l : Fin 512) :
    k0_pay2 (F := Ideal) x w (ix3 0 l r) = ∑ j : Fin 2048, x (ix2 r j) * w (ix2 j l) := by
  pointwise [k0_pay2]

/-- The kept rows after point `n`: those of its row block. -/
theorem kept_at (c : Dev nD) (r : Fin 1024) (j : Fin 2048) : ∀ (n : ℕ) (hn : n < cfg0.N) (R : Fin 8192), R.val = n / 2 * 1024 + r.val →
    (outsAt0 m c n hn).2 (ix2 r j) = argX m c (ix2 R j) := by
  intro n
  induction n with
  | zero =>
    intro hn R hR
    rw [outsAt0_A m c ⟨0, hn⟩ rfl]
    frame_out
    exact (pay1_at _ r j).trans (blk0 m c ⟨0, hn⟩ r j R hR)
  | succ n ih =>
    intro hn R hR
    by_cases h : (n + 1) % 2 = 0
    · rw [outsAt0_A m c ⟨n + 1, hn⟩ h]
      frame_out
      exact (pay1_at _ r j).trans (blk0 m c ⟨n + 1, hn⟩ r j R hR)
    · rw [outsAt0_B m c ⟨n + 1, hn⟩ h]
      exact ih (Nat.lt_of_succ_lt hn) R (by omega)

/-- Lane `l` of value row `k` in slab `s`. -/
def entry (X : FVec Ideal S8192x2048 .bf16) (W : FVec Ideal S1x2048x6144 .f32) (s : Fin 8) (k l : Fin 1024) : EReal :=
  ∑ j : Fin 2048, X (ix2 ⟨s.val * 1024 + l.val, by omega⟩ j) * W (ix3 0 j ⟨5120 + k.val, by omega⟩)

/-- The result array of the call. -/
def whole (c : Dev nD) : FVec Ideal S8x1024x1024 .bf16 := fun i =>
  entry (argX m c) (argW m c) (i 0) (i 1) (i 2)

theorem stored_at (c : Dev nD) (t : Fin cfg0.N) (r : Fin 1024) (l : Fin 512) (s : Fin 8) (hs : s.val = t.val / 2) (k : Fin 1024) (hk : k.val = t.val % 2 * 512 + l.val) :
    (outsAt0 m c t.val t.isLt).1 (ix3 0 l r) = whole m c (ix3 s k r) := by
  have hR : s.val * 1024 + r.val = t.val / 2 * 1024 + r.val := by rw [hs]
  show _ = entry (argX m c) (argW m c) s k r
  unfold entry
  by_cases h : t.val % 2 = 0
  · rw [outsAt0_A m c t h]
    frame_out
    refine (pay2_at _ _ r l).trans (Finset.sum_congr rfl fun j _ => congrArg₂ (· * ·) ?_ (blk1 m c t j l k hk))
    exact (pay1_at _ r j).trans (blk0 m c t r j ⟨s.val * 1024 + r.val, by omega⟩ hR)
  · rw [outsAt0_B m c t h]
    frame_out
    refine (pay2_at _ _ r l).trans (Finset.sum_congr rfl fun j _ => congrArg₂ (· * ·) ?_ (blk1 m c t j l k hk))
    have hn : t.val - 1 < cfg0.N := Nat.lt_of_le_of_lt (Nat.sub_le _ _) t.isLt
    refine Eq.trans ?_ (kept_at m c r j (t.val - 1) hn ⟨s.val * 1024 + r.val, by omega⟩ (by show s.val * 1024 + r.val = _; omega))
    exact congrFun (Memref.IsWhole.read_unread (Val := Elt Ideal) (Memref.isWhole_whole cc0_scratch0) (outsAt0 m c (t.val - 1) hn).2) (ix2 r j)

theorem final (c : Dev nD) : (dats m 0 c).arrAt 2 (cfgs 0).N = whole m c := by
  refine (dats m 0 c).arrAt_eq_of_covers 2 _ (by decide +kernel) fun t hf y => ?_
  blk_simp
  rw [after0_2]
  have i2 := (idx t).2.2
  have hy0 : (y 0).val < 1 := (y 0).isLt
  have hy1 : (y 1).val < 512 := (y 1).isLt
  have hy2 : (y 2).val < 1024 := (y 2).isLt
  refine Eq.trans ?_ ((stored_at m c t (y 2) (y 1) ⟨t.val / 2, by omega⟩ rfl ⟨t.val % 2 * 512 + (y 1).val, by omega⟩ rfl).trans ?_)
  · refine congrArg _ ((eq_ix3 y).trans ?_)
    exact congrArg (fun a => ix3 a (y 1) (y 2)) (Fin.ext (by show (y 0).val = 0; omega))
  · refine congrArg (whole m c) ?_
    blk_ext [idx t]

end Cert.ValuesIdeal.Blk

namespace Cert.ValuesReferenceIdeal.Value

open Idealize.ShloMosaic Idealize.ShloMosaic.TcCoe Idealize.SL.Sem
open Cert.ValuesReferenceIdeal Cert.ValuesReferenceIdeal.Gen

/-- The reference's projection of the rows, cut into slabs and turned. -/
def valuesV (X : FVec Ideal S8192x2048 .bf16) (W : FVec Ideal S1x2048x6144 .f32) : FVec Ideal S8x1024x1024 .bf16 :=
  truncf .bf16 (transpose S8x1024x1024 [0, 2, 1] (shapeCast _ (extractStridedSlice S8192x1024 ![0, 5120] (Host.dotGeneral dot_S8192x2048_S2048x6144_S8192x6144_1_0_0_1_n_n none (extf .f32 X bitsLt_bf16_f32) (shapeCast _ W shapeCasts_S1x2048x6144_S2048x6144)) slices_S8192x6144_S8192x1024_0_5120) shapeCasts_S8192x1024_S8x1024x1024) transposes_S8x1024x1024_S8x1024x1024_0_2_1) bitsLt_bf16_f32

theorem values_at (X : FVec Ideal S8192x2048 .bf16) (W : FVec Ideal S1x2048x6144 .f32) (s : Fin 8) (k l : Fin 1024) :
    valuesV X W (ix3 s k l) = Cert.ValuesIdeal.Blk.entry X W s k l := by
  pointwise [valuesV, Cert.ValuesIdeal.Blk.entry]

end Cert.ValuesReferenceIdeal.Value

namespace Cert.Proof

open Idealize.ShloMosaic Idealize.ShloMosaic.TcCoe Idealize.SL.Sem

theorem values_frame_ideal : Cert.quiescent_ValuesIdeal := fun m ρ _ => Cert.ValuesIdeal.Gen.frame (F := Ideal) m ρ

/-- The two printed programs call one kernel body. -/
theorem values_bodies : Cert.Values.defs₀ (F := Bits) = Cert.ValuesIdeal.defs₀ (F := Bits) := by
  unfold Cert.Values.defs₀ Cert.ValuesIdeal.defs₀
  refine congrArg _ ?_
  funext l a
  match l, a with
  | 0, (t, s) => rfl
  | ⟨_ + 1, h⟩, _ => exact absurd h (Nat.not_lt.2 (Nat.le_add_left _ _))

theorem values_tables : Cert.Values.defs (F := Bits) = Cert.ValuesIdeal.defs (F := Bits) :=
  congrArg (Pipeline.defs Cert.ValuesIdeal.pcfgs) values_bodies

theorem values_frame : Cert.quiescent_Values := fun m ρ _ => by
  have h := Cert.ValuesIdeal.Gen.frame (F := Bits) m ρ
  rw [← values_tables] at h
  exact h

theorem values_frame_ref : Cert.quiescent_ValuesReferenceIdeal := fun m g _ =>
  (θ_run Cert.ValuesReferenceIdeal.defs _ _).mono
    (fun r h => ⟨fun c => (h c).2, Idealize.ShloMosaic.sem_eq_zero_of_no_sems (by decide) r.2⟩)
    (Cert.ValuesReferenceIdeal.Value.run m g)

theorem values_value : Cert.algebraic_ValuesIdeal_ValuesReferenceIdeal := by
  pair_intro
  · run_from Cert.ValuesIdeal.Value.run_blocks m g
  · run_from Cert.ValuesReferenceIdeal.Value.run m' g'
    rw [Cert.ValuesIdeal.Blk.final m c]
    funext i
    exact (congrArg _ (eq_ix3 i)).trans (Cert.ValuesReferenceIdeal.Value.values_at _ _ (i 0) (i 1) (i 2))

end Cert.Proof

end
-- ==== Proof.OutPure.lean ====
module

public import proofs.«01_k».proof.Proof.FfnPure
public import proofs.«01_k».proof.Proof.Gen.OutIdeal.Frame
public import proofs.«01_k».proof.Proof.Gen.OutReferenceIdeal.Run
public import Idealize.ShloMosaic.Lib.Pointwise

/-! The output projection at one entry: the gated rows of the convolution under their root-mean-square norm and the
attention's rows, each against its half of the weights, added to the scaled residual and layer-normed. -/

@[expose] public section

set_option maxRecDepth 16384

noncomputable section

namespace Cert.OutIdeal.Blk

open Idealize.ShloMosaic Idealize.ShloMosaic.TcCoe Idealize.SL.Sem
open Cert.OutIdeal Cert.OutIdeal.Gen
open Cert.FfnIdeal.Blk (normed centred)

/-- The root-mean-square norm of a row of 1024 at one entry, with its gain. -/
def rms (u : Fin 1024 → EReal) (g : EReal) (k : Fin 1024) : EReal :=
  u k * Ideal.rsqrt (Ideal.div (∑ j : Fin 1024, u j * u j) (Ideal.ofBits .f32 0x44800000#32) + Ideal.ofBits .f32 0x3727C5AC#32) * g

/-- The residual and the two products at one entry, from the gated row, its gains, the attention's row and the weights' two halves. -/
def joined (x : EReal) (u ng a wh wa : Fin 1024 → EReal) : EReal :=
  Ideal.ofBits .f32 0x3F9837F0#32 * x + (∑ j : Fin 1024, rms u (ng j) j * wh j + ∑ j : Fin 1024, a j * wa j)

theorem normed_congr {y y' : Fin 2048 → EReal} {g g' b b' : EReal} {k : Fin 2048} (hy : ∀ j, y j = y' j) (hg : g = g') (hb : b = b') :
    normed y g b k = normed y' g' b' k := by
  obtain rfl : y = y' := funext hy
  rw [hg, hb]

theorem joined_congr {x x' : EReal} {u u' ng ng' a a' wh wh' wa wa' : Fin 1024 → EReal} (hx : x = x') (hu : ∀ j, u j = u' j) (hn : ∀ j, ng j = ng' j)
    (ha : ∀ j, a j = a' j) (hh : ∀ j, wh j = wh' j) (hw : ∀ j, wa j = wa' j) : joined x u ng a wh wa = joined x' u' ng' a' wh' wa' := by
  obtain rfl : u = u' := funext hu
  obtain rfl : ng = ng' := funext hn
  obtain rfl : a = a' := funext ha
  obtain rfl : wh = wh' := funext hh
  obtain rfl : wa = wa' := funext hw
  rw [hx]

theorem pay1_at (y : FVec Ideal S512x2048 .f32) (g b : FVec Ideal S1x2048 .f32) (r : Fin 512) (k : Fin 2048) :
    k0_pay1 (F := Ideal) y (k0_pay3 (F := Ideal) g) (k0_pay4 (F := Ideal) b) (ix2 r k) = normed (fun j => y (ix2 r j)) (g (ix2 0 k)) (b (ix2 0 k)) k := by
  pointwise [k0_pay1, k0_pay3, k0_pay4, normed, centred]

theorem pay2_at (y : FVec Ideal S512x1024 .f32) (z : FVec Ideal S512x1024 .bf16) (ng : FVec Ideal S1x1024 .f32) (wh : FVec Ideal S1024x2048 .bf16)
    (a : FVec Ideal S512x1024 .bf16) (wa : FVec Ideal S1024x2048 .bf16) (x : FVec Ideal S512x2048 .f32) (r : Fin 512) (k : Fin 2048) :
    k0_pay2 (F := Ideal) y z ng wh a wa x (ix2 r k)
      = joined (x (ix2 r k)) (fun j => y (ix2 r j) * z (ix2 r j)) (fun j => ng (ix2 0 j)) (fun j => a (ix2 r j)) (fun j => wh (ix2 j k)) (fun j => wa (ix2 j k)) := by
  pointwise [k0_pay2, joined, rms]

/-- The call's result at row `r`, column `k`, from the arrays both programs are given. -/
def result (Y : FVec Ideal S8192x1024 .f32) (Z : FVec Ideal S8192x3072 .bf16) (A : FVec Ideal S8192x1024 .bf16) (W : FVec Ideal S1x2048x2048 .f32)
    (NG : FVec Ideal S1x1024 .f32) (X : FVec Ideal S8192x2048 .f32) (G B : FVec Ideal S1x2048 .f32) (r : Fin 8192) (k : Fin 2048) : EReal :=
  normed (fun c => joined (X (ix2 r c)) (fun j => Y (ix2 r j) * Z (ix2 r ⟨2048 + j.val, by omega⟩)) (fun j => NG (ix2 0 j)) (fun j => A (ix2 r j))
    (fun j => W (ix3 0 ⟨j.val, by omega⟩ c)) (fun j => W (ix3 0 ⟨1024 + j.val, by omega⟩ c))) (G (ix2 0 k)) (B (ix2 0 k)) k

end Cert.OutIdeal.Blk

namespace Cert.OutReferenceIdeal.Value

open Idealize.ShloMosaic Idealize.ShloMosaic.TcCoe Idealize.SL.Sem
open Cert.OutReferenceIdeal Cert.OutReferenceIdeal.Gen
open Cert.FfnIdeal.Blk (normed centred)
open Cert.OutIdeal.Blk (rms joined result)

/-- The gated rows. -/
def gateV (Y : FVec Ideal S8192x1024 .f32) (Z : FVec Ideal S8192x3072 .bf16) : FVec Ideal S8192x1024 .f32 :=
  mulf (extf .f32 (extractStridedSlice S8192x1024 ![0, 2048] Z slices_S8192x3072_S8192x1024_0_2048) bitsLt_bf16_f32) Y
/-- Their root-mean-square norm. -/
def rmsV (U : FVec Ideal S8192x1024 .f32) (NG : FVec Ideal S1x1024 .f32) : FVec Ideal S8192x1024 .f32 :=
  mulf (mulf U (broadcastInDim S8192x1024 ![0, 1] bcast_S8192x1_S8192x1024_0_1 (Host.rsqrt (addf (Host.divf (broadcastInDim S8192x1 ![0] bcast_S8192_S8192x1_0 (Host.reduceAdd (mulf U U) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 (shapeCast _ NG shapeCasts_S1x1024_S1024)))
/-- The two groups side by side. -/
def bothV (H : FVec Ideal S8192x1024 .f32) (A : FVec Ideal S8192x1024 .bf16) : FVec Ideal S8192x2048 .f32 :=
  concatenate S8192x2048 1 [⟨S8192x1024, H⟩, ⟨S8192x1024, (extf .f32 A bitsLt_bf16_f32)⟩] concatenates_S8192x1024_S8192x1024_S8192x2048_d1
/-- The residual sum. -/
def mixV (X C : FVec Ideal S8192x2048 .f32) (W : FVec Ideal S1x2048x2048 .f32) : FVec Ideal S8192x2048 .f32 :=
  addf (mulf (broadcastInDim S8192x2048 ![] bcast_S_S8192x2048 (constant S_ .f32 0x3F9837F0#32)) X) (Host.dotGeneral dot_S8192x2048_S2048x2048_S8192x2048_1_0_0_1_n_n none C (shapeCast _ W shapeCasts_S1x2048x2048_S2048x2048))
/-- The rows less their means. -/
def cenV (Y : FVec Ideal S8192x2048 .f32) : FVec Ideal S8192x2048 .f32 :=
  subf Y (broadcastInDim S8192x2048 ![0, 1] bcast_S8192x1_S8192x2048_0_1 (Host.divf (broadcastInDim S8192x1 ![0] bcast_S8192_S8192x1_0 (Host.reduceAdd Y (constant S_ .f32 0x00000000#32) reducesTo_S8192x2048_S8192_d1 h_S_)) (broadcastInDim S8192x1 ![] bcast_S_S8192x1 (constant S_ .f32 0x45000000#32))))
/-- The layer norm. -/
def normV (Y : FVec Ideal S8192x2048 .f32) (G B : FVec Ideal S1x2048 .f32) : FVec Ideal S8192x2048 .f32 :=
  addf (mulf (mulf (cenV Y) (broadcastInDim S8192x2048 ![0, 1] bcast_S8192x1_S8192x2048_0_1 (Host.rsqrt (addf (Host.divf (broadcastInDim S8192x1 ![0] bcast_S8192_S8192x1_0 (Host.reduceAdd (mulf (cenV Y) (cenV Y)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ G shapeCasts_S1x2048_S2048)))) (broadcastInDim S8192x2048 ![0, 1] bcast_S1x2048_S8192x2048_0_1 (broadcastInDim S1x2048 ![1] bcast_S2048_S1x2048_1 (shapeCast _ B shapeCasts_S1x2048_S2048)))

theorem res_eq (m : (ℓ : Loc nD τ sig) → Buf (Elt Ideal) ℓ) (c : Dev nD) :
    res_out0 (F := Ideal) m c = normV (mixV (m ((c.tc : Thread nD τ).loc main_arg5))
      (bothV (rmsV (gateV (m ((c.tc : Thread nD τ).loc main_arg0)) (m ((c.tc : Thread nD τ).loc main_arg1))) (m ((c.tc : Thread nD τ).loc main_arg4))) (m ((c.tc : Thread nD τ).loc main_arg2)))
      (m ((c.tc : Thread nD τ).loc main_arg3))) (m ((c.tc : Thread nD τ).loc main_arg6)) (m ((c.tc : Thread nD τ).loc main_arg7)) := by
  unfold res_out0 res_main_v49; rfl

theorem gate_at (Y : FVec Ideal S8192x1024 .f32) (Z : FVec Ideal S8192x3072 .bf16) (r : Fin 8192) (j : Fin 1024) :
    gateV Y Z (ix2 r j) = Y (ix2 r j) * Z (ix2 r ⟨2048 + j.val, by omega⟩) := by
  rw [mul_comm]; pointwise [gateV]

theorem rms_at (U : FVec Ideal S8192x1024 .f32) (NG : FVec Ideal S1x1024 .f32) (r : Fin 8192) (j : Fin 1024) :
    rmsV U NG (ix2 r j) = rms (fun i => U (ix2 r i)) (NG (ix2 0 j)) j := by
  pointwise [rmsV, rms]

theorem both_lo (H : FVec Ideal S8192x1024 .f32) (A : FVec Ideal S8192x1024 .bf16) (r : Fin 8192) (j : Fin 1024) :
    bothV H A (ix2 r ⟨j.val, by omega⟩) = H (ix2 r j) := by
  pointwise [bothV]

theorem both_hi (H : FVec Ideal S8192x1024 .f32) (A : FVec Ideal S8192x1024 .bf16) (r : Fin 8192) (j : Fin 1024) :
    bothV H A (ix2 r ⟨1024 + j.val, by omega⟩) = A (ix2 r j) := by
  pointwise [bothV]

theorem mix_at (X C : FVec Ideal S8192x2048 .f32) (W : FVec Ideal S1x2048x2048 .f32) (r : Fin 8192) (k : Fin 2048) :
    mixV X C W (ix2 r k) = Ideal.ofBits .f32 0x3F9837F0#32 * X (ix2 r k) + ∑ j : Fin 2048, C (ix2 r j) * W (ix3 0 j k) := by
  pointwise [mixV]

/-- A sum over both groups is the sum over each. -/
theorem sum_both (f : Fin 2048 → EReal) : ∑ j : Fin 2048, f j = ∑ j : Fin 1024, f ⟨j.val, by omega⟩ + ∑ j : Fin 1024, f ⟨1024 + j.val, by omega⟩ :=
  Fin.sum_univ_add (a := 1024) (b := 1024) f

theorem cen_at (Y : FVec Ideal S8192x2048 .f32) (r : Fin 8192) (k : Fin 2048) :
    cenV Y (ix2 r k) = centred (fun j => Y (ix2 r j)) k := by
  pointwise [cenV, centred]

theorem norm_at (Y : FVec Ideal S8192x2048 .f32) (G B : FVec Ideal S1x2048 .f32) (r : Fin 8192) (k : Fin 2048) :
    normV Y G B (ix2 r k) = normed (fun j => Y (ix2 r j)) (G (ix2 0 k)) (B (ix2 0 k)) k := by
  unfold normed; simp only [← cen_at]
  pointwise [normV]

/-- The reference's result at an entry. -/
theorem ref_at (m : (ℓ : Loc nD τ sig) → Buf (Elt Ideal) ℓ) (c : Dev nD) (r : Fin 8192) (k : Fin 2048) :
    res_out0 (F := Ideal) m c (ix2 r k)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) r k := by
  rw [res_eq, norm_at]; unfold result joined
  simp only [mix_at, sum_both, both_lo, both_hi, rms_at, gate_at]

end Cert.OutReferenceIdeal.Value

end
-- ==== Proof.OutClaims.lean ====
module

public import proofs.«01_k».proof.Defs
public import proofs.«01_k».proof.Proof.OutPure
public import proofs.«01_k».proof.Proof.Gen.Out
public import proofs.«01_k».proof.Proof.Gen.OutIdeal.Value
public import Idealize.ShloMosaic.Lib.Claim
public import Idealize.ShloMosaic.Lib.Pipeline.ValueKit

/-! The five claims about the output projection: its blocks read at an entry, the array it leaves, and the reference. -/

@[expose] public section

set_option maxRecDepth 16384

noncomputable section

namespace Cert.OutIdeal.Blk

open Idealize.ShloMosaic Idealize.ShloMosaic.TcCoe Idealize.SL.Sem
open Idealize.ShloMosaic.Pipeline (Dat)
open Cert.OutIdeal Cert.OutIdeal.Gen
open Cert.FfnIdeal.Blk (normed)

variable (m : (ℓ : Loc nD τ sig) → Buf (Elt Ideal) ℓ)

theorem idx : ∀ t : Fin cfg0.N, win0_0.index t = ![t.val, 0] ∧ win0_1.index t = ![t.val, 2] ∧ win0_2.index t = ![t.val, 0]
    ∧ win0_3.index t = ![0, 0] ∧ win0_4.index t = ![1, 0] ∧ win0_5.index t = ![0, 0] ∧ win0_6.index t = ![t.val, 0]
    ∧ win0_7.index t = ![0, 0] ∧ win0_8.index t = ![0, 0] ∧ win0_9.index t = ![t.val, 0] ∧ t.val < 16 :=
  (by decide +kernel : ∀ t : Fin grid0.N, _)

abbrev argY (c : Dev nD) : FVec Ideal S8192x1024 .f32 := m ((c.tc : Thread nD τ).loc main_arg0)
abbrev argZ (c : Dev nD) : FVec Ideal S8192x3072 .bf16 := m ((c.tc : Thread nD τ).loc main_arg1)
abbrev argA (c : Dev nD) : FVec Ideal S8192x1024 .bf16 := m ((c.tc : Thread nD τ).loc main_arg2)
abbrev argW (c : Dev nD) : FVec Ideal S1x2048x2048 .f32 := m ((c.tc : Thread nD τ).loc main_arg3)
abbrev argN (c : Dev nD) : FVec Ideal S1x1024 .f32 := m ((c.tc : Thread nD τ).loc main_arg4)
abbrev argX (c : Dev nD) : FVec Ideal S8192x2048 .f32 := m ((c.tc : Thread nD τ).loc main_arg5)
abbrev argG (c : Dev nD) : FVec Ideal S1x2048 .f32 := m ((c.tc : Thread nD τ).loc main_arg6)
abbrev argB (c : Dev nD) : FVec Ideal S1x2048 .f32 := m ((c.tc : Thread nD τ).loc main_arg7)

theorem conv_at (c : Dev nD) (R : Fin 8192) (j : Fin 1024) : (show FVec Ideal S8192x1024 .f32 from V m c main_arg0) (ix2 R j) = argY m c (ix2 R j) := by
  entry_read; rfl

theorem gates_at (c : Dev nD) (R : Fin 8192) (j : Fin 3072) : (show FVec Ideal S8192x3072 .bf16 from V m c main_arg1) (ix2 R j) = argZ m c (ix2 R j) := by
  entry_read; rfl

theorem att_at (c : Dev nD) (R : Fin 8192) (j : Fin 1024) : (show FVec Ideal S8192x1024 .bf16 from V m c main_arg2) (ix2 R j) = argA m c (ix2 R j) := by
  entry_read; rfl

theorem weight_at (c : Dev nD) (i k : Fin 2048) : (show FVec Ideal S2048x2048 .bf16 from V m c main_v1) (ix2 i k) = argW m c (ix3 0 i k) := by
  entry_read; pointwise

theorem ngain_at (c : Dev nD) (j : Fin 1024) : (show FVec Ideal S1x1024 .f32 from V m c main_v3) (ix2 0 j) = argN m c (ix2 0 j) := by
  entry_read; pointwise

theorem rows_at (c : Dev nD) (R : Fin 8192) (j : Fin 2048) : (show FVec Ideal S8192x2048 .f32 from V m c main_arg5) (ix2 R j) = argX m c (ix2 R j) := by
  entry_read; rfl

theorem gain_at (c : Dev nD) (k : Fin 2048) : (show FVec Ideal S1x2048 .f32 from V m c main_v5) (ix2 0 k) = argG m c (ix2 0 k) := by
  entry_read; pointwise

theorem bias_at (c : Dev nD) (k : Fin 2048) : (show FVec Ideal S1x2048 .f32 from V m c main_v7) (ix2 0 k) = argB m c (ix2 0 k) := by
  entry_read; pointwise

section
variable (c : Dev nD) (t : Fin cfg0.N) (r : Fin 512) (R : Fin 8192) (hR : R.val = t.val * 512 + r.val)
include hR

theorem blk0 (j : Fin 1024) : (show FVec Ideal S512x1024 .f32 from iblk m c 0 t) (ix2 r j) = argY m c (ix2 R j) := by
  refine Eq.trans ?_ (conv_at m c R j)
  blk_ext [iblk, idx t]

theorem blk1 (j : Fin 1024) : (show FVec Ideal S512x1024 .bf16 from iblk m c 1 t) (ix2 r j) = argZ m c (ix2 R ⟨2048 + j.val, by omega⟩) := by
  refine Eq.trans ?_ (gates_at m c R ⟨2048 + j.val, by omega⟩)
  blk_ext [iblk, idx t]

theorem blk2 (j : Fin 1024) : (show FVec Ideal S512x1024 .bf16 from iblk m c 2 t) (ix2 r j) = argA m c (ix2 R j) := by
  refine Eq.trans ?_ (att_at m c R j)
  blk_ext [iblk, idx t]

theorem blk6 (j : Fin 2048) : (show FVec Ideal S512x2048 .f32 from iblk m c 6 t) (ix2 r j) = argX m c (ix2 R j) := by
  refine Eq.trans ?_ (rows_at m c R j)
  blk_ext [iblk, idx t]
end

theorem blk3 (c : Dev nD) (t : Fin cfg0.N) (j : Fin 1024) (k : Fin 2048) :
    (show FVec Ideal S1024x2048 .bf16 from iblk m c 3 t) (ix2 j k) = argW m c (ix3 0 ⟨j.val, by omega⟩ k) := by
  refine Eq.trans ?_ (weight_at m c ⟨j.val, by omega⟩ k)
  blk_ext [iblk, idx t]

theorem blk4 (c : Dev nD) (t : Fin cfg0.N) (j : Fin 1024) (k : Fin 2048) :
    (show FVec Ideal S1024x2048 .bf16 from iblk m c 4 t) (ix2 j k) = argW m c (ix3 0 ⟨1024 + j.val, by omega⟩ k) := by
  refine Eq.trans ?_ (weight_at m c ⟨1024 + j.val, by omega⟩ k)
  blk_ext [iblk, idx t]

theorem blk5 (c : Dev nD) (t : Fin cfg0.N) (j : Fin 1024) : (show FVec Ideal S1x1024 .f32 from iblk m c 5 t) (ix2 0 j) = argN m c (ix2 0 j) := by
  refine Eq.trans ?_ (ngain_at m c j)
  blk_ext [iblk, idx t]

theorem blk7 (c : Dev nD) (t : Fin cfg0.N) (k : Fin 2048) : (show FVec Ideal S1x2048 .f32 from iblk m c 7 t) (ix2 0 k) = argG m c (ix2 0 k) := by
  refine Eq.trans ?_ (gain_at m c k)
  blk_ext [iblk, idx t]

theorem blk8 (c : Dev nD) (t : Fin cfg0.N) (k : Fin 2048) : (show FVec Ideal S1x2048 .f32 from iblk m c 8 t) (ix2 0 k) = argB m c (ix2 0 k) := by
  refine Eq.trans ?_ (bias_at m c k)
  blk_ext [iblk, idx t]

/-- The result array of the call. -/
def whole (c : Dev nD) : FVec Ideal S8192x2048 .f32 := fun i =>
  result (argY m c) (argZ m c) (argA m c) (argW m c) (argN m c) (argX m c) (argG m c) (argB m c) (i 0) (i 1)

/-- What a point stores, at an entry. -/
theorem stored_at (c : Dev nD) (t : Fin cfg0.N) (r : Fin 512) (k : Fin 2048) (R : Fin 8192) (hR : R.val = t.val * 512 + r.val) :
    k0_pay1 (F := Ideal) (k0_pay2 (F := Ideal) (iblk m c 0 t) (iblk m c 1 t) (iblk m c 5 t) (iblk m c 3 t) (iblk m c 2 t) (iblk m c 4 t) (iblk m c 6 t))
      (k0_pay3 (F := Ideal) (iblk m c 7 t)) (k0_pay4 (F := Ideal) (iblk m c 8 t)) (ix2 r k) = whole m c (ix2 R k) := by
  refine (pay1_at _ _ _ r k).trans ?_
  unfold whole result
  refine normed_congr (fun j => ?_) (blk7 m c t k) (blk8 m c t k)
  refine (pay2_at _ _ _ _ _ _ _ r j).trans ?_
  exact joined_congr (blk6 m c t r R hR j) (fun i => congrArg₂ (· * ·) (blk0 m c t r R hR i) (blk1 m c t r R hR i)) (blk5 m c t) (blk2 m c t r R hR)
    (fun i => blk3 m c t i j) (fun i => blk4 m c t i j)

theorem final (c : Dev nD) : (dats m 0 c).arrAt 9 (cfgs 0).N = whole m c := by
  refine (dats m 0 c).arrAt_eq_of_covers 9 _ (by decide +kernel) fun t hf y => ?_
  blk_simp
  rw [after0_9]
  frame_out
  have i9 := (idx t).2.2.2.2.2.2.2.2.2
  have hy0 : (y 0).val < 512 := (y 0).isLt
  refine Eq.trans ?_ ((stored_at m c t (y 0) (y 1) ⟨t.val * 512 + (y 0).val, by omega⟩ rfl).trans ?_)
  · exact congrArg _ (eq_ix2 y)
  · refine congrArg (whole m c) ?_
    blk_ext [idx t]

end Cert.OutIdeal.Blk

namespace Cert.Proof

open Idealize.ShloMosaic Idealize.ShloMosaic.TcCoe Idealize.SL.Sem

theorem out_frame_ideal : Cert.quiescent_OutIdeal := fun m ρ _ => Cert.OutIdeal.Gen.frame (F := Ideal) m ρ

/-- The two printed programs call one kernel body. -/
theorem out_bodies : Cert.Out.defs₀ (F := Bits) = Cert.OutIdeal.defs₀ (F := Bits) := by
  unfold Cert.Out.defs₀ Cert.OutIdeal.defs₀
  refine congrArg _ ?_
  funext l a
  match l, a with
  | 0, (t, s) => rfl
  | ⟨_ + 1, h⟩, _ => exact absurd h (Nat.not_lt.2 (Nat.le_add_left _ _))

theorem out_tables : Cert.Out.defs (F := Bits) = Cert.OutIdeal.defs (F := Bits) :=
  congrArg (Pipeline.defs Cert.OutIdeal.pcfgs) out_bodies

theorem out_frame : Cert.quiescent_Out := fun m ρ _ => by
  have h := Cert.OutIdeal.Gen.frame (F := Bits) m ρ
  rw [← out_tables] at h
  exact h

theorem out_frame_ref : Cert.quiescent_OutReferenceIdeal := fun m g _ =>
  (θ_run Cert.OutReferenceIdeal.defs _ _).mono
    (fun r h => ⟨fun c => (h c).2, Idealize.ShloMosaic.sem_eq_zero_of_no_sems (by decide) r.2⟩)
    (Cert.OutReferenceIdeal.Value.run m g)

theorem out_value : Cert.algebraic_OutIdeal_OutReferenceIdeal := by
  pair_intro
  · run_from Cert.OutIdeal.Value.run_blocks m g
  · run_from Cert.OutReferenceIdeal.Value.run m' g'
    rw [Cert.OutIdeal.Blk.final m c]
    funext i
    refine (congrArg _ (eq_ix2 i)).trans ((Cert.OutReferenceIdeal.Value.ref_at m' c (i 0) (i 1)).trans ?_)
    obtain ⟨h0, h1, h2, h3, h4, h5, h6, h7⟩ := hagree c
    unfold Cert.OutIdeal.Blk.whole
    dsimp only [Cert.OutIdeal.Blk.argY, Cert.OutIdeal.Blk.argZ, Cert.OutIdeal.Blk.argA, Cert.OutIdeal.Blk.argW, Cert.OutIdeal.Blk.argN, Cert.OutIdeal.Blk.argX, Cert.OutIdeal.Blk.argG, Cert.OutIdeal.Blk.argB]
    rw [h0, h1, h2, h3, h4, h5, h6, h7]

end Cert.Proof

end
-- ==== Proof.KeysPure.lean ====
module

public import proofs.«01_k».proof.Defs
public import proofs.«01_k».proof.Proof.Gen.KeysIdeal.Value
public import Idealize.ShloMosaic.Lib.Claim
public import Idealize.ShloMosaic.Lib.Pipeline.ValueKit

/-! What the key projection stores at one lane: the projected row, each head turned by tables of cosines and sines,
against the pairwise turn the model writes. -/

@[expose] public section

set_option maxRecDepth 16384

noncomputable section

namespace Cert.KeysIdeal.Blk

open Idealize.ShloMosaic Idealize.ShloMosaic.TcCoe Idealize.SL.Sem
open Idealize.ShloMosaic.Pipeline (Dat)
open Cert.KeysIdeal Cert.KeysIdeal.Gen

variable (m : (ℓ : Loc nD τ sig) → Buf (Elt Ideal) ℓ)

/-- The angle by which row `R` turns its pair `q`: the row's number times that pair's frequency. -/
def angV : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- A table of 128 lanes: two heads side by side, each of two groups of eight lanes and a rest, times one. -/
def tabV (a b : FVec Ideal S8192x8 .f32) (z : FVec Ideal S8192x48 .f32) : FVec Ideal S8192x128 .f32 :=
  mulf (concatenate S8192x128 1 [⟨S8192x8, a⟩, ⟨S8192x8, b⟩, ⟨S8192x48, z⟩, ⟨S8192x8, a⟩, ⟨S8192x8, b⟩, ⟨S8192x48, z⟩] concatenates_S8192x8_S8192x8_S8192x48_S8192x8_S8192x8_S8192x48_S8192x128_d1)
    (broadcastInDim S8192x128 ![] bcast_S_S8192x128 (constant S_ .f32 0x3F800000#32))

theorem tab_at (a b : FVec Ideal S8192x8 .f32) (z : FVec Ideal S8192x48 .f32) (R : Fin 8192) (l : Fin 128) :
    tabV a b z (ix2 R l) = if h : l.val % 64 < 8 then a (ix2 R ⟨l.val % 64, h⟩) else if h' : l.val % 64 < 16 then b (ix2 R ⟨l.val % 64 - 8, by omega⟩) else z (ix2 R ⟨l.val % 64 - 16, by omega⟩) := by
  pointwise [tabV]
  blk_point []
  all_goals (exfalso; omega)

def zeros8 : FVec Ideal S8192x8 .f32 := broadcastInDim S8192x8 ![] bcast_S_S8192x8 (constant S_ .f32 0x00000000#32)
def zeros48 : FVec Ideal S8192x48 .f32 := broadcastInDim S8192x48 ![] bcast_S_S8192x48 (constant S_ .f32 0x00000000#32)
def ones48 : FVec Ideal S8192x48 .f32 := broadcastInDim S8192x48 ![] bcast_S_S8192x48 (constant S_ .f32 0x3F800000#32)

theorem cos_at (R : Fin 8192) (q : Fin 8) : Host.cos angV (ix2 R q) = Ideal.cos (angV (ix2 R q)) := rfl
theorem sin_at (R : Fin 8192) (q : Fin 8) : Host.sin angV (ix2 R q) = Ideal.sin (angV (ix2 R q)) := rfl
theorem neg_sin_at (R : Fin 8192) (q : Fin 8) : Host.negf (Host.sin angV) (ix2 R q) = -Ideal.sin (angV (ix2 R q)) := rfl
theorem zeros8_at (R : Fin 8192) (q : Fin 8) : zeros8 (ix2 R q) = 0 := by pointwise [zeros8]
theorem zeros48_at (R : Fin 8192) (q : Fin 48) : zeros48 (ix2 R q) = 0 := by pointwise [zeros48]
theorem ones48_at (R : Fin 8192) (q : Fin 48) : ones48 (ix2 R q) = 1 := by pointwise [ones48]

/-- What the kernel stores at lane `k` of a row: three products of the projected row with the three tables. -/
def mixed (P : Fin 1024 → EReal) (c s s' : Fin 128 → EReal) (k : Fin 1024) : EReal :=
  P k * c ⟨k.val % 128, by omega⟩ + P ⟨k.val / 128 * 128 + (k.val % 128 + 8) % 128, by omega⟩ * s ⟨k.val % 128, by omega⟩
    + P ⟨k.val / 128 * 128 + (k.val % 128 + 120) % 128, by omega⟩ * s' ⟨k.val % 128, by omega⟩

/-- The projected row `P` of row number `R`, each head's first sixteen lanes turned, at lane `k`. -/
def turned (P : Fin 1024 → EReal) (R : Fin 8192) (k : Fin 1024) : EReal :=
  if h : k.val % 64 < 8 then
    P k * Ideal.cos (angV (ix2 R ⟨k.val % 64, h⟩)) + -P ⟨k.val + 8, by omega⟩ * Ideal.sin (angV (ix2 R ⟨k.val % 64, h⟩))
  else if h' : k.val % 64 < 16 then
    P k * Ideal.cos (angV (ix2 R ⟨k.val % 64 - 8, by omega⟩)) + P ⟨k.val - 8, by omega⟩ * Ideal.sin (angV (ix2 R ⟨k.val % 64 - 8, by omega⟩))
  else P k

theorem mixed_eq (P : Fin 1024 → EReal) (R : Fin 8192) (k : Fin 1024) :
    mixed P (fun l => tabV (Host.cos angV) (Host.cos angV) ones48 (ix2 R l)) (fun l => tabV (Host.negf (Host.sin angV)) zeros8 zeros48 (ix2 R l))
      (fun l => tabV zeros8 (Host.sin angV) zeros48 (ix2 R l)) k = turned P R k := by
  have e : k.val % 128 % 64 = k.val % 64 := by omega
  unfold mixed turned
  simp only [tab_at, e, cos_at, sin_at, neg_sin_at, zeros8_at, zeros48_at, ones48_at]
  by_cases h : k.val % 64 < 8
  · simp only [dif_pos h, mul_zero, add_zero]
    rw [mul_neg, neg_mul]
    refine congrArg (fun p => _ + -(P p * _)) (Fin.ext ?_)
    show k.val / 128 * 128 + (k.val % 128 + 8) % 128 = k.val + 8
    omega
  · by_cases h' : k.val % 64 < 16
    · simp only [dif_neg h, dif_pos h', mul_zero, add_zero]
      refine congrArg (fun p => _ + P p * _) (Fin.ext ?_)
      show k.val / 128 * 128 + (k.val % 128 + 120) % 128 = k.val - 8
      omega
    · simp only [dif_neg h, dif_neg h', mul_zero, add_zero, mul_one]

/-- A block of projected rows turned, element by element. -/
def storedV (T : FVec Ideal S1024x1024 .f32) (c s s' : FVec Ideal S1024x128 .f32) (y : S1024x1024.Idx) : EReal :=
  mixed (fun k => T (ix2 (y 0) k)) (fun l => c (ix2 (y 0) l)) (fun l => s (ix2 (y 0) l)) (fun l => s' (ix2 (y 0) l)) (y 1)

theorem piece0 (x : FVec Ideal S1024x2048 .bf16) (w : FVec Ideal S2048x1024 .bf16) (c s s' : FVec Ideal S1024x128 .f32) (j : S1024x128.Idx) :
    k0_pay8 (F := Ideal) x w c s s' j = storedV (k0_pay4 (F := Ideal) x w) c s s' (ix2 (j 0) ⟨0 + (j 1).val, by have h : (j 1).val < 128 := (j 1).isLt; omega⟩) := by
  idx_vars j
  unfold storedV mixed
  pointwise [k0_pay8, k0_pay5, k0_pay6, k0_pay7]
  blk_point []

theorem piece128 (x : FVec Ideal S1024x2048 .bf16) (w : FVec Ideal S2048x1024 .bf16) (c s s' : FVec Ideal S1024x128 .f32) (j : S1024x128.Idx) :
    k0_pay9 (F := Ideal) x w c s s' j = storedV (k0_pay4 (F := Ideal) x w) c s s' (ix2 (j 0) ⟨128 + (j 1).val, by have h : (j 1).val < 128 := (j 1).isLt; omega⟩) := by
  idx_vars j
  unfold storedV mixed
  pointwise [k0_pay9, k0_pay5, k0_pay6, k0_pay7]
  blk_point []

theorem piece256 (x : FVec Ideal S1024x2048 .bf16) (w : FVec Ideal S2048x1024 .bf16) (c s s' : FVec Ideal S1024x128 .f32) (j : S1024x128.Idx) :
    k0_pay11 (F := Ideal) (k0_pay5 c) (k0_pay6 s) (k0_pay7 s') (k0_pay10 x w) j = storedV (k0_pay4 (F := Ideal) x w) c s s' (ix2 (j 0) ⟨256 + (j 1).val, by have h : (j 1).val < 128 := (j 1).isLt; omega⟩) := by
  idx_vars j
  unfold storedV mixed
  pointwise [k0_pay11, k0_pay10, k0_pay5, k0_pay6, k0_pay7]
  blk_point []

theorem piece384 (T : FVec Ideal S1024x1024 .f32) (c s s' : FVec Ideal S1024x128 .f32) (j : S1024x128.Idx) :
    k0_pay12 (F := Ideal) T (k0_pay5 c) (k0_pay6 s) (k0_pay7 s') j = storedV T c s s' (ix2 (j 0) ⟨384 + (j 1).val, by have h : (j 1).val < 128 := (j 1).isLt; omega⟩) := by
  idx_vars j
  unfold storedV mixed
  pointwise [k0_pay12, k0_pay5, k0_pay6, k0_pay7]
  blk_point []

theorem piece512 (T : FVec Ideal S1024x1024 .f32) (c s s' : FVec Ideal S1024x128 .f32) (j : S1024x128.Idx) :
    k0_pay13 (F := Ideal) T (k0_pay5 c) (k0_pay6 s) (k0_pay7 s') j = storedV T c s s' (ix2 (j 0) ⟨512 + (j 1).val, by have h : (j 1).val < 128 := (j 1).isLt; omega⟩) := by
  idx_vars j
  unfold storedV mixed
  pointwise [k0_pay13, k0_pay5, k0_pay6, k0_pay7]
  blk_point []

theorem piece640 (T : FVec Ideal S1024x1024 .f32) (c s s' : FVec Ideal S1024x128 .f32) (j : S1024x128.Idx) :
    k0_pay14 (F := Ideal) T (k0_pay5 c) (k0_pay6 s) (k0_pay7 s') j = storedV T c s s' (ix2 (j 0) ⟨640 + (j 1).val, by have h : (j 1).val < 128 := (j 1).isLt; omega⟩) := by
  idx_vars j
  unfold storedV mixed
  pointwise [k0_pay14, k0_pay5, k0_pay6, k0_pay7]
  blk_point []

theorem piece768 (T : FVec Ideal S1024x1024 .f32) (c s s' : FVec Ideal S1024x128 .f32) (j : S1024x128.Idx) :
    k0_pay1 (F := Ideal) (k0_pay5 c) (k0_pay6 s) (k0_pay7 s') (k0_pay15 T) j = storedV T c s s' (ix2 (j 0) ⟨768 + (j 1).val, by have h : (j 1).val < 128 := (j 1).isLt; omega⟩) := by
  idx_vars j
  unfold storedV mixed
  pointwise [k0_pay1, k0_pay15, k0_pay5, k0_pay6, k0_pay7]
  blk_point []

theorem piece896 (T : FVec Ideal S1024x1024 .f32) (c s s' : FVec Ideal S1024x128 .f32) (j : S1024x128.Idx) :
    k0_pay2 (F := Ideal) T (k0_pay5 c) (k0_pay6 s) (k0_pay7 s') j = storedV T c s s' (ix2 (j 0) ⟨896 + (j 1).val, by have h : (j 1).val < 128 := (j 1).isLt; omega⟩) := by
  idx_vars j
  unfold storedV mixed
  pointwise [k0_pay2, k0_pay5, k0_pay6, k0_pay7]
  blk_point []

theorem pay4_at (x : FVec Ideal S1024x2048 .bf16) (w : FVec Ideal S2048x1024 .bf16) (r k : Fin 1024) :
    k0_pay4 (F := Ideal) (k0_pay3 (F := Ideal) x) w (ix2 r k) = ∑ j : Fin 2048, x (ix2 r j) * w (ix2 j k) := by
  pointwise [k0_pay4, k0_pay3]

end Cert.KeysIdeal.Blk

end
-- ==== Proof.KeysTables.lean ====
module

public import proofs.«01_k».proof.Defs
public import proofs.«01_k».proof.Proof.Gen.KeysIdeal.Value
public import proofs.«01_k».proof.Proof.KeysPure
public import Idealize.ShloMosaic.Lib.Claim
public import Idealize.ShloMosaic.Lib.Pipeline.ValueKit

/-! The three tables the key projection reads, as the host operations before the call leave them. -/

@[expose] public section

set_option maxRecDepth 16384

noncomputable section

namespace Cert.KeysIdeal.Blk

open Idealize.ShloMosaic Idealize.ShloMosaic.TcCoe Idealize.SL.Sem
open Idealize.ShloMosaic.Pipeline (Dat)
open Cert.KeysIdeal Cert.KeysIdeal.Gen

variable (m : (ℓ : Loc nD τ sig) → Buf (Elt Ideal) ℓ)

theorem after_append (l k : List (HloOp τ sig (Elt Ideal))) (G : Valuation τ sig (Elt Ideal)) :
    StableHlo.after (l ++ k) G = StableHlo.after k (StableHlo.after l G) := by
  induction l generalizing G with
  | nil => rfl
  | cons _ _ ih => exact ih _

/-- The arrays after the host operations up to the tables' parts. -/
def parts (c : Dev nD) : Valuation τ sig (Elt Ideal) := StableHlo.after (List.take 31 hostOps0) (fun b => m (c, b))

theorem V_parts (c : Dev nD) (b : Ref sig .tc) : V m c b = StableHlo.after (List.drop 31 hostOps0) (parts m c) b := by
  unfold parts V
  rw [← after_append, List.take_append_drop]

theorem parts_cos (c : Dev nD) : (show FVec Ideal S8192x8 .f32 from parts m c main_v19) = Host.cos angV := by
  unfold parts
  simp only [hostOps0, List.take_succ_cons, List.take_zero]
  entry_read
  rfl

theorem parts_sin (c : Dev nD) : (show FVec Ideal S8192x8 .f32 from parts m c main_v20) = Host.sin angV := by
  unfold parts
  simp only [hostOps0, List.take_succ_cons, List.take_zero]
  entry_read
  rfl

theorem parts_ones (c : Dev nD) : (show FVec Ideal S8192x48 .f32 from parts m c main_v21) = ones48 := by
  unfold parts
  simp only [hostOps0, List.take_succ_cons, List.take_zero]
  entry_read
  rfl

theorem parts_zeros (c : Dev nD) : (show FVec Ideal S8192x48 .f32 from parts m c main_v22) = zeros48 := by
  unfold parts
  simp only [hostOps0, List.take_succ_cons, List.take_zero]
  entry_read
  rfl

theorem parts_zeros8 (c : Dev nD) : (show FVec Ideal S8192x8 .f32 from parts m c main_v23) = zeros8 := by
  unfold parts
  simp only [hostOps0, List.take_succ_cons, List.take_zero]
  entry_read
  rfl

theorem tab_cos (G : Valuation τ sig (Elt Ideal)) : (show FVec Ideal S8192x128 .f32 from StableHlo.after (List.drop 31 hostOps0) G main_v26) = tabV (G main_v19) (G main_v19) (G main_v21) := by
  simp only [hostOps0, List.drop_succ_cons, List.drop_zero]
  entry_read
  rfl

/-- A buffer at the call, read past the first `31 + n` host operations. -/
theorem V_past (n : ℕ) (c : Dev nD) (b : Ref sig .tc) : V m c b = StableHlo.after (List.drop (31 + n) hostOps0) (StableHlo.after (List.take n (List.drop 31 hostOps0)) (parts m c)) b := by
  rw [V_parts, ← List.drop_drop, ← after_append, List.take_append_drop]

theorem kept5_neg (G : Valuation τ sig (Elt Ideal)) : (show FVec Ideal S8192x8 .f32 from StableHlo.after (List.take 5 (List.drop 31 hostOps0)) G main_v27) = Host.negf (G main_v20) := by
  simp only [hostOps0, List.drop_succ_cons, List.drop_zero, List.take_succ_cons, List.take_zero]
  entry_read
  rfl

theorem kept5_zeros (G : Valuation τ sig (Elt Ideal)) : StableHlo.after (List.take 5 (List.drop 31 hostOps0)) G main_v22 = G main_v22 := by
  simp only [hostOps0, List.drop_succ_cons, List.drop_zero, List.take_succ_cons, List.take_zero]
  entry_read
  rfl

theorem kept5_zeros8 (G : Valuation τ sig (Elt Ideal)) : StableHlo.after (List.take 5 (List.drop 31 hostOps0)) G main_v23 = G main_v23 := by
  simp only [hostOps0, List.drop_succ_cons, List.drop_zero, List.take_succ_cons, List.take_zero]
  entry_read
  rfl

theorem kept9_sin (G : Valuation τ sig (Elt Ideal)) : StableHlo.after (List.take 9 (List.drop 31 hostOps0)) G main_v20 = G main_v20 := by
  simp only [hostOps0, List.drop_succ_cons, List.drop_zero, List.take_succ_cons, List.take_zero]
  entry_read
  rfl

theorem kept9_zeros (G : Valuation τ sig (Elt Ideal)) : StableHlo.after (List.take 9 (List.drop 31 hostOps0)) G main_v22 = G main_v22 := by
  simp only [hostOps0, List.drop_succ_cons, List.drop_zero, List.take_succ_cons, List.take_zero]
  entry_read
  rfl

theorem kept9_zeros8 (G : Valuation τ sig (Elt Ideal)) : StableHlo.after (List.take 9 (List.drop 31 hostOps0)) G main_v23 = G main_v23 := by
  simp only [hostOps0, List.drop_succ_cons, List.drop_zero, List.take_succ_cons, List.take_zero]
  entry_read
  rfl

theorem tab_sin (G : Valuation τ sig (Elt Ideal)) : (show FVec Ideal S8192x128 .f32 from StableHlo.after (List.drop 36 hostOps0) G main_v30) = tabV (G main_v27) (G main_v23) (G main_v22) := by
  simp only [hostOps0, List.drop_succ_cons, List.drop_zero]
  entry_read
  rfl

theorem tab_sin' (G : Valuation τ sig (Elt Ideal)) : (show FVec Ideal S8192x128 .f32 from StableHlo.after (List.drop 40 hostOps0) G main_v33) = tabV (G main_v23) (G main_v20) (G main_v22) := by
  simp only [hostOps0, List.drop_succ_cons, List.drop_zero]
  entry_read
  rfl

theorem table_cos (c : Dev nD) : (show FVec Ideal S8192x128 .f32 from V m c main_v26) = tabV (Host.cos angV) (Host.cos angV) ones48 := by
  refine (V_parts m c main_v26).trans ((tab_cos (parts m c)).trans ?_)
  exact congr (congrArg (fun a : FVec Ideal S8192x8 .f32 => tabV a a) (parts_cos m c)) (parts_ones m c)

theorem table_sin (c : Dev nD) : (show FVec Ideal S8192x128 .f32 from V m c main_v30) = tabV (Host.negf (Host.sin angV)) zeros8 zeros48 := by
  refine (V_past m 5 c main_v30).trans ((tab_sin _).trans ?_)
  exact congr (congr (congrArg tabV ((kept5_neg (parts m c)).trans (congrArg (fun a : FVec Ideal S8192x8 .f32 => Host.negf a) (parts_sin m c)))) ((kept5_zeros8 (parts m c)).trans (parts_zeros8 m c))) ((kept5_zeros (parts m c)).trans (parts_zeros m c))

theorem table_sin' (c : Dev nD) : (show FVec Ideal S8192x128 .f32 from V m c main_v33) = tabV zeros8 (Host.sin angV) zeros48 := by
  refine (V_past m 9 c main_v33).trans ((tab_sin' _).trans ?_)
  exact congr (congr (congrArg tabV ((kept9_zeros8 (parts m c)).trans (parts_zeros8 m c))) ((kept9_sin (parts m c)).trans (parts_sin m c))) ((kept9_zeros (parts m c)).trans (parts_zeros m c))

end Cert.KeysIdeal.Blk

end
-- ==== Proof.KeysClaims.lean ====
module

public import proofs.«01_k».proof.Defs
public import proofs.«01_k».proof.Proof.Gen.Keys
public import proofs.«01_k».proof.Proof.Gen.KeysIdeal.Value
public import proofs.«01_k».proof.Proof.Gen.KeysReferenceIdeal.Run
public import proofs.«01_k».proof.Proof.KeysTables
public import Idealize.ShloMosaic.Lib.Claim
public import Idealize.ShloMosaic.Lib.Pipeline.ValueKit

/-! The five claims about the key projection: every point multiplies a block of rows by the weights' key columns and turns
each head's first sixteen lanes. -/

@[expose] public section

set_option maxRecDepth 16384

noncomputable section

namespace Cert.KeysIdeal.Blk

open Idealize.ShloMosaic Idealize.ShloMosaic.TcCoe Idealize.SL.Sem
open Idealize.ShloMosaic.Pipeline (Dat)
open Cert.KeysIdeal Cert.KeysIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ t.val < 8 :=
  (by decide +kernel : ∀ t : Fin grid0.N, _)

abbrev argX (c : Dev nD) : FVec Ideal S8192x2048 .bf16 := m ((c.tc : Thread nD τ).loc main_arg0)
abbrev argW (c : Dev nD) : FVec Ideal S1x2048x6144 .f32 := m ((c.tc : Thread nD τ).loc main_arg1)

theorem rows_at (c : Dev nD) (R : Fin 8192) (j : Fin 2048) : (show FVec Ideal S8192x2048 .bf16 from V m c main_arg0) (ix2 R j) = argX m c (ix2 R j) :=
  congrFun (V_main_arg0 m c) (ix2 R j)

theorem weight_whole (c : Dev nD) : (show FVec Ideal S2048x1024 .bf16 from V m c main_v2) = truncf .bf16 (extractStridedSlice S2048x1024 ![0, 4096] (shapeCast S2048x6144 (argW m c) shapeCasts_S1x2048x6144_S2048x6144) slices_S2048x6144_S2048x1024_0_4096) bitsLt_bf16_f32 := by
  entry_read; rfl

theorem weight_at (c : Dev nD) (j : Fin 2048) (k : Fin 1024) : (show FVec Ideal S2048x1024 .bf16 from V m c main_v2) (ix2 j k) = argW m c (ix3 0 j ⟨4096 + k.val, by omega⟩) := by
  rw [weight_whole]; pointwise

theorem blk0 (c : Dev nD) (t : Fin cfg0.N) (r : Fin 1024) (j : Fin 2048) (R : Fin 8192) (hR : R.val = t.val * 1024 + r.val) :
    (show FVec Ideal S1024x2048 .bf16 from iblk m c 0 t) (ix2 r j) = argX m c (ix2 R j) := by
  refine Eq.trans ?_ (rows_at m c R j)
  blk_ext [iblk, idx t]

theorem blk1 (c : Dev nD) (t : Fin cfg0.N) (j : Fin 2048) (k : Fin 1024) :
    (show FVec Ideal S2048x1024 .bf16 from iblk m c 1 t) (ix2 j k) = argW m c (ix3 0 j ⟨4096 + k.val, by omega⟩) := by
  refine Eq.trans ?_ (weight_at m c j k)
  blk_ext [iblk, idx t]

theorem blk2 (c : Dev nD) (t : Fin cfg0.N) (r : Fin 1024) (l : Fin 128) (R : Fin 8192) (hR : R.val = t.val * 1024 + r.val) :
    (show FVec Ideal S1024x128 .f32 from iblk m c 2 t) (ix2 r l) = tabV (Host.cos angV) (Host.cos angV) ones48 (ix2 R l) := by
  refine Eq.trans ?_ (congrFun (table_cos m c) (ix2 R l))
  blk_ext [iblk, idx t]

theorem blk3 (c : Dev nD) (t : Fin cfg0.N) (r : Fin 1024) (l : Fin 128) (R : Fin 8192) (hR : R.val = t.val * 1024 + r.val) :
    (show FVec Ideal S1024x128 .f32 from iblk m c 3 t) (ix2 r l) = tabV (Host.negf (Host.sin angV)) zeros8 zeros48 (ix2 R l) := by
  refine Eq.trans ?_ (congrFun (table_sin m c) (ix2 R l))
  blk_ext [iblk, idx t]

theorem blk4 (c : Dev nD) (t : Fin cfg0.N) (r : Fin 1024) (l : Fin 128) (R : Fin 8192) (hR : R.val = t.val * 1024 + r.val) :
    (show FVec Ideal S1024x128 .f32 from iblk m c 4 t) (ix2 r l) = tabV zeros8 (Host.sin angV) zeros48 (ix2 R l) := by
  refine Eq.trans ?_ (congrFun (table_sin' m c) (ix2 R l))
  blk_ext [iblk, idx t]

/-- The eight stores of a point fill its block. -/
theorem stored_at (c : Dev nD) (t : Fin cfg0.N) (y : S1024x1024.Idx) : outsAt0 m c t y =
    storedV (k0_pay4 (F := Ideal) (k0_pay3 (F := Ideal) (iblk m c 0 t)) (iblk m c 1 t)) (iblk m c 2 t) (iblk m c 3 t) (iblk m c 4 t) y := by
  unfold outsAt0
  frame_out
  generalize k0_pay3 (F := Ideal) (iblk m c 0 t) = X
  canon_tiles x h
  · exact (piece896 _ _ _ _ x).trans (congrArg _ (by blk_ext))
  · exact (piece768 _ _ _ _ x).trans (congrArg _ (by blk_ext))
  · exact (piece640 _ _ _ _ x).trans (congrArg _ (by blk_ext))
  · exact (piece512 _ _ _ _ x).trans (congrArg _ (by blk_ext))
  · exact (piece384 _ _ _ _ x).trans (congrArg _ (by blk_ext))
  · exact (piece256 _ _ _ _ _ x).trans (congrArg _ (by blk_ext))
  · exact (piece128 _ _ _ _ _ x).trans (congrArg _ (by blk_ext))
  · exact (piece0 _ _ _ _ _ x).trans (congrArg _ (by blk_ext))

/-- Row `R`'s projection onto key column `k`. -/
def projected (X : FVec Ideal S8192x2048 .bf16) (W : FVec Ideal S1x2048x6144 .f32) (R : Fin 8192) (k : Fin 1024) : EReal :=
  ∑ j : Fin 2048, X (ix2 R j) * W (ix3 0 j ⟨4096 + k.val, by omega⟩)

/-- The result array of the call. -/
def whole (c : Dev nD) : FVec Ideal S8192x1024 .bf16 := fun i => turned (projected (argX m c) (argW m c) (i 0)) (i 0) (i 1)

theorem point_at (c : Dev nD) (t : Fin cfg0.N) (r k : Fin 1024) (R : Fin 8192) (hR : R.val = t.val * 1024 + r.val) :
    outsAt0 m c t (ix2 r k) = whole m c (ix2 R k) := by
  refine (stored_at m c t (ix2 r k)).trans (Eq.trans ?_ (mixed_eq (projected (argX m c) (argW m c) R) R k))
  have e0 : (fun k => k0_pay4 (F := Ideal) (k0_pay3 (F := Ideal) (iblk m c 0 t)) (iblk m c 1 t) (ix2 r k)) = projected (argX m c) (argW m c) R :=
    funext fun k => (pay4_at _ _ r k).trans (Finset.sum_congr rfl fun j _ => congrArg₂ (· * ·) (blk0 m c t r j R hR) (blk1 m c t j k))
  have e2 := funext fun l => blk2 m c t r l R hR
  have e3 := funext fun l => blk3 m c t r l R hR
  have e4 := funext fun l => blk4 m c t r l R hR
  exact congrFun (congr (congr (congr (congrArg mixed e0) e2) e3) e4) k

theorem final (c : Dev nD) : (dats m 0 c).arrAt 5 (cfgs 0).N = whole m c := by
  refine (dats m 0 c).arrAt_eq_of_covers 5 _ (by decide +kernel) fun t hf y => ?_
  blk_simp
  rw [after0_5]
  have i8 := (idx t).2.2.2.2.2.2
  have hy0 : (y 0).val < 1024 := (y 0).isLt
  refine Eq.trans ?_ ((point_at m c t (y 0) (y 1) ⟨t.val * 1024 + (y 0).val, by omega⟩ rfl).trans ?_)
  · exact congrArg _ (eq_ix2 y)
  · refine congrArg (whole m c) ?_
    blk_ext [idx t]

end Cert.KeysIdeal.Blk

namespace Cert.KeysReferenceIdeal.Value

open Idealize.ShloMosaic Idealize.ShloMosaic.TcCoe Idealize.SL.Sem
open Cert.KeysReferenceIdeal Cert.KeysReferenceIdeal.Gen

/-- The reference's projection onto the key columns. -/
def rowsV (X : FVec Ideal S8192x2048 .bf16) (W : FVec Ideal S1x2048x6144 .f32) : FVec Ideal S8192x1024 .f32 :=
  extractStridedSlice S8192x1024 ![0, 4096] (Host.dotGeneral dot_S8192x2048_S2048x6144_S8192x6144_1_0_0_1_n_n none (extf .f32 X bitsLt_bf16_f32) (shapeCast _ W shapeCasts_S1x2048x6144_S2048x6144)) slices_S8192x6144_S8192x1024_0_4096

/-- A head's first sixteen lanes. -/
def headV (p : FVec Ideal S8192x1024 .f32) : FVec Ideal S8192x8x2x16 .f32 :=
  extractStridedSlice S8192x8x2x16 ![0, 0, 0, 0] (shapeCast _ p shapeCasts_S8192x1024_S8192x8x2x64) slices_S8192x8x2x64_S8192x8x2x16_0_0_0_0

/-- A table of eight lanes, twice, over the heads. -/
def overV (a : FVec Ideal S8192x8 .f32) : FVec Ideal S8192x8x2x16 .f32 :=
  broadcastInDim S8192x8x2x16 ![0, 1, 2, 3] bcast_S8192x1x1x16_S8192x8x2x16_0_1_2_3 (broadcastInDim S8192x1x1x16 ![0, 3] bcast_S8192x16_S8192x1x1x16_0_3 (concatenate S8192x16 1 [⟨S8192x8, a⟩, ⟨S8192x8, a⟩] concatenates_S8192x8_S8192x8_S8192x16_d1))

/-- The reference's turned keys, of the projection `p` and the angles' cosines and sines. -/
def turnV (p : FVec Ideal S8192x1024 .f32) (a b : FVec Ideal S8192x8 .f32) : FVec Ideal S8192x1024 .bf16 :=
  truncf .bf16 (shapeCast _ (concatenate S8192x8x2x64 3 [⟨S8192x8x2x16, addf (mulf (headV p) (overV a))
      (mulf (concatenate S8192x8x2x16 3 [⟨S8192x8x2x8, Host.negf (extractStridedSlice S8192x8x2x8 ![0, 0, 0, 8] (headV p) slices_S8192x8x2x16_S8192x8x2x8_0_0_0_8)⟩, ⟨S8192x8x2x8, extractStridedSlice S8192x8x2x8 ![0, 0, 0, 0] (headV p) slices_S8192x8x2x16_S8192x8x2x8_0_0_0_0⟩] concatenates_S8192x8x2x8_S8192x8x2x8_S8192x8x2x16_d3) (overV b))⟩,
    ⟨S8192x8x2x48, extractStridedSlice S8192x8x2x48 ![0, 0, 0, 16] (shapeCast _ p shapeCasts_S8192x1024_S8192x8x2x64) slices_S8192x8x2x64_S8192x8x2x48_0_0_0_16⟩] concatenates_S8192x8x2x16_S8192x8x2x48_S8192x8x2x64_d3) shapeCasts_S8192x8x2x64_S8192x1024) bitsLt_bf16_f32

theorem res_eq (m : (ℓ : Loc nD τ sig) → Buf (Elt Ideal) ℓ) (c : Dev nD) : res_out0 m c =
    turnV (rowsV (m ((c.tc : Thread nD τ).loc main_arg0)) (m ((c.tc : Thread nD τ).loc main_arg1))) (Host.cos Cert.KeysIdeal.Blk.angV) (Host.sin Cert.KeysIdeal.Blk.angV) := rfl

theorem rows_at (X : FVec Ideal S8192x2048 .bf16) (W : FVec Ideal S1x2048x6144 .f32) (R : Fin 8192) (k : Fin 1024) :
    rowsV X W (ix2 R k) = Cert.KeysIdeal.Blk.projected X W R k := by
  pointwise [rowsV, Cert.KeysIdeal.Blk.projected]

theorem turn_at (p : FVec Ideal S8192x1024 .f32) (a b : FVec Ideal S8192x8 .f32) (R : Fin 8192) (k : Fin 1024) :
    turnV p a b (ix2 R k) = if h : k.val % 64 < 8 then p (ix2 R k) * a (ix2 R ⟨k.val % 64, h⟩) + -p (ix2 R ⟨k.val + 8, by omega⟩) * b (ix2 R ⟨k.val % 64, h⟩)
      else if h' : k.val % 64 < 16 then p (ix2 R k) * a (ix2 R ⟨k.val % 64 - 8, by omega⟩) + p (ix2 R ⟨k.val - 8, by omega⟩) * b (ix2 R ⟨k.val % 64 - 8, by omega⟩)
      else p (ix2 R k) := by
  pointwise [turnV, headV, overV]
  by_cases h : k.val % 64 < 8
  · have h16 : k.val % 64 < 16 := by omega
    simp only [dif_pos h, dif_pos h16]
    blk_point []
  · by_cases h16 : k.val % 64 < 16
    · simp only [dif_neg h, dif_pos h16]
      blk_point []
    · simp only [dif_neg h, dif_neg h16]
      blk_point []

theorem keys_at (X : FVec Ideal S8192x2048 .bf16) (W : FVec Ideal S1x2048x6144 .f32) (R : Fin 8192) (k : Fin 1024) :
    turnV (rowsV X W) (Host.cos Cert.KeysIdeal.Blk.angV) (Host.sin Cert.KeysIdeal.Blk.angV) (ix2 R k) = Cert.KeysIdeal.Blk.turned (Cert.KeysIdeal.Blk.projected X W R) R k := by
  refine (turn_at _ _ _ R k).trans ?_
  simp only [rows_at]
  rfl

end Cert.KeysReferenceIdeal.Value

namespace Cert.Proof

open Idealize.ShloMosaic Idealize.ShloMosaic.TcCoe Idealize.SL.Sem

theorem keys_frame_ideal : Cert.quiescent_KeysIdeal := fun m ρ _ => Cert.KeysIdeal.Gen.frame (F := Ideal) m ρ

/-- The two printed programs call one kernel body. -/
theorem keys_bodies : Cert.Keys.defs₀ (F := Bits) = Cert.KeysIdeal.defs₀ (F := Bits) := by
  unfold Cert.Keys.defs₀ Cert.KeysIdeal.defs₀
  refine congrArg _ ?_
  funext l a
  match l, a with
  | 0, (t, s) => rfl
  | ⟨_ + 1, h⟩, _ => exact absurd h (Nat.not_lt.2 (Nat.le_add_left _ _))

theorem keys_tables : Cert.Keys.defs (F := Bits) = Cert.KeysIdeal.defs (F := Bits) :=
  congrArg (Pipeline.defs Cert.KeysIdeal.pcfgs) keys_bodies

set_option maxHeartbeats 1600000 in
theorem keys_frame : Cert.quiescent_Keys := fun m ρ _ => by
  have h := Cert.KeysIdeal.Gen.frame (F := Bits) m ρ
  rw [← keys_tables] at h
  exact h

theorem keys_frame_ref : Cert.quiescent_KeysReferenceIdeal := fun m g _ =>
  (θ_run Cert.KeysReferenceIdeal.defs _ _).mono
    (fun r h => ⟨fun c => (h c).2, Idealize.ShloMosaic.sem_eq_zero_of_no_sems (by decide) r.2⟩)
    (Cert.KeysReferenceIdeal.Value.run m g)

theorem keys_value : Cert.algebraic_KeysIdeal_KeysReferenceIdeal := by
  pair_intro
  · run_from Cert.KeysIdeal.Value.run_blocks m g
  · run_from Cert.KeysReferenceIdeal.Value.run m' g'
    rw [Cert.KeysIdeal.Blk.final m c]
    funext i
    have e := Cert.KeysReferenceIdeal.Value.res_eq m' c
    rw [(hagree c).1, (hagree c).2] at e
    refine (congrFun e i).trans ?_
    exact (congrArg _ (eq_ix2 i)).trans (Cert.KeysReferenceIdeal.Value.keys_at _ _ (i 0) (i 1))

end Cert.Proof

end
-- ==== Proof.QueriesPure.lean ====
module

public import proofs.«01_k».proof.Defs
public import proofs.«01_k».proof.Proof.Gen.QueriesIdeal.Value
public import proofs.«01_k».proof.Proof.AttRef
public import proofs.«01_k».proof.Proof.KeysPure
public import Idealize.ShloMosaic.Lib.Claim
public import Idealize.ShloMosaic.Lib.Pipeline.ValueKit

/-! What the query projection stores at one lane: a row's projection turned as the keys' is, by tables that carry the queries'
scale, and stored turned on its side. -/

@[expose] public section

set_option maxRecDepth 16384

noncomputable section

namespace Cert.QueriesIdeal.Blk

open Idealize.ShloMosaic Idealize.ShloMosaic.TcCoe Idealize.SL.Sem
open Idealize.ShloMosaic.Pipeline (Dat)
open Cert.QueriesIdeal Cert.QueriesIdeal.Gen
open Cert.KeysIdeal.Blk (angV zeros8 zeros48 ones48 turned)

/-- The queries' scale, an eighth of log2(e). -/
def scale : EReal := Ideal.ofBits .f32 0x3E38AA3B#32

theorem scale_real : scale = ((12102203 / 67108864 : ℝ) : EReal) := by
  unfold scale; simp [Ideal.ofBits, Ideal.ieee, -EReal.coe_mul]; norm_num

theorem eighth_real : Ideal.ofBits .f32 0x3E000000#32 = ((1 / 8 : ℝ) : EReal) := by
  simp [Ideal.ofBits, Ideal.ieee, -EReal.coe_mul]; norm_num

theorem log2e_real : Ideal.ofBits .f32 0x3FB8AA3B#32 = ((12102203 / 8388608 : ℝ) : EReal) := by
  simp [Ideal.ofBits, Ideal.ieee, -EReal.coe_mul]; norm_num

theorem scale_eq : Ideal.ofBits .f32 0x3E000000#32 * Ideal.ofBits .f32 0x3FB8AA3B#32 = scale := by
  rw [scale_real, eighth_real, log2e_real, ← EReal.coe_mul]; norm_num

/-- The scale, finite and positive, goes through a sum. -/
theorem scale_add (x y : EReal) : (x + y) * scale = x * scale + y * scale := by
  rw [scale_real]
  exact EReal.right_distrib_of_nonneg_of_ne_top (EReal.coe_nonneg.2 (by norm_num)) (EReal.coe_ne_top _) x y

/-- The keys' table of 128 lanes by rows, times the scale and turned on its side. -/
def tabV (a b : FVec Ideal S8192x8 .f32) (z : FVec Ideal S8192x48 .f32) : FVec Ideal S128x8192 .f32 :=
  transpose S128x8192 [1, 0] (mulf (concatenate S8192x128 1 [⟨S8192x8, a⟩, ⟨S8192x8, b⟩, ⟨S8192x48, z⟩, ⟨S8192x8, a⟩, ⟨S8192x8, b⟩, ⟨S8192x48, z⟩] concatenates_S8192x8_S8192x8_S8192x48_S8192x8_S8192x8_S8192x48_S8192x128_d1)
    (broadcastInDim S8192x128 ![] bcast_S_S8192x128 (constant S_ .f32 0x3E38AA3B#32))) transposes_S8192x128_S128x8192_1_0

theorem turned_side (X : FVec Ideal S8192x128 .f32) (l : Fin 128) (R : Fin 8192) :
    transpose S128x8192 [1, 0] X transposes_S8192x128_S128x8192_1_0 (ix2 l R) = X (ix2 R l) := by
  pointwise

theorem tab_at (a b : FVec Ideal S8192x8 .f32) (z : FVec Ideal S8192x48 .f32) (R : Fin 8192) (l : Fin 128) :
    tabV a b z (ix2 l R) = Cert.KeysIdeal.Blk.tabV a b z (ix2 R l) * scale := by
  have e : Cert.KeysIdeal.Blk.tabV a b z (ix2 R l) = concatenate S8192x128 1 [⟨S8192x8, a⟩, ⟨S8192x8, b⟩, ⟨S8192x48, z⟩, ⟨S8192x8, a⟩, ⟨S8192x8, b⟩, ⟨S8192x48, z⟩] concatenates_S8192x8_S8192x8_S8192x48_S8192x8_S8192x8_S8192x48_S8192x128_d1 (ix2 R l) :=
    (congrArg (_ * ·) Ideal.ofBits_one_f32).trans (mul_one _)
  rw [e]
  exact (turned_side _ l R).trans rfl

/-- What the kernel stores at lane `l` of the 512 of a block. -/
def mixed (P : Fin 512 → EReal) (c s s' : Fin 128 → EReal) (l : Fin 512) : EReal :=
  P l * c ⟨l.val % 128, by omega⟩ + P ⟨l.val / 128 * 128 + (l.val % 128 + 8) % 128, by omega⟩ * s ⟨l.val % 128, by omega⟩
    + P ⟨l.val / 128 * 128 + (l.val % 128 + 120) % 128, by omega⟩ * s' ⟨l.val % 128, by omega⟩

theorem mixed_eq (P : Fin 1024 → EReal) (b : Fin 2) (R : Fin 8192) (l : Fin 512) (k : Fin 1024) (hk : k.val = b.val * 512 + l.val) :
    mixed (fun l => P ⟨b.val * 512 + l.val, by omega⟩) (fun l => tabV (Host.cos angV) (Host.cos angV) ones48 (ix2 l R)) (fun l => tabV (Host.negf (Host.sin angV)) zeros8 zeros48 (ix2 l R))
      (fun l => tabV zeros8 (Host.sin angV) zeros48 (ix2 l R)) l = turned P R k * scale := by
  rw [← Cert.KeysIdeal.Blk.mixed_eq]
  unfold mixed Cert.KeysIdeal.Blk.mixed
  simp only [tab_at, scale_add, mul_assoc]
  have e0 : (⟨b.val * 512 + l.val, by omega⟩ : Fin 1024) = k := Fin.ext hk.symm
  have e1 : (⟨l.val % 128, by omega⟩ : Fin 128) = ⟨k.val % 128, by omega⟩ := Fin.ext (by show l.val % 128 = k.val % 128; omega)
  have e2 : (⟨b.val * 512 + (l.val / 128 * 128 + (l.val % 128 + 8) % 128), by omega⟩ : Fin 1024) = ⟨k.val / 128 * 128 + (k.val % 128 + 8) % 128, by omega⟩ :=
    Fin.ext (by show b.val * 512 + (l.val / 128 * 128 + (l.val % 128 + 8) % 128) = k.val / 128 * 128 + (k.val % 128 + 8) % 128; omega)
  have e3 : (⟨b.val * 512 + (l.val / 128 * 128 + (l.val % 128 + 120) % 128), by omega⟩ : Fin 1024) = ⟨k.val / 128 * 128 + (k.val % 128 + 120) % 128, by omega⟩ :=
    Fin.ext (by show b.val * 512 + (l.val / 128 * 128 + (l.val % 128 + 120) % 128) = k.val / 128 * 128 + (k.val % 128 + 120) % 128; omega)
  rw [e0, e1, e2, e3]

/-- A block of projected rows turned, element by element. -/
def storedV (T : FVec Ideal S512x1024 .f32) (c s s' : FVec Ideal S128x1024 .f32) (y : S512x1024.Idx) : EReal :=
  mixed (fun l => T (ix2 l (y 1))) (fun l => c (ix2 l (y 1))) (fun l => s (ix2 l (y 1))) (fun l => s' (ix2 l (y 1))) (y 0)

theorem piece0 (x : FVec Ideal S1024x2048 .bf16) (w : FVec Ideal S2048x512 .bf16) (c s s' : FVec Ideal S128x1024 .f32) (j : S128x1024.Idx) :
    k0_pay8 (F := Ideal) x w c s s' j = storedV (k0_pay4 (F := Ideal) x w) c s s' (ix2 ⟨0 + (j 0).val, by have h : (j 0).val < 128 := (j 0).isLt; omega⟩ (j 1)) := by
  idx_vars j
  unfold storedV mixed
  pointwise [k0_pay8, k0_pay5, k0_pay6, k0_pay7]
  blk_point []

theorem piece128 (x : FVec Ideal S1024x2048 .bf16) (w : FVec Ideal S2048x512 .bf16) (c s s' : FVec Ideal S128x1024 .f32) (j : S128x1024.Idx) :
    k0_pay9 (F := Ideal) x w c s s' j = storedV (k0_pay4 (F := Ideal) x w) c s s' (ix2 ⟨128 + (j 0).val, by have h : (j 0).val < 128 := (j 0).isLt; omega⟩ (j 1)) := by
  idx_vars j
  unfold storedV mixed
  pointwise [k0_pay9, k0_pay5, k0_pay6, k0_pay7]
  blk_point []

theorem piece256 (T : FVec Ideal S512x1024 .f32) (c s s' : FVec Ideal S128x1024 .f32) (j : S128x1024.Idx) :
    k0_pay1 (F := Ideal) T (k0_pay5 c) (k0_pay6 s) (k0_pay7 s') j = storedV T c s s' (ix2 ⟨256 + (j 0).val, by have h : (j 0).val < 128 := (j 0).isLt; omega⟩ (j 1)) := by
  idx_vars j
  unfold storedV mixed
  pointwise [k0_pay1, k0_pay5, k0_pay6, k0_pay7]
  blk_point []

theorem piece384 (T : FVec Ideal S512x1024 .f32) (c s s' : FVec Ideal S128x1024 .f32) (j : S128x1024.Idx) :
    k0_pay2 (F := Ideal) T (k0_pay5 c) (k0_pay6 s) (k0_pay7 s') j = storedV T c s s' (ix2 ⟨384 + (j 0).val, by have h : (j 0).val < 128 := (j 0).isLt; omega⟩ (j 1)) := by
  idx_vars j
  unfold storedV mixed
  pointwise [k0_pay2, k0_pay5, k0_pay6, k0_pay7]
  blk_point []

theorem pay3_at (x : FVec Ideal S1024x2048 .bf16) (r : Fin 1024) (j : Fin 2048) : k0_pay3 (F := Ideal) x (ix2 r j) = x (ix2 r j) := by
  pointwise [k0_pay3]

theorem pay4_at (x : FVec Ideal S1024x2048 .bf16) (w : FVec Ideal S2048x512 .bf16) (r : Fin 1024) (l : Fin 512) :
    k0_pay4 (F := Ideal) x w (ix2 l r) = ∑ j : Fin 2048, x (ix2 r j) * w (ix2 j l) := by
  pointwise [k0_pay4]

end Cert.QueriesIdeal.Blk

end
-- ==== Proof.QueriesTables.lean ====
module

public import proofs.«01_k».proof.Defs
public import proofs.«01_k».proof.Proof.Gen.QueriesIdeal.Value
public import proofs.«01_k».proof.Proof.QueriesPure
public import Idealize.ShloMosaic.Lib.Claim
public import Idealize.ShloMosaic.Lib.Pipeline.ValueKit

/-! The three tables the query projection reads, as the host operations before the call leave them. -/

@[expose] public section

set_option maxRecDepth 16384

noncomputable section

namespace Cert.QueriesIdeal.Blk

open Idealize.ShloMosaic Idealize.ShloMosaic.TcCoe Idealize.SL.Sem
open Idealize.ShloMosaic.Pipeline (Dat)
open Cert.QueriesIdeal Cert.QueriesIdeal.Gen
open Cert.KeysIdeal.Blk (angV zeros8 zeros48 ones48)

variable (m : (ℓ : Loc nD τ sig) → Buf (Elt Ideal) ℓ)

theorem after_append (l k : List (HloOp τ sig (Elt Ideal))) (G : Valuation τ sig (Elt Ideal)) :
    StableHlo.after (l ++ k) G = StableHlo.after k (StableHlo.after l G) := by
  induction l generalizing G with
  | nil => rfl
  | cons _ _ ih => exact ih _

/-- The arrays after the host operations up to the tables' parts. -/
def parts (c : Dev nD) : Valuation τ sig (Elt Ideal) := StableHlo.after (List.take 31 hostOps0) (fun b => m (c, b))

theorem V_parts (c : Dev nD) (b : Ref sig .tc) : V m c b = StableHlo.after (List.drop 31 hostOps0) (parts m c) b := by
  unfold parts V
  rw [← after_append, List.take_append_drop]

theorem parts_cos (c : Dev nD) : (show FVec Ideal S8192x8 .f32 from parts m c main_v19) = Host.cos angV := by
  unfold parts
  simp only [hostOps0, List.take_succ_cons, List.take_zero]
  entry_read
  rfl

theorem parts_sin (c : Dev nD) : (show FVec Ideal S8192x8 .f32 from parts m c main_v20) = Host.sin angV := by
  unfold parts
  simp only [hostOps0, List.take_succ_cons, List.take_zero]
  entry_read
  rfl

theorem parts_ones (c : Dev nD) : (show FVec Ideal S8192x48 .f32 from parts m c main_v21) = ones48 := by
  unfold parts
  simp only [hostOps0, List.take_succ_cons, List.take_zero]
  entry_read
  rfl

theorem parts_zeros (c : Dev nD) : (show FVec Ideal S8192x48 .f32 from parts m c main_v22) = zeros48 := by
  unfold parts
  simp only [hostOps0, List.take_succ_cons, List.take_zero]
  entry_read
  rfl

theorem parts_zeros8 (c : Dev nD) : (show FVec Ideal S8192x8 .f32 from parts m c main_v23) = zeros8 := by
  unfold parts
  simp only [hostOps0, List.take_succ_cons, List.take_zero]
  entry_read
  rfl

theorem tab_cos (G : Valuation τ sig (Elt Ideal)) : (show FVec Ideal S128x8192 .f32 from StableHlo.after (List.drop 31 hostOps0) G main_v34) = tabV (G main_v19) (G main_v19) (G main_v21) := by
  simp only [hostOps0, List.drop_succ_cons, List.drop_zero]
  entry_read
  rfl

/-- A buffer at the call, read past the first `31 + n` host operations. -/
theorem V_past (n : ℕ) (c : Dev nD) (b : Ref sig .tc) : V m c b = StableHlo.after (List.drop (31 + n) hostOps0) (StableHlo.after (List.take n (List.drop 31 hostOps0)) (parts m c)) b := by
  rw [V_parts, ← List.drop_drop, ← after_append, List.take_append_drop]

theorem kept5_neg (G : Valuation τ sig (Elt Ideal)) : (show FVec Ideal S8192x8 .f32 from StableHlo.after (List.take 5 (List.drop 31 hostOps0)) G main_v27) = Host.negf (G main_v20) := by
  simp only [hostOps0, List.drop_succ_cons, List.drop_zero, List.take_succ_cons, List.take_zero]
  entry_read
  rfl

theorem kept5_zeros (G : Valuation τ sig (Elt Ideal)) : StableHlo.after (List.take 5 (List.drop 31 hostOps0)) G main_v22 = G main_v22 := by
  simp only [hostOps0, List.drop_succ_cons, List.drop_zero, List.take_succ_cons, List.take_zero]
  entry_read
  rfl

theorem kept5_zeros8 (G : Valuation τ sig (Elt Ideal)) : StableHlo.after (List.take 5 (List.drop 31 hostOps0)) G main_v23 = G main_v23 := by
  simp only [hostOps0, List.drop_succ_cons, List.drop_zero, List.take_succ_cons, List.take_zero]
  entry_read
  rfl

theorem kept9_sin (G : Valuation τ sig (Elt Ideal)) : StableHlo.after (List.take 9 (List.drop 31 hostOps0)) G main_v20 = G main_v20 := by
  simp only [hostOps0, List.drop_succ_cons, List.drop_zero, List.take_succ_cons, List.take_zero]
  entry_read
  rfl

theorem kept9_zeros (G : Valuation τ sig (Elt Ideal)) : StableHlo.after (List.take 9 (List.drop 31 hostOps0)) G main_v22 = G main_v22 := by
  simp only [hostOps0, List.drop_succ_cons, List.drop_zero, List.take_succ_cons, List.take_zero]
  entry_read
  rfl

theorem kept9_zeros8 (G : Valuation τ sig (Elt Ideal)) : StableHlo.after (List.take 9 (List.drop 31 hostOps0)) G main_v23 = G main_v23 := by
  simp only [hostOps0, List.drop_succ_cons, List.drop_zero, List.take_succ_cons, List.take_zero]
  entry_read
  rfl

theorem tab_sin (G : Valuation τ sig (Elt Ideal)) : (show FVec Ideal S128x8192 .f32 from StableHlo.after (List.drop 36 hostOps0) G main_v35) = tabV (G main_v27) (G main_v23) (G main_v22) := by
  simp only [hostOps0, List.drop_succ_cons, List.drop_zero]
  entry_read
  rfl

theorem tab_sin' (G : Valuation τ sig (Elt Ideal)) : (show FVec Ideal S128x8192 .f32 from StableHlo.after (List.drop 40 hostOps0) G main_v36) = tabV (G main_v23) (G main_v20) (G main_v22) := by
  simp only [hostOps0, List.drop_succ_cons, List.drop_zero]
  entry_read
  rfl

theorem table_cos (c : Dev nD) : (show FVec Ideal S128x8192 .f32 from V m c main_v34) = tabV (Host.cos angV) (Host.cos angV) ones48 := by
  refine (V_parts m c main_v34).trans ((tab_cos (parts m c)).trans ?_)
  exact congr (congrArg (fun a : FVec Ideal S8192x8 .f32 => tabV a a) (parts_cos m c)) (parts_ones m c)

theorem table_sin (c : Dev nD) : (show FVec Ideal S128x8192 .f32 from V m c main_v35) = tabV (Host.negf (Host.sin angV)) zeros8 zeros48 := by
  refine (V_past m 5 c main_v35).trans ((tab_sin _).trans ?_)
  exact congr (congr (congrArg tabV ((kept5_neg (parts m c)).trans (congrArg (fun a : FVec Ideal S8192x8 .f32 => Host.negf a) (parts_sin m c)))) ((kept5_zeros8 (parts m c)).trans (parts_zeros8 m c))) ((kept5_zeros (parts m c)).trans (parts_zeros m c))

theorem table_sin' (c : Dev nD) : (show FVec Ideal S128x8192 .f32 from V m c main_v36) = tabV zeros8 (Host.sin angV) zeros48 := by
  refine (V_past m 9 c main_v36).trans ((tab_sin' _).trans ?_)
  exact congr (congr (congrArg tabV ((kept9_zeros8 (parts m c)).trans (parts_zeros8 m c))) ((kept9_sin (parts m c)).trans (parts_sin m c))) ((kept9_zeros (parts m c)).trans (parts_zeros m c))

end Cert.QueriesIdeal.Blk

end
-- ==== Proof.QueriesClaims.lean ====
module

public import proofs.«01_k».proof.Defs
public import proofs.«01_k».proof.Proof.Gen.Queries
public import proofs.«01_k».proof.Proof.Gen.QueriesIdeal.Value
public import proofs.«01_k».proof.Proof.Gen.QueriesReferenceIdeal.Run
public import proofs.«01_k».proof.Proof.QueriesTables
public import Idealize.ShloMosaic.Lib.Claim
public import Idealize.ShloMosaic.Lib.Pipeline.ValueKit

/-! The five claims about the query projection. A block of rows is copied once into a buffer that the next point reads
again; every point multiplies its own rows by its own columns of the weights, lays the product on its side and turns each
head's first sixteen rows. -/

@[expose] public section

set_option maxRecDepth 16384

noncomputable section

namespace Cert.QueriesIdeal.Blk

open Idealize.ShloMosaic Idealize.ShloMosaic.TcCoe Idealize.SL.Sem
open Idealize.ShloMosaic.Pipeline (Dat)
open Cert.QueriesIdeal Cert.QueriesIdeal.Gen
open Cert.KeysIdeal.Blk (angV zeros8 zeros48 ones48 turned)

variable (m : (ℓ : Loc nD τ sig) → Buf (Elt Ideal) ℓ)

theorem idx : ∀ t : Fin cfg0.N, win0_0.index t = ![t.val / 2, 0] ∧ win0_1.index t = ![0, t.val % 2] ∧ win0_2.index t = ![0, t.val / 2] ∧ win0_3.index t = ![0, t.val / 2]
    ∧ win0_4.index t = ![0, t.val / 2] ∧ win0_5.index t = ![t.val % 2, t.val / 2] ∧ t.val / 2 < 8 :=
  (by decide +kernel : ∀ t : Fin grid0.N, _)

abbrev argX (c : Dev nD) : FVec Ideal S8192x2048 .bf16 := m ((c.tc : Thread nD τ).loc main_arg0)
abbrev argW (c : Dev nD) : FVec Ideal S1x2048x6144 .f32 := m ((c.tc : Thread nD τ).loc main_arg1)

theorem rows_at (c : Dev nD) (R : Fin 8192) (j : Fin 2048) : (show FVec Ideal S8192x2048 .bf16 from V m c main_arg0) (ix2 R j) = argX m c (ix2 R j) :=
  congrFun (V_main_arg0 m c) (ix2 R j)

theorem weight_whole (c : Dev nD) : (show FVec Ideal S2048x1024 .bf16 from V m c main_v2) = truncf .bf16 (extractStridedSlice S2048x1024 ![0, 3072] (shapeCast S2048x6144 (argW m c) shapeCasts_S1x2048x6144_S2048x6144) slices_S2048x6144_S2048x1024_0_3072) bitsLt_bf16_f32 := by
  entry_read; rfl

theorem weight_at (c : Dev nD) (j : Fin 2048) (k : Fin 1024) : (show FVec Ideal S2048x1024 .bf16 from V m c main_v2) (ix2 j k) = argW m c (ix3 0 j ⟨3072 + k.val, by omega⟩) := by
  rw [weight_whole]; pointwise

theorem blk0 (c : Dev nD) (t : Fin cfg0.N) (r : Fin 1024) (j : Fin 2048) (R : Fin 8192) (hR : R.val = t.val / 2 * 1024 + r.val) :
    (show FVec Ideal S1024x2048 .bf16 from iblk m c 0 t) (ix2 r j) = argX m c (ix2 R j) := by
  refine Eq.trans ?_ (rows_at m c R j)
  blk_ext [iblk, idx t]

theorem blk1 (c : Dev nD) (t : Fin cfg0.N) (j : Fin 2048) (l : Fin 512) (k : Fin 1024) (hk : k.val = t.val % 2 * 512 + l.val) :
    (show FVec Ideal S2048x512 .bf16 from iblk m c 1 t) (ix2 j l) = argW m c (ix3 0 j ⟨3072 + k.val, by omega⟩) := by
  refine Eq.trans ?_ (weight_at m c j k)
  blk_ext [iblk, idx t]

theorem blk2 (c : Dev nD) (t : Fin cfg0.N) (l : Fin 128) (r : Fin 1024) (R : Fin 8192) (hR : R.val = t.val / 2 * 1024 + r.val) :
    (show FVec Ideal S128x1024 .f32 from iblk m c 2 t) (ix2 l r) = tabV (Host.cos angV) (Host.cos angV) ones48 (ix2 l R) := by
  refine Eq.trans ?_ (congrFun (table_cos m c) (ix2 l R))
  blk_ext [iblk, idx t]

theorem blk3 (c : Dev nD) (t : Fin cfg0.N) (l : Fin 128) (r : Fin 1024) (R : Fin 8192) (hR : R.val = t.val / 2 * 1024 + r.val) :
    (show FVec Ideal S128x1024 .f32 from iblk m c 3 t) (ix2 l r) = tabV (Host.negf (Host.sin angV)) zeros8 zeros48 (ix2 l R) := by
  refine Eq.trans ?_ (congrFun (table_sin m c) (ix2 l R))
  blk_ext [iblk, idx t]

theorem blk4 (c : Dev nD) (t : Fin cfg0.N) (l : Fin 128) (r : Fin 1024) (R : Fin 8192) (hR : R.val = t.val / 2 * 1024 + r.val) :
    (show FVec Ideal S128x1024 .f32 from iblk m c 4 t) (ix2 l r) = tabV zeros8 (Host.sin angV) zeros48 (ix2 l R) := by
  refine Eq.trans ?_ (congrFun (table_sin' m c) (ix2 l R))
  blk_ext [iblk, idx t]

/-- The kept rows after point `n`: those of its row block. -/
theorem kept_at (c : Dev nD) (r : Fin 1024) (j : Fin 2048) : ∀ (n : ℕ) (hn : n < cfg0.N) (R : Fin 8192), R.val = n / 2 * 1024 + r.val →
    (outsAt0 m c n hn).2 (ix2 r j) = argX m c (ix2 R j) := by
  intro n
  induction n with
  | zero =>
    intro hn R hR
    rw [outsAt0_A m c ⟨0, hn⟩ rfl]
    frame_out
    exact (pay3_at _ r j).trans (blk0 m c ⟨0, hn⟩ r j R hR)
  | succ n ih =>
    intro hn R hR
    by_cases h : (n + 1) % 2 = 0
    · rw [outsAt0_A m c ⟨n + 1, hn⟩ h]
      frame_out
      exact (pay3_at _ r j).trans (blk0 m c ⟨n + 1, hn⟩ r j R hR)
    · rw [outsAt0_B m c ⟨n + 1, hn⟩ h]
      exact ih (Nat.lt_of_succ_lt hn) R (by omega)

/-- The four stores of a point fill its block. -/
theorem stores_at (X : FVec Ideal S1024x2048 .bf16) (w : FVec Ideal S2048x512 .bf16) (a s s' : FVec Ideal S128x1024 .f32) (y : S512x1024.Idx) :
    View.canon (Val := Elt Ideal) (s := S512x1024) (e := .bf16)
      [⟨Rect.unit ![384, 0] ![128, 1024] inb_S512x1024_S128x1024_384_0, k0_pay2 (F := Ideal) (k0_pay4 X w) (k0_pay5 a) (k0_pay6 s) (k0_pay7 s')⟩,
        ⟨Rect.unit ![256, 0] ![128, 1024] inb_S512x1024_S128x1024_256_0, k0_pay1 (F := Ideal) (k0_pay4 X w) (k0_pay5 a) (k0_pay6 s) (k0_pay7 s')⟩,
        ⟨Rect.unit ![128, 0] ![128, 1024] inb_S512x1024_S128x1024_128_0, k0_pay9 (F := Ideal) X w a s s'⟩,
        ⟨Rect.unit ![0, 0] ![128, 1024] inb_S512x1024_S128x1024_0_0, k0_pay8 (F := Ideal) X w a s s'⟩] y
      = storedV (k0_pay4 (F := Ideal) X w) a s s' y := by
  canon_tiles x h
  · exact (piece384 _ _ _ _ x).trans (congrArg _ (by blk_ext))
  · exact (piece256 _ _ _ _ x).trans (congrArg _ (by blk_ext))
  · exact (piece128 _ _ _ _ _ x).trans (congrArg _ (by blk_ext))
  · exact (piece0 _ _ _ _ _ x).trans (congrArg _ (by blk_ext))

/-- A point stores its block from rows that are those of its row block. -/
theorem stored_at (c : Dev nD) (t : Fin cfg0.N) : ∃ X : FVec Ideal S1024x2048 .bf16,
    (∀ (r : Fin 1024) (j : Fin 2048) (R : Fin 8192), R.val = t.val / 2 * 1024 + r.val → X (ix2 r j) = argX m c (ix2 R j)) ∧
    ∀ y : S512x1024.Idx, (outsAt0 m c t.val t.isLt).1 y =
      storedV (k0_pay4 (F := Ideal) X (iblk m c 1 t)) (iblk m c 2 t) (iblk m c 3 t) (iblk m c 4 t) y := by
  by_cases h : t.val % 2 = 0
  · refine ⟨k0_pay3 (F := Ideal) (iblk m c 0 t), fun r j R hR => (pay3_at _ r j).trans (blk0 m c t r j R hR), fun y => ?_⟩
    rw [outsAt0_A m c t h]
    frame_out
    exact stores_at _ _ _ _ _ y
  · have hn : t.val - 1 < cfg0.N := Nat.lt_of_le_of_lt (Nat.sub_le _ _) t.isLt
    have hX := Memref.IsWhole.read_unread (Val := Elt Ideal) (Memref.isWhole_whole cc0_scratch0) (outsAt0 m c (t.val - 1) hn).2
    refine ⟨_, fun r j R hR => (congrFun hX (ix2 r j)).trans (kept_at m c r j (t.val - 1) hn R (by omega)), fun y => ?_⟩
    rw [outsAt0_B m c t h]
    frame_out
    exact stores_at _ _ _ _ _ y

/-- Row `R`'s projection onto query column `k`. -/
def projected (X : FVec Ideal S8192x2048 .bf16) (W : FVec Ideal S1x2048x6144 .f32) (R : Fin 8192) (k : Fin 1024) : EReal :=
  ∑ j : Fin 2048, X (ix2 R j) * W (ix3 0 j ⟨3072 + k.val, by omega⟩)

/-- The result array of the call. -/
def whole (c : Dev nD) : FVec Ideal S1024x8192 .bf16 := fun i => turned (projected (argX m c) (argW m c) (i 1)) (i 1) (i 0) * scale

theorem point_at (c : Dev nD) (t : Fin cfg0.N) (l : Fin 512) (r : Fin 1024) (k : Fin 1024) (hk : k.val = t.val % 2 * 512 + l.val) (R : Fin 8192) (hR : R.val = t.val / 2 * 1024 + r.val) :
    (outsAt0 m c t.val t.isLt).1 (ix2 l r) = whole m c (ix2 k R) := by
  obtain ⟨X, hX, hy⟩ := stored_at m c t
  refine (hy (ix2 l r)).trans (Eq.trans ?_ (mixed_eq (projected (argX m c) (argW m c) R) ⟨t.val % 2, by omega⟩ R l k hk))
  have e0 : (fun l => k0_pay4 (F := Ideal) X (iblk m c 1 t) (ix2 l r)) = fun l : Fin 512 => projected (argX m c) (argW m c) R ⟨t.val % 2 * 512 + l.val, by omega⟩ :=
    funext fun l => (pay4_at _ _ r l).trans (Finset.sum_congr rfl fun j _ => congrArg₂ (· * ·) (hX r j R hR) (blk1 m c t j l ⟨t.val % 2 * 512 + l.val, by omega⟩ rfl))
  have e2 := funext fun l => blk2 m c t l r R hR
  have e3 := funext fun l => blk3 m c t l r R hR
  have e4 := funext fun l => blk4 m c t l r R hR
  exact congrFun (congr (congr (congr (congrArg mixed e0) e2) e3) e4) l

theorem final (c : Dev nD) : (dats m 0 c).arrAt 5 (cfgs 0).N = whole m c := by
  refine (dats m 0 c).arrAt_eq_of_covers 5 _ (by decide +kernel) fun t hf y => ?_
  blk_simp
  rw [after0_5]
  have i8 := (idx t).2.2.2.2.2.2
  have hy0 : (y 0).val < 512 := (y 0).isLt
  have hy1 : (y 1).val < 1024 := (y 1).isLt
  refine Eq.trans ?_ ((point_at m c t (y 0) (y 1) ⟨t.val % 2 * 512 + (y 0).val, by omega⟩ rfl ⟨t.val / 2 * 1024 + (y 1).val, by omega⟩ rfl).trans ?_)
  · exact congrArg _ (eq_ix2 y)
  · refine congrArg (whole m c) ?_
    blk_ext [idx t]

end Cert.QueriesIdeal.Blk

namespace Cert.QueriesReferenceIdeal.Value

open Idealize.ShloMosaic Idealize.ShloMosaic.TcCoe Idealize.SL.Sem
open Cert.QueriesReferenceIdeal Cert.QueriesReferenceIdeal.Gen

/-- The reference's projection onto the query columns. -/
def rowsV (X : FVec Ideal S8192x2048 .bf16) (W : FVec Ideal S1x2048x6144 .f32) : FVec Ideal S8192x1024 .f32 :=
  extractStridedSlice S8192x1024 ![0, 3072] (Host.dotGeneral dot_S8192x2048_S2048x6144_S8192x6144_1_0_0_1_n_n none (extf .f32 X bitsLt_bf16_f32) (shapeCast _ W shapeCasts_S1x2048x6144_S2048x6144)) slices_S8192x6144_S8192x1024_0_3072

/-- A head's first sixteen lanes. -/
def headV (p : FVec Ideal S8192x1024 .f32) : FVec Ideal S8192x8x2x16 .f32 :=
  extractStridedSlice S8192x8x2x16 ![0, 0, 0, 0] (shapeCast _ p shapeCasts_S8192x1024_S8192x8x2x64) slices_S8192x8x2x64_S8192x8x2x16_0_0_0_0

/-- A table of eight lanes, twice, over the heads. -/
def overV (a : FVec Ideal S8192x8 .f32) : FVec Ideal S8192x8x2x16 .f32 :=
  broadcastInDim S8192x8x2x16 ![0, 1, 2, 3] bcast_S8192x1x1x16_S8192x8x2x16_0_1_2_3 (broadcastInDim S8192x1x1x16 ![0, 3] bcast_S8192x16_S8192x1x1x16_0_3 (concatenate S8192x16 1 [⟨S8192x8, a⟩, ⟨S8192x8, a⟩] concatenates_S8192x8_S8192x8_S8192x16_d1))

/-- The reference's turned queries, of the projection `p` and the angles' cosines and sines: scaled, laid by rows and turned
on their side. -/
def turnV (p : FVec Ideal S8192x1024 .f32) (a b : FVec Ideal S8192x8 .f32) : FVec Ideal S1024x8192 .bf16 :=
  truncf .bf16 (transpose S1024x8192 [1, 0] (shapeCast _ (mulf (mulf (concatenate S8192x8x2x64 3 [⟨S8192x8x2x16, addf (mulf (headV p) (overV a))
      (mulf (concatenate S8192x8x2x16 3 [⟨S8192x8x2x8, Host.negf (extractStridedSlice S8192x8x2x8 ![0, 0, 0, 8] (headV p) slices_S8192x8x2x16_S8192x8x2x8_0_0_0_8)⟩, ⟨S8192x8x2x8, extractStridedSlice S8192x8x2x8 ![0, 0, 0, 0] (headV p) slices_S8192x8x2x16_S8192x8x2x8_0_0_0_0⟩] concatenates_S8192x8x2x8_S8192x8x2x8_S8192x8x2x16_d3) (overV b))⟩,
    ⟨S8192x8x2x48, extractStridedSlice S8192x8x2x48 ![0, 0, 0, 16] (shapeCast _ p shapeCasts_S8192x1024_S8192x8x2x64) slices_S8192x8x2x64_S8192x8x2x48_0_0_0_16⟩] concatenates_S8192x8x2x16_S8192x8x2x48_S8192x8x2x64_d3)
    (broadcastInDim S8192x8x2x64 ![] bcast_S_S8192x8x2x64 (constant S_ .f32 0x3E000000#32))) (broadcastInDim S8192x8x2x64 ![] bcast_S_S8192x8x2x64 (constant S_ .f32 0x3FB8AA3B#32)))
    shapeCasts_S8192x8x2x64_S8192x1024) transposes_S8192x1024_S1024x8192_1_0) bitsLt_bf16_f32

theorem res_eq (m : (ℓ : Loc nD τ sig) → Buf (Elt Ideal) ℓ) (c : Dev nD) : res_out0 m c =
    turnV (rowsV (m ((c.tc : Thread nD τ).loc main_arg0)) (m ((c.tc : Thread nD τ).loc main_arg1))) (Host.cos Cert.KeysIdeal.Blk.angV) (Host.sin Cert.KeysIdeal.Blk.angV) := rfl

theorem rows_at (X : FVec Ideal S8192x2048 .bf16) (W : FVec Ideal S1x2048x6144 .f32) (R : Fin 8192) (k : Fin 1024) :
    rowsV X W (ix2 R k) = Cert.QueriesIdeal.Blk.projected X W R k := by
  pointwise [rowsV, Cert.QueriesIdeal.Blk.projected]

theorem turn_at (p : FVec Ideal S8192x1024 .f32) (a b : FVec Ideal S8192x8 .f32) (R : Fin 8192) (k : Fin 1024) :
    turnV p a b (ix2 k R) = (if h : k.val % 64 < 8 then p (ix2 R k) * a (ix2 R ⟨k.val % 64, h⟩) + -p (ix2 R ⟨k.val + 8, by omega⟩) * b (ix2 R ⟨k.val % 64, h⟩)
      else if h' : k.val % 64 < 16 then p (ix2 R k) * a (ix2 R ⟨k.val % 64 - 8, by omega⟩) + p (ix2 R ⟨k.val - 8, by omega⟩) * b (ix2 R ⟨k.val % 64 - 8, by omega⟩)
      else p (ix2 R k)) * Ideal.ofBits .f32 0x3E000000#32 * Ideal.ofBits .f32 0x3FB8AA3B#32 := by
  pointwise [turnV, headV, overV]
  by_cases h : k.val % 64 < 8
  · have h16 : k.val % 64 < 16 := by omega
    simp only [dif_pos h, dif_pos h16]
    blk_point []
  · by_cases h16 : k.val % 64 < 16
    · simp only [dif_neg h, dif_pos h16]
      blk_point []
    · simp only [dif_neg h, dif_neg h16]
      blk_point []

theorem queries_at (X : FVec Ideal S8192x2048 .bf16) (W : FVec Ideal S1x2048x6144 .f32) (R : Fin 8192) (k : Fin 1024) :
    turnV (rowsV X W) (Host.cos Cert.KeysIdeal.Blk.angV) (Host.sin Cert.KeysIdeal.Blk.angV) (ix2 k R)
      = Cert.KeysIdeal.Blk.turned (Cert.QueriesIdeal.Blk.projected X W R) R k * Cert.QueriesIdeal.Blk.scale := by
  refine (turn_at _ _ _ R k).trans ?_
  rw [mul_assoc, Cert.QueriesIdeal.Blk.scale_eq]
  simp only [rows_at]
  rfl

end Cert.QueriesReferenceIdeal.Value

namespace Cert.Proof

open Idealize.ShloMosaic Idealize.ShloMosaic.TcCoe Idealize.SL.Sem

theorem queries_frame_ideal : Cert.quiescent_QueriesIdeal := fun m ρ _ => Cert.QueriesIdeal.Gen.frame (F := Ideal) m ρ

/-- The two printed programs call one kernel body. -/
theorem queries_bodies : Cert.Queries.defs₀ (F := Bits) = Cert.QueriesIdeal.defs₀ (F := Bits) := by
  unfold Cert.Queries.defs₀ Cert.QueriesIdeal.defs₀
  refine congrArg _ ?_
  funext l a
  match l, a with
  | 0, (t, s) => rfl
  | ⟨_ + 1, h⟩, _ => exact absurd h (Nat.not_lt.2 (Nat.le_add_left _ _))

theorem queries_tables : Cert.Queries.defs (F := Bits) = Cert.QueriesIdeal.defs (F := Bits) :=
  congrArg (Pipeline.defs Cert.QueriesIdeal.pcfgs) queries_bodies

set_option maxHeartbeats 1600000 in
theorem queries_frame : Cert.quiescent_Queries := fun m ρ _ => by
  have h := Cert.QueriesIdeal.Gen.frame (F := Bits) m ρ
  rw [← queries_tables] at h
  exact h

theorem queries_frame_ref : Cert.quiescent_QueriesReferenceIdeal := fun m g _ =>
  (θ_run Cert.QueriesReferenceIdeal.defs _ _).mono
    (fun r h => ⟨fun c => (h c).2, Idealize.ShloMosaic.sem_eq_zero_of_no_sems (by decide) r.2⟩)
    (Cert.QueriesReferenceIdeal.Value.run m g)

theorem queries_value : Cert.algebraic_QueriesIdeal_QueriesReferenceIdeal := by
  pair_intro
  · run_from Cert.QueriesIdeal.Value.run_blocks m g
  · run_from Cert.QueriesReferenceIdeal.Value.run m' g'
    rw [Cert.QueriesIdeal.Blk.final m c]
    funext i
    have e := Cert.QueriesReferenceIdeal.Value.res_eq m' c
    rw [(hagree c).1, (hagree c).2] at e
    refine (congrFun e i).trans ?_
    exact (congrArg _ (eq_ix2 i)).trans (Cert.QueriesReferenceIdeal.Value.queries_at _ _ (i 1) (i 0))

end Cert.Proof

end
-- ==== Proof.lean ====
module

public import proofs.«01_k».proof.Defs
public import proofs.«01_k».proof.Proof.AttFrames
public import proofs.«01_k».proof.Proof.AttClaims
public import proofs.«01_k».proof.Proof.FfnClaims
public import proofs.«01_k».proof.Proof.ProjClaims
public import proofs.«01_k».proof.Proof.ValuesClaims
public import proofs.«01_k».proof.Proof.OutClaims
public import proofs.«01_k».proof.Proof.KeysClaims
public import proofs.«01_k».proof.Proof.QueriesClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts,
  Cert.Proj.Gen.facts, Cert.ProjIdeal.Gen.facts, Cert.ProjReferenceIdeal.Gen.facts, Cert.Values.Gen.facts, Cert.ValuesIdeal.Gen.facts, Cert.ValuesReferenceIdeal.Gen.facts, Cert.Out.Gen.facts, Cert.OutIdeal.Gen.facts, Cert.OutReferenceIdeal.Gen.facts,
  Cert.Keys.Gen.facts, Cert.KeysIdeal.Gen.facts, Cert.KeysReferenceIdeal.Gen.facts,
  Cert.Queries.Gen.facts, Cert.QueriesIdeal.Gen.facts, Cert.QueriesReferenceIdeal.Gen.facts,
  Cert.Pre_finite.facts,
  att_frame, att_frame_ideal, att_frame_ideal_pre, att_frame_ref, att_frame_ref_pre, ffn_frame, ffn_frame_ideal, ffn_frame_ref,
  proj_frame, proj_frame_ideal, proj_frame_ref, values_frame, values_frame_ideal, values_frame_ref, out_frame, out_frame_ideal, out_frame_ref,
  keys_frame, keys_frame_ideal, keys_frame_ref, queries_frame, queries_frame_ideal, queries_frame_ref,
  trivial, att_value, trivial, ffn_value, trivial, proj_value, trivial, values_value, trivial, out_value, trivial, keys_value,
  trivial, queries_value⟩

end Cert.Proof

end
